-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41_0) = v0 c
          ∧ r.2.mem ((c.tc : Thread Cert.ReferenceIdeal.nD Cert.ReferenceIdeal.τ).loc Cert.ReferenceIdeal.main_v41_1) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x512x8960 : Shape := ⟨3, ![12, 512, 8960]⟩
abbrev S8960x1536 : Shape := ⟨2, ![8960, 1536]⟩
abbrev S1536 : Shape := ⟨1, ![1536]⟩
abbrev S6144x140x64 : Shape := ⟨3, ![6144, 140, 64]⟩
abbrev S64x140x6144 : Shape := ⟨3, ![64, 140, 6144]⟩
abbrev S_ : Shape := ⟨0, ![]⟩
abbrev S64x144x6144 : Shape := ⟨3, ![64, 144, 6144]⟩
abbrev S1x1536 : Shape := ⟨2, ![1, 1536]⟩
abbrev S6144x1536 : Shape := ⟨2, ![6144, 1536]⟩
abbrev S6144x8960 : Shape := ⟨2, ![6144, 8960]⟩
abbrev S6144x70 : Shape := ⟨2, ![6144, 70]⟩
abbrev S64x144x256 : Shape := ⟨3, ![64, 144, 256]⟩
abbrev S256x1536 : Shape := ⟨2, ![256, 1536]⟩
abbrev S256x8960 : Shape := ⟨2, ![256, 8960]⟩
abbrev S256x70 : Shape := ⟨2, ![256, 70]⟩
abbrev S2x544x128 : Shape := ⟨3, ![2, 544, 128]⟩
abbrev S256x512 : Shape := ⟨2, ![256, 512]⟩
abbrev S2x144x128 : Shape := ⟨3, ![2, 144, 128]⟩
abbrev S8x128 : Shape := ⟨2, ![8, 128]⟩
abbrev S1x8x128 : Shape := ⟨3, ![1, 8, 128]⟩
abbrev S32x128 : Shape := ⟨2, ![32, 128]⟩
abbrev S1x64x128 : Shape := ⟨3, ![1, 64, 128]⟩
abbrev S64x128 : Shape := ⟨2, ![64, 128]⟩
abbrev S128x128 : Shape := ⟨2, ![128, 128]⟩
abbrev S512x1536 : Shape := ⟨2, ![512, 1536]⟩
abbrev S256x256 : Shape := ⟨2, ![256, 256]⟩
abbrev S1x72x128 : Shape := ⟨3, ![1, 72, 128]⟩
abbrev S72x128 : Shape := ⟨2, ![72, 128]⟩
abbrev S56x128 : Shape := ⟨2, ![56, 128]⟩
abbrev S128x70 : Shape := ⟨2, ![128, 70]⟩

abbrev nBuf : Space → Nat
  | .hbm => 12
  | .vmem => 15
  | .smem => 0
  | _ => 0

abbrev bufTy : (tb : Table) → Fin (tcTables nBuf tb) → BufTy
  | .hbm, ⟨0, _⟩ => ⟨S12x512x8960, .f32⟩
  | .hbm, ⟨1, _⟩ => ⟨S8960x1536, .fp8e4m3⟩
  | .hbm, ⟨2, _⟩ => ⟨S1536, .f32⟩
  | .hbm, ⟨3, _⟩ => ⟨S6144x140x64, .f32⟩
  | .hbm, ⟨4, _⟩ => ⟨S64x140x6144, .f32⟩
  | .hbm, ⟨5, _⟩ => ⟨S_, .i32⟩
  | .hbm, ⟨6, _⟩ => ⟨S_, .f32⟩
  | .hbm, ⟨7, _⟩ => ⟨S64x144x6144, .f32⟩
  | .hbm, ⟨8, _⟩ => ⟨S1x1536, .f32⟩
  | .hbm, ⟨9, _⟩ => ⟨S6144x1536, .bf16⟩
  | .hbm, ⟨10, _⟩ => ⟨S6144x8960, .fp8e4m3⟩
  | .hbm, ⟨11, _⟩ => ⟨S6144x70, .f32⟩
  | .local _ .vmem, ⟨0, _⟩ => ⟨S64x144x256, .f32⟩
  | .local _ .vmem, ⟨1, _⟩ => ⟨S64x144x256, .f32⟩
  | .local _ .vmem, ⟨2, _⟩ => ⟨S8960x1536, .fp8e4m3⟩
  | .local _ .vmem, ⟨3, _⟩ => ⟨S1x1536, .f32⟩
  | .local _ .vmem, ⟨4, _⟩ => ⟨S256x1536, .bf16⟩
  | .local _ .vmem, ⟨5, _⟩ => ⟨S256x1536, .bf16⟩
  | .local _ .vmem, ⟨6, _⟩ => ⟨S256x8960, .fp8e4m3⟩
  | .local _ .vmem, ⟨7, _⟩ => ⟨S256x8960, .fp8e4m3⟩
  | .local _ .vmem, ⟨8, _⟩ => ⟨S256x70, .f32⟩
  | .local _ .vmem, ⟨9, _⟩ => ⟨S256x70, .f32⟩
  | .local _ .vmem, ⟨10, _⟩ => ⟨S2x544x128, .f32⟩
  | .local _ .vmem, ⟨11, _⟩ => ⟨S2x544x128, .f32⟩
  | .local _ .vmem, ⟨12, _⟩ => ⟨S256x512, .bf16⟩
  | .local _ .vmem, ⟨13, _⟩ => ⟨S2x144x128, .f32⟩
  | .local _ .vmem, ⟨14, _⟩ => ⟨S256x1536, .f32⟩
  | _, _ => ⟨S12x512x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c17_i32 : BitVec 32 := 17#32
  let v4 : BitVec 32 := Scalar.addi c0_i32 c17_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  v3101
def k0_off1 (k0_t1 : Fin k0_t1_loop.trips) : Fin 3 → Nat :=
  let c0_1444 : Index := 0#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3109 : Index := Scalar.indexCast v3102
  let c0_1445 : Index := 0#32
  ![0, v3109.toNat, 0]
def k0_off2 (k0_t1 : Fin k0_t1_loop.trips) : Fin 3 → Nat :=
  let c4_1446 : Index := 4#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3114 : Index := Scalar.indexCast v3102
  let c0_1447 : Index := 0#32
  ![4, v3114.toNat, 0]
def k0_off3 (k0_t1 : Fin k0_t1_loop.trips) : Fin 3 → Nat :=
  let c8_1448 : Index := 8#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3119 : Index := Scalar.indexCast v3102
  let c0_1449 : Index := 0#32
  ![8, v3119.toNat, 0]
def k0_off4 (k0_t1 : Fin k0_t1_loop.trips) : Fin 3 → Nat :=
  let c12_1450 : Index := 12#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3124 : Index := Scalar.indexCast v3102
  let c0_1451 : Index := 0#32
  ![12, v3124.toNat, 0]
def k0_off5 (k0_t1 : Fin k0_t1_loop.trips) : Fin 3 → Nat :=
  let c16_1452 : Index := 16#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3129 : Index := Scalar.indexCast v3102
  let c0_1453 : Index := 0#32
  ![16, v3129.toNat, 0]
def k0_off6 (k0_t1 : Fin k0_t1_loop.trips) : Fin 3 → Nat :=
  let c20_1454 : Index := 20#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3134 : Index := Scalar.indexCast v3102
  let c0_1455 : Index := 0#32
  ![20, v3134.toNat, 0]
def k0_off7 (k0_t1 : Fin k0_t1_loop.trips) : Fin 3 → Nat :=
  let c24_1456 : Index := 24#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3139 : Index := Scalar.indexCast v3102
  let c0_1457 : Index := 0#32
  ![24, v3139.toNat, 0]
def k0_off8 (k0_t1 : Fin k0_t1_loop.trips) : Fin 3 → Nat :=
  let c28_1458 : Index := 28#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3144 : Index := Scalar.indexCast v3102
  let c0_1459 : Index := 0#32
  ![28, v3144.toNat, 0]
def k0_off9 (k0_t1 : Fin k0_t1_loop.trips) : Fin 3 → Nat :=
  let c32_1460 : Index := 32#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3149 : Index := Scalar.indexCast v3102
  let c0_1461 : Index := 0#32
  ![32, v3149.toNat, 0]
def k0_off10 (k0_t1 : Fin k0_t1_loop.trips) : Fin 3 → Nat :=
  let c36_1462 : Index := 36#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3154 : Index := Scalar.indexCast v3102
  let c0_1463 : Index := 0#32
  ![36, v3154.toNat, 0]
def k0_off11 (k0_t1 : Fin k0_t1_loop.trips) : Fin 3 → Nat :=
  let c40_1464 : Index := 40#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3159 : Index := Scalar.indexCast v3102
  let c0_1465 : Index := 0#32
  ![40, v3159.toNat, 0]
def k0_off12 (k0_t1 : Fin k0_t1_loop.trips) : Fin 3 → Nat :=
  let c44_1466 : Index := 44#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3164 : Index := Scalar.indexCast v3102
  let c0_1467 : Index := 0#32
  ![44, v3164.toNat, 0]
def k0_off13 (k0_t1 : Fin k0_t1_loop.trips) : Fin 3 → Nat :=
  let c48_1468 : Index := 48#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3169 : Index := Scalar.indexCast v3102
  let c0_1469 : Index := 0#32
  ![48, v3169.toNat, 0]
def k0_off14 (k0_t1 : Fin k0_t1_loop.trips) : Fin 3 → Nat :=
  let c52_1470 : Index := 52#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3174 : Index := Scalar.indexCast v3102
  let c0_1471 : Index := 0#32
  ![52, v3174.toNat, 0]
def k0_off15 (k0_t1 : Fin k0_t1_loop.trips) : Fin 3 → Nat :=
  let c56_1472 : Index := 56#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3179 : Index := Scalar.indexCast v3102
  let c0_1473 : Index := 0#32
  ![56, v3179.toNat, 0]
def k0_off16 (k0_t1 : Fin k0_t1_loop.trips) : Fin 3 → Nat :=
  let c60_1474 : Index := 60#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3184 : Index := Scalar.indexCast v3102
  let c0_1475 : Index := 0#32
  ![60, v3184.toNat, 0]
def k0_off17 (k0_t1 : Fin k0_t1_loop.trips) : Fin 3 → Nat :=
  let c1_1476 : Index := 1#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3189 : Index := Scalar.indexCast v3102
  let c0_1477 : Index := 0#32
  ![1, v3189.toNat, 0]
def k0_off18 (k0_t1 : Fin k0_t1_loop.trips) : Fin 3 → Nat :=
  let c5_1478 : Index := 5#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3194 : Index := Scalar.indexCast v3102
  let c0_1479 : Index := 0#32
  ![5, v3194.toNat, 0]
def k0_off19 (k0_t1 : Fin k0_t1_loop.trips) : Fin 3 → Nat :=
  let c9_1480 : Index := 9#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3199 : Index := Scalar.indexCast v3102
  let c0_1481 : Index := 0#32
  ![9, v3199.toNat, 0]
def k0_off20 (k0_t1 : Fin k0_t1_loop.trips) : Fin 3 → Nat :=
  let c13_1482 : Index := 13#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3204 : Index := Scalar.indexCast v3102
  let c0_1483 : Index := 0#32
  ![13, v3204.toNat, 0]
def k0_off21 (k0_t1 : Fin k0_t1_loop.trips) : Fin 3 → Nat :=
  let c17_1484 : Index := 17#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3209 : Index := Scalar.indexCast v3102
  let c0_1485 : Index := 0#32
  ![17, v3209.toNat, 0]
def k0_off22 (k0_t1 : Fin k0_t1_loop.trips) : Fin 3 → Nat :=
  let c21_1486 : Index := 21#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3214 : Index := Scalar.indexCast v3102
  let c0_1487 : Index := 0#32
  ![21, v3214.toNat, 0]
def k0_off23 (k0_t1 : Fin k0_t1_loop.trips) : Fin 3 → Nat :=
  let c25_1488 : Index := 25#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3219 : Index := Scalar.indexCast v3102
  let c0_1489 : Index := 0#32
  ![25, v3219.toNat, 0]
def k0_off24 (k0_t1 : Fin k0_t1_loop.trips) : Fin 3 → Nat :=
  let c29_1490 : Index := 29#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3224 : Index := Scalar.indexCast v3102
  let c0_1491 : Index := 0#32
  ![29, v3224.toNat, 0]
def k0_off25 (k0_t1 : Fin k0_t1_loop.trips) : Fin 3 → Nat :=
  let c33_1492 : Index := 33#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3229 : Index := Scalar.indexCast v3102
  let c0_1493 : Index := 0#32
  ![33, v3229.toNat, 0]
def k0_off26 (k0_t1 : Fin k0_t1_loop.trips) : Fin 3 → Nat :=
  let c37_1494 : Index := 37#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3234 : Index := Scalar.indexCast v3102
  let c0_1495 : Index := 0#32
  ![37, v3234.toNat, 0]
def k0_off27 (k0_t1 : Fin k0_t1_loop.trips) : Fin 3 → Nat :=
  let c41_1496 : Index := 41#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3239 : Index := Scalar.indexCast v3102
  let c0_1497 : Index := 0#32
  ![41, v3239.toNat, 0]
def k0_off28 (k0_t1 : Fin k0_t1_loop.trips) : Fin 3 → Nat :=
  let c45_1498 : Index := 45#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3244 : Index := Scalar.indexCast v3102
  let c0_1499 : Index := 0#32
  ![45, v3244.toNat, 0]
def k0_off29 (k0_t1 : Fin k0_t1_loop.trips) : Fin 3 → Nat :=
  let c49_1500 : Index := 49#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3249 : Index := Scalar.indexCast v3102
  let c0_1501 : Index := 0#32
  ![49, v3249.toNat, 0]
def k0_off30 (k0_t1 : Fin k0_t1_loop.trips) : Fin 3 → Nat :=
  let c53_1502 : Index := 53#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3254 : Index := Scalar.indexCast v3102
  let c0_1503 : Index := 0#32
  ![53, v3254.toNat, 0]
def k0_off31 (k0_t1 : Fin k0_t1_loop.trips) : Fin 3 → Nat :=
  let c57_1504 : Index := 57#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3259 : Index := Scalar.indexCast v3102
  let c0_1505 : Index := 0#32
  ![57, v3259.toNat, 0]
def k0_off32 (k0_t1 : Fin k0_t1_loop.trips) : Fin 3 → Nat :=
  let c61_1506 : Index := 61#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3264 : Index := Scalar.indexCast v3102
  let c0_1507 : Index := 0#32
  ![61, v3264.toNat, 0]
def k0_off33 (k0_t1 : Fin k0_t1_loop.trips) : Fin 3 → Nat :=
  let c2_1508 : Index := 2#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3269 : Index := Scalar.indexCast v3102
  let c0_1509 : Index := 0#32
  ![2, v3269.toNat, 0]
def k0_off34 (k0_t1 : Fin k0_t1_loop.trips) : Fin 3 → Nat :=
  let c6_1510 : Index := 6#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3274 : Index := Scalar.indexCast v3102
  let c0_1511 : Index := 0#32
  ![6, v3274.toNat, 0]
def k0_off35 (k0_t1 : Fin k0_t1_loop.trips) : Fin 3 → Nat :=
  let c10_1512 : Index := 10#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3279 : Index := Scalar.indexCast v3102
  let c0_1513 : Index := 0#32
  ![10, v3279.toNat, 0]
def k0_off36 (k0_t1 : Fin k0_t1_loop.trips) : Fin 3 → Nat :=
  let c14_1514 : Index := 14#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3284 : Index := Scalar.indexCast v3102
  let c0_1515 : Index := 0#32
  ![14, v3284.toNat, 0]
def k0_off37 (k0_t1 : Fin k0_t1_loop.trips) : Fin 3 → Nat :=
  let c18_1516 : Index := 18#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3289 : Index := Scalar.indexCast v3102
  let c0_1517 : Index := 0#32
  ![18, v3289.toNat, 0]
def k0_off38 (k0_t1 : Fin k0_t1_loop.trips) : Fin 3 → Nat :=
  let c22_1518 : Index := 22#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3294 : Index := Scalar.indexCast v3102
  let c0_1519 : Index := 0#32
  ![22, v3294.toNat, 0]
def k0_off39 (k0_t1 : Fin k0_t1_loop.trips) : Fin 3 → Nat :=
  let c26_1520 : Index := 26#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3299 : Index := Scalar.indexCast v3102
  let c0_1521 : Index := 0#32
  ![26, v3299.toNat, 0]
def k0_off40 (k0_t1 : Fin k0_t1_loop.trips) : Fin 3 → Nat :=
  let c30_1522 : Index := 30#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3304 : Index := Scalar.indexCast v3102
  let c0_1523 : Index := 0#32
  ![30, v3304.toNat, 0]
def k0_off41 (k0_t1 : Fin k0_t1_loop.trips) : Fin 3 → Nat :=
  let c34_1524 : Index := 34#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3309 : Index := Scalar.indexCast v3102
  let c0_1525 : Index := 0#32
  ![34, v3309.toNat, 0]
def k0_off42 (k0_t1 : Fin k0_t1_loop.trips) : Fin 3 → Nat :=
  let c38_1526 : Index := 38#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3314 : Index := Scalar.indexCast v3102
  let c0_1527 : Index := 0#32
  ![38, v3314.toNat, 0]
def k0_off43 (k0_t1 : Fin k0_t1_loop.trips) : Fin 3 → Nat :=
  let c42_1528 : Index := 42#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3319 : Index := Scalar.indexCast v3102
  let c0_1529 : Index := 0#32
  ![42, v3319.toNat, 0]
def k0_off44 (k0_t1 : Fin k0_t1_loop.trips) : Fin 3 → Nat :=
  let c46_1530 : Index := 46#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3324 : Index := Scalar.indexCast v3102
  let c0_1531 : Index := 0#32
  ![46, v3324.toNat, 0]
def k0_off45 (k0_t1 : Fin k0_t1_loop.trips) : Fin 3 → Nat :=
  let c50_1532 : Index := 50#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3329 : Index := Scalar.indexCast v3102
  let c0_1533 : Index := 0#32
  ![50, v3329.toNat, 0]
def k0_off46 (k0_t1 : Fin k0_t1_loop.trips) : Fin 3 → Nat :=
  let c54_1534 : Index := 54#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3334 : Index := Scalar.indexCast v3102
  let c0_1535 : Index := 0#32
  ![54, v3334.toNat, 0]
def k0_off47 (k0_t1 : Fin k0_t1_loop.trips) : Fin 3 → Nat :=
  let c58_1536 : Index := 58#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3339 : Index := Scalar.indexCast v3102
  let c0_1537 : Index := 0#32
  ![58, v3339.toNat, 0]
def k0_off48 (k0_t1 : Fin k0_t1_loop.trips) : Fin 3 → Nat :=
  let c62_1538 : Index := 62#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3344 : Index := Scalar.indexCast v3102
  let c0_1539 : Index := 0#32
  ![62, v3344.toNat, 0]
def k0_off49 (k0_t1 : Fin k0_t1_loop.trips) : Fin 3 → Nat :=
  let c3_1540 : Index := 3#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3349 : Index := Scalar.indexCast v3102
  let c0_1541 : Index := 0#32
  ![3, v3349.toNat, 0]
def k0_off50 (k0_t1 : Fin k0_t1_loop.trips) : Fin 3 → Nat :=
  let c7_1542 : Index := 7#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3354 : Index := Scalar.indexCast v3102
  let c0_1543 : Index := 0#32
  ![7, v3354.toNat, 0]
def k0_off51 (k0_t1 : Fin k0_t1_loop.trips) : Fin 3 → Nat :=
  let c11_1544 : Index := 11#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3359 : Index := Scalar.indexCast v3102
  let c0_1545 : Index := 0#32
  ![11, v3359.toNat, 0]
def k0_off52 (k0_t1 : Fin k0_t1_loop.trips) : Fin 3 → Nat :=
  let c15_1546 : Index := 15#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3364 : Index := Scalar.indexCast v3102
  let c0_1547 : Index := 0#32
  ![15, v3364.toNat, 0]
def k0_off53 (k0_t1 : Fin k0_t1_loop.trips) : Fin 3 → Nat :=
  let c19_1548 : Index := 19#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3369 : Index := Scalar.indexCast v3102
  let c0_1549 : Index := 0#32
  ![19, v3369.toNat, 0]
def k0_off54 (k0_t1 : Fin k0_t1_loop.trips) : Fin 3 → Nat :=
  let c23_1550 : Index := 23#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3374 : Index := Scalar.indexCast v3102
  let c0_1551 : Index := 0#32
  ![23, v3374.toNat, 0]
def k0_off55 (k0_t1 : Fin k0_t1_loop.trips) : Fin 3 → Nat :=
  let c27_1552 : Index := 27#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3379 : Index := Scalar.indexCast v3102
  let c0_1553 : Index := 0#32
  ![27, v3379.toNat, 0]
def k0_off56 (k0_t1 : Fin k0_t1_loop.trips) : Fin 3 → Nat :=
  let c31_1554 : Index := 31#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3384 : Index := Scalar.indexCast v3102
  let c0_1555 : Index := 0#32
  ![31, v3384.toNat, 0]
def k0_off57 (k0_t1 : Fin k0_t1_loop.trips) : Fin 3 → Nat :=
  let c35_1556 : Index := 35#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3389 : Index := Scalar.indexCast v3102
  let c0_1557 : Index := 0#32
  ![35, v3389.toNat, 0]
def k0_off58 (k0_t1 : Fin k0_t1_loop.trips) : Fin 3 → Nat :=
  let c39_1558 : Index := 39#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3394 : Index := Scalar.indexCast v3102
  let c0_1559 : Index := 0#32
  ![39, v3394.toNat, 0]
def k0_off59 (k0_t1 : Fin k0_t1_loop.trips) : Fin 3 → Nat :=
  let c43_1560 : Index := 43#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3399 : Index := Scalar.indexCast v3102
  let c0_1561 : Index := 0#32
  ![43, v3399.toNat, 0]
def k0_off60 (k0_t1 : Fin k0_t1_loop.trips) : Fin 3 → Nat :=
  let c47_1562 : Index := 47#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3404 : Index := Scalar.indexCast v3102
  let c0_1563 : Index := 0#32
  ![47, v3404.toNat, 0]
def k0_off61 (k0_t1 : Fin k0_t1_loop.trips) : Fin 3 → Nat :=
  let c51_1564 : Index := 51#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3409 : Index := Scalar.indexCast v3102
  let c0_1565 : Index := 0#32
  ![51, v3409.toNat, 0]
def k0_off62 (k0_t1 : Fin k0_t1_loop.trips) : Fin 3 → Nat :=
  let c55_1566 : Index := 55#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3414 : Index := Scalar.indexCast v3102
  let c0_1567 : Index := 0#32
  ![55, v3414.toNat, 0]
def k0_off63 (k0_t1 : Fin k0_t1_loop.trips) : Fin 3 → Nat :=
  let c59_1568 : Index := 59#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3419 : Index := Scalar.indexCast v3102
  let c0_1569 : Index := 0#32
  ![59, v3419.toNat, 0]
def k0_off64 (k0_t1 : Fin k0_t1_loop.trips) : Fin 3 → Nat :=
  let c63_1570 : Index := 63#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3424 : Index := Scalar.indexCast v3102
  let c0_1571 : Index := 0#32
  ![63, v3424.toNat, 0]
def k0_off65 (k0_t1 : Fin k0_t1_loop.trips) : Fin 3 → Nat :=
  let c0_1606 : Index := 0#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3521 : Index := Scalar.indexCast v3102
  let c0_1607 : Index := 0#32
  ![0, v3521.toNat, 0]
def k0_off66 (k0_t1 : Fin k0_t1_loop.trips) : Fin 3 → Nat :=
  let c0_1609 : Index := 0#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3526 : Index := Scalar.indexCast v3102
  let c128_1610 : Index := 128#32
  ![0, v3526.toNat, 128]
def k0_off67 (k0_t1 : Fin k0_t1_loop.trips) : Fin 3 → Nat :=
  let c4_1611 : Index := 4#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3531 : Index := Scalar.indexCast v3102
  let c128_1612 : Index := 128#32
  ![4, v3531.toNat, 128]
def k0_off68 (k0_t1 : Fin k0_t1_loop.trips) : Fin 3 → Nat :=
  let c8_1613 : Index := 8#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3536 : Index := Scalar.indexCast v3102
  let c128_1614 : Index := 128#32
  ![8, v3536.toNat, 128]
def k0_off69 (k0_t1 : Fin k0_t1_loop.trips) : Fin 3 → Nat :=
  let c12_1615 : Index := 12#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3541 : Index := Scalar.indexCast v3102
  let c128_1616 : Index := 128#32
  ![12, v3541.toNat, 128]
def k0_off70 (k0_t1 : Fin k0_t1_loop.trips) : Fin 3 → Nat :=
  let c16_1617 : Index := 16#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3546 : Index := Scalar.indexCast v3102
  let c128_1618 : Index := 128#32
  ![16, v3546.toNat, 128]
def k0_off71 (k0_t1 : Fin k0_t1_loop.trips) : Fin 3 → Nat :=
  let c20_1619 : Index := 20#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3551 : Index := Scalar.indexCast v3102
  let c128_1620 : Index := 128#32
  ![20, v3551.toNat, 128]
def k0_off72 (k0_t1 : Fin k0_t1_loop.trips) : Fin 3 → Nat :=
  let c24_1621 : Index := 24#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3556 : Index := Scalar.indexCast v3102
  let c128_1622 : Index := 128#32
  ![24, v3556.toNat, 128]
def k0_off73 (k0_t1 : Fin k0_t1_loop.trips) : Fin 3 → Nat :=
  let c28_1623 : Index := 28#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3561 : Index := Scalar.indexCast v3102
  let c128_1624 : Index := 128#32
  ![28, v3561.toNat, 128]
def k0_off74 (k0_t1 : Fin k0_t1_loop.trips) : Fin 3 → Nat :=
  let c32_1625 : Index := 32#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3566 : Index := Scalar.indexCast v3102
  let c128_1626 : Index := 128#32
  ![32, v3566.toNat, 128]
def k0_off75 (k0_t1 : Fin k0_t1_loop.trips) : Fin 3 → Nat :=
  let c36_1627 : Index := 36#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3571 : Index := Scalar.indexCast v3102
  let c128_1628 : Index := 128#32
  ![36, v3571.toNat, 128]
def k0_off76 (k0_t1 : Fin k0_t1_loop.trips) : Fin 3 → Nat :=
  let c40_1629 : Index := 40#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3576 : Index := Scalar.indexCast v3102
  let c128_1630 : Index := 128#32
  ![40, v3576.toNat, 128]
def k0_off77 (k0_t1 : Fin k0_t1_loop.trips) : Fin 3 → Nat :=
  let c44_1631 : Index := 44#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3581 : Index := Scalar.indexCast v3102
  let c128_1632 : Index := 128#32
  ![44, v3581.toNat, 128]
def k0_off78 (k0_t1 : Fin k0_t1_loop.trips) : Fin 3 → Nat :=
  let c48_1633 : Index := 48#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3586 : Index := Scalar.indexCast v3102
  let c128_1634 : Index := 128#32
  ![48, v3586.toNat, 128]
def k0_off79 (k0_t1 : Fin k0_t1_loop.trips) : Fin 3 → Nat :=
  let c52_1635 : Index := 52#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3591 : Index := Scalar.indexCast v3102
  let c128_1636 : Index := 128#32
  ![52, v3591.toNat, 128]
def k0_off80 (k0_t1 : Fin k0_t1_loop.trips) : Fin 3 → Nat :=
  let c56_1637 : Index := 56#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3596 : Index := Scalar.indexCast v3102
  let c128_1638 : Index := 128#32
  ![56, v3596.toNat, 128]
def k0_off81 (k0_t1 : Fin k0_t1_loop.trips) : Fin 3 → Nat :=
  let c60_1639 : Index := 60#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3601 : Index := Scalar.indexCast v3102
  let c128_1640 : Index := 128#32
  ![60, v3601.toNat, 128]
def k0_off82 (k0_t1 : Fin k0_t1_loop.trips) : Fin 3 → Nat :=
  let c1_1641 : Index := 1#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3606 : Index := Scalar.indexCast v3102
  let c128_1642 : Index := 128#32
  ![1, v3606.toNat, 128]
def k0_off83 (k0_t1 : Fin k0_t1_loop.trips) : Fin 3 → Nat :=
  let c5_1643 : Index := 5#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3611 : Index := Scalar.indexCast v3102
  let c128_1644 : Index := 128#32
  ![5, v3611.toNat, 128]
def k0_off84 (k0_t1 : Fin k0_t1_loop.trips) : Fin 3 → Nat :=
  let c9_1645 : Index := 9#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3616 : Index := Scalar.indexCast v3102
  let c128_1646 : Index := 128#32
  ![9, v3616.toNat, 128]
def k0_off85 (k0_t1 : Fin k0_t1_loop.trips) : Fin 3 → Nat :=
  let c13_1647 : Index := 13#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3621 : Index := Scalar.indexCast v3102
  let c128_1648 : Index := 128#32
  ![13, v3621.toNat, 128]
def k0_off86 (k0_t1 : Fin k0_t1_loop.trips) : Fin 3 → Nat :=
  let c17_1649 : Index := 17#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3626 : Index := Scalar.indexCast v3102
  let c128_1650 : Index := 128#32
  ![17, v3626.toNat, 128]
def k0_off87 (k0_t1 : Fin k0_t1_loop.trips) : Fin 3 → Nat :=
  let c21_1651 : Index := 21#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3631 : Index := Scalar.indexCast v3102
  let c128_1652 : Index := 128#32
  ![21, v3631.toNat, 128]
def k0_off88 (k0_t1 : Fin k0_t1_loop.trips) : Fin 3 → Nat :=
  let c25_1653 : Index := 25#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3636 : Index := Scalar.indexCast v3102
  let c128_1654 : Index := 128#32
  ![25, v3636.toNat, 128]
def k0_off89 (k0_t1 : Fin k0_t1_loop.trips) : Fin 3 → Nat :=
  let c29_1655 : Index := 29#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3641 : Index := Scalar.indexCast v3102
  let c128_1656 : Index := 128#32
  ![29, v3641.toNat, 128]
def k0_off90 (k0_t1 : Fin k0_t1_loop.trips) : Fin 3 → Nat :=
  let c33_1657 : Index := 33#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3646 : Index := Scalar.indexCast v3102
  let c128_1658 : Index := 128#32
  ![33, v3646.toNat, 128]
def k0_off91 (k0_t1 : Fin k0_t1_loop.trips) : Fin 3 → Nat :=
  let c37_1659 : Index := 37#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3651 : Index := Scalar.indexCast v3102
  let c128_1660 : Index := 128#32
  ![37, v3651.toNat, 128]
def k0_off92 (k0_t1 : Fin k0_t1_loop.trips) : Fin 3 → Nat :=
  let c41_1661 : Index := 41#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3656 : Index := Scalar.indexCast v3102
  let c128_1662 : Index := 128#32
  ![41, v3656.toNat, 128]
def k0_off93 (k0_t1 : Fin k0_t1_loop.trips) : Fin 3 → Nat :=
  let c45_1663 : Index := 45#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3661 : Index := Scalar.indexCast v3102
  let c128_1664 : Index := 128#32
  ![45, v3661.toNat, 128]
def k0_off94 (k0_t1 : Fin k0_t1_loop.trips) : Fin 3 → Nat :=
  let c49_1665 : Index := 49#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3666 : Index := Scalar.indexCast v3102
  let c128_1666 : Index := 128#32
  ![49, v3666.toNat, 128]
def k0_off95 (k0_t1 : Fin k0_t1_loop.trips) : Fin 3 → Nat :=
  let c53_1667 : Index := 53#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3671 : Index := Scalar.indexCast v3102
  let c128_1668 : Index := 128#32
  ![53, v3671.toNat, 128]
def k0_off96 (k0_t1 : Fin k0_t1_loop.trips) : Fin 3 → Nat :=
  let c57_1669 : Index := 57#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3676 : Index := Scalar.indexCast v3102
  let c128_1670 : Index := 128#32
  ![57, v3676.toNat, 128]
def k0_off97 (k0_t1 : Fin k0_t1_loop.trips) : Fin 3 → Nat :=
  let c61_1671 : Index := 61#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3681 : Index := Scalar.indexCast v3102
  let c128_1672 : Index := 128#32
  ![61, v3681.toNat, 128]
def k0_off98 (k0_t1 : Fin k0_t1_loop.trips) : Fin 3 → Nat :=
  let c2_1673 : Index := 2#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3686 : Index := Scalar.indexCast v3102
  let c128_1674 : Index := 128#32
  ![2, v3686.toNat, 128]
def k0_off99 (k0_t1 : Fin k0_t1_loop.trips) : Fin 3 → Nat :=
  let c6_1675 : Index := 6#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3691 : Index := Scalar.indexCast v3102
  let c128_1676 : Index := 128#32
  ![6, v3691.toNat, 128]
def k0_off100 (k0_t1 : Fin k0_t1_loop.trips) : Fin 3 → Nat :=
  let c10_1677 : Index := 10#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3696 : Index := Scalar.indexCast v3102
  let c128_1678 : Index := 128#32
  ![10, v3696.toNat, 128]
def k0_off101 (k0_t1 : Fin k0_t1_loop.trips) : Fin 3 → Nat :=
  let c14_1679 : Index := 14#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3701 : Index := Scalar.indexCast v3102
  let c128_1680 : Index := 128#32
  ![14, v3701.toNat, 128]
def k0_off102 (k0_t1 : Fin k0_t1_loop.trips) : Fin 3 → Nat :=
  let c18_1681 : Index := 18#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3706 : Index := Scalar.indexCast v3102
  let c128_1682 : Index := 128#32
  ![18, v3706.toNat, 128]
def k0_off103 (k0_t1 : Fin k0_t1_loop.trips) : Fin 3 → Nat :=
  let c22_1683 : Index := 22#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3711 : Index := Scalar.indexCast v3102
  let c128_1684 : Index := 128#32
  ![22, v3711.toNat, 128]
def k0_off104 (k0_t1 : Fin k0_t1_loop.trips) : Fin 3 → Nat :=
  let c26_1685 : Index := 26#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3716 : Index := Scalar.indexCast v3102
  let c128_1686 : Index := 128#32
  ![26, v3716.toNat, 128]
def k0_off105 (k0_t1 : Fin k0_t1_loop.trips) : Fin 3 → Nat :=
  let c30_1687 : Index := 30#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3721 : Index := Scalar.indexCast v3102
  let c128_1688 : Index := 128#32
  ![30, v3721.toNat, 128]
def k0_off106 (k0_t1 : Fin k0_t1_loop.trips) : Fin 3 → Nat :=
  let c34_1689 : Index := 34#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3726 : Index := Scalar.indexCast v3102
  let c128_1690 : Index := 128#32
  ![34, v3726.toNat, 128]
def k0_off107 (k0_t1 : Fin k0_t1_loop.trips) : Fin 3 → Nat :=
  let c38_1691 : Index := 38#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3731 : Index := Scalar.indexCast v3102
  let c128_1692 : Index := 128#32
  ![38, v3731.toNat, 128]
def k0_off108 (k0_t1 : Fin k0_t1_loop.trips) : Fin 3 → Nat :=
  let c42_1693 : Index := 42#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3736 : Index := Scalar.indexCast v3102
  let c128_1694 : Index := 128#32
  ![42, v3736.toNat, 128]
def k0_off109 (k0_t1 : Fin k0_t1_loop.trips) : Fin 3 → Nat :=
  let c46_1695 : Index := 46#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3741 : Index := Scalar.indexCast v3102
  let c128_1696 : Index := 128#32
  ![46, v3741.toNat, 128]
def k0_off110 (k0_t1 : Fin k0_t1_loop.trips) : Fin 3 → Nat :=
  let c50_1697 : Index := 50#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3746 : Index := Scalar.indexCast v3102
  let c128_1698 : Index := 128#32
  ![50, v3746.toNat, 128]
def k0_off111 (k0_t1 : Fin k0_t1_loop.trips) : Fin 3 → Nat :=
  let c54_1699 : Index := 54#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3751 : Index := Scalar.indexCast v3102
  let c128_1700 : Index := 128#32
  ![54, v3751.toNat, 128]
def k0_off112 (k0_t1 : Fin k0_t1_loop.trips) : Fin 3 → Nat :=
  let c58_1701 : Index := 58#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3756 : Index := Scalar.indexCast v3102
  let c128_1702 : Index := 128#32
  ![58, v3756.toNat, 128]
def k0_off113 (k0_t1 : Fin k0_t1_loop.trips) : Fin 3 → Nat :=
  let c62_1703 : Index := 62#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3761 : Index := Scalar.indexCast v3102
  let c128_1704 : Index := 128#32
  ![62, v3761.toNat, 128]
def k0_off114 (k0_t1 : Fin k0_t1_loop.trips) : Fin 3 → Nat :=
  let c3_1705 : Index := 3#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3766 : Index := Scalar.indexCast v3102
  let c128_1706 : Index := 128#32
  ![3, v3766.toNat, 128]
def k0_off115 (k0_t1 : Fin k0_t1_loop.trips) : Fin 3 → Nat :=
  let c7_1707 : Index := 7#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3771 : Index := Scalar.indexCast v3102
  let c128_1708 : Index := 128#32
  ![7, v3771.toNat, 128]
def k0_off116 (k0_t1 : Fin k0_t1_loop.trips) : Fin 3 → Nat :=
  let c11_1709 : Index := 11#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3776 : Index := Scalar.indexCast v3102
  let c128_1710 : Index := 128#32
  ![11, v3776.toNat, 128]
def k0_off117 (k0_t1 : Fin k0_t1_loop.trips) : Fin 3 → Nat :=
  let c15_1711 : Index := 15#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3781 : Index := Scalar.indexCast v3102
  let c128_1712 : Index := 128#32
  ![15, v3781.toNat, 128]
def k0_off118 (k0_t1 : Fin k0_t1_loop.trips) : Fin 3 → Nat :=
  let c19_1713 : Index := 19#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3786 : Index := Scalar.indexCast v3102
  let c128_1714 : Index := 128#32
  ![19, v3786.toNat, 128]
def k0_off119 (k0_t1 : Fin k0_t1_loop.trips) : Fin 3 → Nat :=
  let c23_1715 : Index := 23#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3791 : Index := Scalar.indexCast v3102
  let c128_1716 : Index := 128#32
  ![23, v3791.toNat, 128]
def k0_off120 (k0_t1 : Fin k0_t1_loop.trips) : Fin 3 → Nat :=
  let c27_1717 : Index := 27#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3796 : Index := Scalar.indexCast v3102
  let c128_1718 : Index := 128#32
  ![27, v3796.toNat, 128]
def k0_off121 (k0_t1 : Fin k0_t1_loop.trips) : Fin 3 → Nat :=
  let c31_1719 : Index := 31#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3801 : Index := Scalar.indexCast v3102
  let c128_1720 : Index := 128#32
  ![31, v3801.toNat, 128]
def k0_off122 (k0_t1 : Fin k0_t1_loop.trips) : Fin 3 → Nat :=
  let c35_1721 : Index := 35#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3806 : Index := Scalar.indexCast v3102
  let c128_1722 : Index := 128#32
  ![35, v3806.toNat, 128]
def k0_off123 (k0_t1 : Fin k0_t1_loop.trips) : Fin 3 → Nat :=
  let c39_1723 : Index := 39#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3811 : Index := Scalar.indexCast v3102
  let c128_1724 : Index := 128#32
  ![39, v3811.toNat, 128]
def k0_off124 (k0_t1 : Fin k0_t1_loop.trips) : Fin 3 → Nat :=
  let c43_1725 : Index := 43#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3816 : Index := Scalar.indexCast v3102
  let c128_1726 : Index := 128#32
  ![43, v3816.toNat, 128]
def k0_off125 (k0_t1 : Fin k0_t1_loop.trips) : Fin 3 → Nat :=
  let c47_1727 : Index := 47#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3821 : Index := Scalar.indexCast v3102
  let c128_1728 : Index := 128#32
  ![47, v3821.toNat, 128]
def k0_off126 (k0_t1 : Fin k0_t1_loop.trips) : Fin 3 → Nat :=
  let c51_1729 : Index := 51#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3826 : Index := Scalar.indexCast v3102
  let c128_1730 : Index := 128#32
  ![51, v3826.toNat, 128]
def k0_off127 (k0_t1 : Fin k0_t1_loop.trips) : Fin 3 → Nat :=
  let c55_1731 : Index := 55#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3831 : Index := Scalar.indexCast v3102
  let c128_1732 : Index := 128#32
  ![55, v3831.toNat, 128]
def k0_off128 (k0_t1 : Fin k0_t1_loop.trips) : Fin 3 → Nat :=
  let c59_1733 : Index := 59#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3836 : Index := Scalar.indexCast v3102
  let c128_1734 : Index := 128#32
  ![59, v3836.toNat, 128]
def k0_off129 (k0_t1 : Fin k0_t1_loop.trips) : Fin 3 → Nat :=
  let c63_1735 : Index := 63#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3841 : Index := Scalar.indexCast v3102
  let c128_1736 : Index := 128#32
  ![63, v3841.toNat, 128]
def k0_off130 (k0_t1 : Fin k0_t1_loop.trips) : Fin 3 → Nat :=
  let c1_1771 : Index := 1#32
  let c0_i32 : BitVec 32 := 0#32
  let c1_i32 : BitVec 32 := 1#32
  let arg12 : BitVec 32 := Scf.iv c0_i32 c1_i32 k0_t1
  let c8_i32 : BitVec 32 := 8#32
  let v3101 : BitVec 32 := Scalar.muli arg12 c8_i32
  let v3102 : BitVec 32 := v3101
  let v3938 : Index := Scalar.indexCast v3102
  let c0_1772 : Index := 0#32
  ![1, v3938.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_1773 : BitVec 32 := 8#32
  let v3942 : BitVec 32 := Scalar.muli arg12 c8_i32_1773
  v3942
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v6090 : BitVec 32 := Scalar.muli arg12 c512_i32
  let c0_i32_2862 : BitVec 32 := 0#32
  let v6091 : BitVec 32 := Scalar.addi v6090 c0_i32_2862
  v6091
def k0_off131 (k0_t1 : Fin k0_t1_loop.trips) (c0_i32_2862 : BitVec 32) : Fin 2 → Nat :=
  let c0_2869 : Index := 0#32
  let c0_i32 : BitVec 32 := 0#32
  let c1_i32 : BitVec 32 := 1#32
  let arg12 : BitVec 32 := Scf.iv c0_i32 c1_i32 k0_t1
  let c512_i32 : BitVec 32 := 512#32
  let v6090 : BitVec 32 := Scalar.muli arg12 c512_i32
  let v6091 : BitVec 32 := Scalar.addi v6090 c0_i32_2862
  let v6092 : BitVec 32 := v6091
  let v6100 : Index := Scalar.indexCast v6092
  ![0, v6100.toNat]
def k0_off132 (k0_t1 : Fin k0_t1_loop.trips) (c0_i32_2862 : BitVec 32) : Fin 2 → Nat :=
  let c128_2884 : Index := 128#32
  let c0_i32 : BitVec 32 := 0#32
  let c1_i32 : BitVec 32 := 1#32
  let arg12 : BitVec 32 := Scf.iv c0_i32 c1_i32 k0_t1
  let c512_i32 : BitVec 32 := 512#32
  let v6090 : BitVec 32 := Scalar.muli arg12 c512_i32
  let v6091 : BitVec 32 := Scalar.addi v6090 c0_i32_2862
  let v6092 : BitVec 32 := v6091
  let v6119 : Index := Scalar.indexCast v6092
  ![128, v6119.toNat]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_2893 : BitVec 32 := 512#32
  let v6131 : BitVec 32 := Scalar.muli arg12 c512_i32_2893
  let c128_i32 : BitVec 32 := 128#32
  let v6132 : BitVec 32 := Scalar.addi v6131 c128_i32
  v6132
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_2924 : BitVec 32 := 512#32
  let v6172 : BitVec 32 := Scalar.muli arg12 c512_i32_2924
  let c256_i32 : BitVec 32 := 256#32
  let v6173 : BitVec 32 := Scalar.addi v6172 c256_i32
  v6173
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_2952 : BitVec 32 := 512#32
  let v6213 : BitVec 32 := Scalar.muli arg12 c512_i32_2952
  let c384_i32 : BitVec 32 := 384#32
  let v6214 : BitVec 32 := Scalar.addi v6213 c384_i32
  v6214
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_2980 : BitVec 32 := 512#32
  let v6254 : BitVec 32 := Scalar.muli arg12 c512_i32_2980
  v6254
def k0_off133 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32_2980 : BitVec 32 := 512#32
  let v6254 : BitVec 32 := Scalar.muli arg12 c512_i32_2980
  let v6255 : BitVec 32 := v6254
  let v6256 : Index := Scalar.indexCast v6255
  let c0_2981 : Index := 0#32
  ![v6256.toNat, 0]
def k0_mult8 : BitVec 32 :=
  let c136_i32 : BitVec 32 := 136#32
  c136_i32
def k0_mult9 : BitVec 32 :=
  let c136_i32_268 : BitVec 32 := 136#32
  c136_i32_268
def k0_mult10 : BitVec 32 :=
  let c8704_i32 : BitVec 32 := 8704#32
  c8704_i32
def k0_mult11 : BitVec 32 :=
  let c8832_i32 : BitVec 32 := 8832#32
  c8832_i32
def k0_mult12 : BitVec 32 :=
  let c8704_i32_1414 : BitVec 32 := 8704#32
  c8704_i32_1414
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x144x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8960x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8960 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x70 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S12x512x8960 : Shape := ⟨3, ![12, 512, 8960]⟩
abbrev S8960x1536 : Shape := ⟨2, ![8960, 1536]⟩
abbrev S1536 : Shape := ⟨1, ![1536]⟩
abbrev S6144x70x128 : Shape := ⟨3, ![6144, 70, 128]⟩
abbrev S_ : Shape := ⟨0, ![]⟩
abbrev S6144x70 : Shape := ⟨2, ![6144, 70]⟩
abbrev S254 : Shape := ⟨1, ![254]⟩
abbrev S6144x70x1 : Shape := ⟨3, ![6144, 70, 1]⟩
abbrev S1x1x254 : Shape := ⟨3, ![1, 1, 254]⟩
abbrev S6144x70x254 : Shape := ⟨3, ![6144, 70, 254]⟩
abbrev S6144x8960 : Shape := ⟨2, ![6144, 8960]⟩
abbrev S1x1536 : Shape := ⟨2, ![1, 1536]⟩
abbrev S6144x1536 : Shape := ⟨2, ![6144, 1536]⟩

abbrev nBuf : Space → Nat
  | .hbm => 60
  | .vmem => 7
  | .smem => 0
  | _ => 0

abbrev bufTy : (tb : Table) → Fin (tcTables nBuf tb) → BufTy
  | .hbm, ⟨0, _⟩ => ⟨S12x512x8960, .f32⟩
  | .hbm, ⟨1, _⟩ => ⟨S8960x1536, .fp8e4m3⟩
  | .hbm, ⟨2, _⟩ => ⟨S1536, .f32⟩
  | .hbm, ⟨3, _⟩ => ⟨S6144x70x128, .f32⟩
  | .hbm, ⟨4, _⟩ => ⟨S6144x70x128, .f32⟩
  | .hbm, ⟨5, _⟩ => ⟨S_, .f32⟩
  | .hbm, ⟨6, _⟩ => ⟨S6144x70, .f32⟩
  | .hbm, ⟨7, _⟩ => ⟨S_, .f32⟩
  | .hbm, ⟨8, _⟩ => ⟨S6144x70, .f32⟩
  | .hbm, ⟨9, _⟩ => ⟨S6144x70, .f32⟩
  | .hbm, ⟨10, _⟩ => ⟨S254, .f32⟩
  | .hbm, ⟨11, _⟩ => ⟨S_, .f32⟩
  | .hbm, ⟨12, _⟩ => ⟨S254, .f32⟩
  | .hbm, ⟨13, _⟩ => ⟨S254, .f32⟩
  | .hbm, ⟨14, _⟩ => ⟨S_, .f32⟩
  | .hbm, ⟨15, _⟩ => ⟨S254, .f32⟩
  | .hbm, ⟨16, _⟩ => ⟨S254, .f32⟩
  | .hbm, ⟨17, _⟩ => ⟨S6144x70x1, .f32⟩
  | .hbm, ⟨18, _⟩ => ⟨S1x1x254, .f32⟩
  | .hbm, ⟨19, _⟩ => ⟨S6144x70x254, .f32⟩
  | .hbm, ⟨20, _⟩ => ⟨S6144x70x254, .f32⟩
  | .hbm, ⟨21, _⟩ => ⟨S6144x70x254, .i1⟩
  | .hbm, ⟨22, _⟩ => ⟨S6144x70x254, .f32⟩
  | .hbm, ⟨23, _⟩ => ⟨S_, .f32⟩
  | .hbm, ⟨24, _⟩ => ⟨S6144x70, .f32⟩
  | .hbm, ⟨25, _⟩ => ⟨S_, .f32⟩
  | .hbm, ⟨26, _⟩ => ⟨S6144x70, .f32⟩
  | .hbm, ⟨27, _⟩ => ⟨S6144x70, .f32⟩
  | .hbm, ⟨28, _⟩ => ⟨S_, .f32⟩
  | .hbm, ⟨29, _⟩ => ⟨S6144x70, .f32⟩
  | .hbm, ⟨30, _⟩ => ⟨S6144x70, .i1⟩
  | .hbm, ⟨31, _⟩ => ⟨S_, .f32⟩
  | .hbm, ⟨32, _⟩ => ⟨S6144x70, .f32⟩
  | .hbm, ⟨33, _⟩ => ⟨S6144x70, .f32⟩
  | .hbm, ⟨34, _⟩ => ⟨S_, .f32⟩
  | .hbm, ⟨35, _⟩ => ⟨S6144x70, .f32⟩
  | .hbm, ⟨36, _⟩ => ⟨S6144x70, .i1⟩
  | .hbm, ⟨37, _⟩ => ⟨S6144x70, .i1⟩
  | .hbm, ⟨38, _⟩ => ⟨S_, .f32⟩
  | .hbm, ⟨39, _⟩ => ⟨S_, .f32⟩
  | .hbm, ⟨40, _⟩ => ⟨S6144x70, .f32⟩
  | .hbm, ⟨41, _⟩ => ⟨S6144x70, .f32⟩
  | .hbm, ⟨42, _⟩ => ⟨S_, .f32⟩
  | .hbm, ⟨43, _⟩ => ⟨S6144x70, .f32⟩
  | .hbm, ⟨44, _⟩ => ⟨S6144x70, .f32⟩
  | .hbm, ⟨45, _⟩ => ⟨S6144x70, .f32⟩
  | .hbm, ⟨46, _⟩ => ⟨S_, .f32⟩
  | .hbm, ⟨47, _⟩ => ⟨S6144x70, .f32⟩
  | .hbm, ⟨48, _⟩ => ⟨S6144x70, .f32⟩
  | .hbm, ⟨49, _⟩ => ⟨S6144x8960, .f32⟩
  | .hbm, ⟨50, _⟩ => ⟨S6144x70x1, .f32⟩
  | .hbm, ⟨51, _⟩ => ⟨S6144x70x128, .f32⟩
  | .hbm, ⟨52, _⟩ => ⟨S6144x8960, .f32⟩
  | .hbm, ⟨53, _⟩ => ⟨S6144x70, .bf16⟩
  | .hbm, ⟨54, _⟩ => ⟨S6144x70x1, .bf16⟩
  | .hbm, ⟨55, _⟩ => ⟨S6144x70x128, .bf16⟩
  | .hbm, ⟨56, _⟩ => ⟨S6144x8960, .bf16⟩
  | .hbm, ⟨57, _⟩ => ⟨S1x1536, .f32⟩
  | .hbm, ⟨58, _⟩ => ⟨S6144x1536, .bf16⟩
  | .hbm, ⟨59, _⟩ => ⟨S6144x8960, .fp8e4m3⟩
  | .local _ .vmem, ⟨0, _⟩ => ⟨S6144x8960, .f32⟩
  | .local _ .vmem, ⟨1, _⟩ => ⟨S6144x8960, .f32⟩
  | .local _ .vmem, ⟨2, _⟩ => ⟨S6144x8960, .bf16⟩
  | .local _ .vmem, ⟨3, _⟩ => ⟨S8960x1536, .fp8e4m3⟩
  | .local _ .vmem, ⟨4, _⟩ => ⟨S1x1536, .f32⟩
  | .local _ .vmem, ⟨5, _⟩ => ⟨S6144x1536, .bf16⟩
  | .local _ .vmem, ⟨6, _⟩ => ⟨S6144x8960, .fp8e4m3⟩
  | _, _ => ⟨S12x512x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x8960 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x8960 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x8960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x8960 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Compact.lean ====
/-
  The body of the kernel written with its repetitions as recursions over lists: the same loads, stores and vector
  operations in the same order (`body_eq`).  At any float operations.
-/
module

public import proofs.«01_k».proof.Proof.Gen.Kernel
public import Idealize.ShloMosaic.Lib.Tactic

@[expose] public section

set_option maxRecDepth 16384

noncomputable section

namespace Cert.Kernel.Compact

open Cert.Kernel Cert.Kernel.Gen
open Idealize.ShloMosaic Idealize.ShloMosaic.TcCoe Idealize.ShloMosaic.Tactic
open Idealize.SL Idealize.SL.Sem

variable {F : FTy → Type} [FloatOps F]

/-- Programs of the kernel's body. -/
abbrev TP (F : FTy → Type) (α : Type) := Prog (TpuEff nD τ sig (Elt F) Λ₀ .tc) α

/-- `f` for each element of a list in turn, a value threaded through. -/
def foldP {α β : Type} (f : α → β → TP F α) : α → List β → TP F α
  | a, [] => pure a
  | a, p :: ps => f a p >>= fun a => foldP f a ps

/-- `f` for each element of a list in turn. -/
def eachP {β : Type} (f : β → TP F PUnit) : List β → TP F PUnit
  | [] => pure ⟨⟩
  | p :: ps => f p >>= fun _ => eachP f ps

/-! ## The vector operations -/

/-- A vector of eight rows, one value everywhere. -/
abbrev all8 (b : BitVec 32) : FVec F S8x128 .f32 := broadcast S8x128 (Scalar.ofBits .f32 b)

/-- One step of the search: `low` times `s` where that is at most `v`. -/
def lowStep (v low : FVec F S8x128 .f32) (s : BitVec 32) : FVec F S8x128 .f32 :=
  select (cmpf .oge v (mulf low (all8 s))) (mulf low (all8 s)) low

/-- The same step on the reciprocal: times `t` where `low` moves. -/
def invStep (v low inv : FVec F S8x128 .f32) (s t : BitVec 32) : FVec F S8x128 .f32 :=
  select (cmpf .oge v (mulf low (all8 s))) (mulf inv (all8 t)) inv

def low0 : FVec F S8x128 .f32 := all8 0x00800000#32
def low1 (v : FVec F S8x128 .f32) := lowStep v low0 0x7E800000#32
def low2 (v : FVec F S8x128 .f32) := lowStep v (low1 v) 0x5F800000#32
def low3 (v : FVec F S8x128 .f32) := lowStep v (low2 v) 0x4F800000#32
def low4 (v : FVec F S8x128 .f32) := lowStep v (low3 v) 0x47800000#32
def low5 (v : FVec F S8x128 .f32) := lowStep v (low4 v) 0x43800000#32
def low6 (v : FVec F S8x128 .f32) := lowStep v (low5 v) 0x41800000#32
def low7 (v : FVec F S8x128 .f32) := lowStep v (low6 v) 0x40800000#32
def low8 (v : FVec F S8x128 .f32) := lowStep v (low7 v) 0x40000000#32

def inv0 : FVec F S8x128 .f32 := all8 0x7E000000#32
def inv1 (v : FVec F S8x128 .f32) := invStep v low0 inv0 0x7E800000#32 0x00800000#32
def inv2 (v : FVec F S8x128 .f32) := invStep v (low1 v) (inv1 v) 0x5F800000#32 0x1F800000#32
def inv3 (v : FVec F S8x128 .f32) := invStep v (low2 v) (inv2 v) 0x4F800000#32 0x2F800000#32
def inv4 (v : FVec F S8x128 .f32) := invStep v (low3 v) (inv3 v) 0x47800000#32 0x37800000#32
def inv5 (v : FVec F S8x128 .f32) := invStep v (low4 v) (inv4 v) 0x43800000#32 0x3B800000#32
def inv6 (v : FVec F S8x128 .f32) := invStep v (low5 v) (inv5 v) 0x41800000#32 0x3D800000#32
def inv7 (v : FVec F S8x128 .f32) := invStep v (low6 v) (inv6 v) 0x40800000#32 0x3E800000#32
def inv8 (v : FVec F S8x128 .f32) := invStep v (low7 v) (inv7 v) 0x40000000#32 0x3F000000#32

/-- Where the scale is not 1: the scaled maximum is a normal number. -/
def plain (v : FVec F S8x128 .f32) : IVec S8x128 1 :=
  andi (cmpf .oge v low0) (cmpf .olt (mulf v (all8 0x3F000000#32)) (all8 0x7F000000#32))

/-- The scale of a group, from its scaled maximum. -/
def scaleOf (v : FVec F S8x128 .f32) : FVec F S8x128 .f32 :=
  select (plain v) (mulf (low8 v) (all8 0x40000000#32)) (all8 0x3F800000#32)

/-- The reciprocal of the scale of a group, from its scaled maximum. -/
def invOf (v : FVec F S8x128 .f32) : FVec F S8x128 .f32 := select (plain v) (inv8 v) (all8 0x3F800000#32)

/-- Which of the eight rows are even. -/
def even : IVec S8x128 1 :=
  cmpi .eq (remsi (iota .tc S8x128 32 [0] iota_S8x128_d0_w32) (broadcast S8x128 2#32)) (broadcast S8x128 0#32)

/-- The scaled maximum of a group from the maxima of its rows: each row with its neighbour. -/
def pairMax (a : FVec F S8x128 .f32) : FVec F S8x128 .f32 :=
  mulf (maximumf a (select even (dynamicRotate 0 7#32 none a rotates_S8x128_d0) (dynamicRotate 0 1#32 none a rotates_S8x128_d0)))
    (all8 0x3B124925#32)

/-- The codes of four blocks of rows, as f32. -/
def codes4 (y0 y1 y2 y3 inv : FVec F S8x128 .f32) : FVec F S32x128 .f32 :=
  extf .f32 (truncf .fp8e4m3 (minimumf (broadcast S32x128 (Scalar.ofBits .f32 0x43E00000#32)) (maximumf (broadcast S32x128 (Scalar.ofBits .f32 0xC3E00000#32))
    (concatenate S32x128 0 [⟨S8x128, mulf y0 inv⟩, ⟨S8x128, mulf y1 inv⟩, ⟨S8x128, mulf y2 inv⟩, ⟨S8x128, mulf y3 inv⟩] concatenates_S8x128_S8x128_S8x128_S8x128_S32x128_d0)))
    bitsLt_fp8e4m3_f32) bitsLt_fp8e4m3_f32

theorem slices4 : ∀ s : Fin 4, S32x128.Slices ![8 * s.val, 0] S8x128 := by decide

/-- One block of rows of the codes. -/
def part4 (q : FVec F S32x128 .f32) (s : Fin 4) : FVec F S8x128 .f32 :=
  extractStridedSlice S8x128 ![8 * s.val, 0] q (slices4 s)

/-- Codes times scale. -/
def xqOf (q scale : FVec F S8x128 .f32) : FVec F S8x128 .f32 :=
  extf .f32 (mulf (truncf .bf16 q bitsLt_bf16_f32) (truncf .bf16 scale bitsLt_bf16_f32)) bitsLt_bf16_f32

/-- Two half columns side by side, transposed. -/
def turn (a b : FVec F S64x128 .f32) : FVec F S128x128 .f32 :=
  transpose S128x128 [1, 0] (concatenate S128x128 0 [⟨S64x128, a⟩, ⟨S64x128, b⟩] concatenates_S64x128_S64x128_S128x128_d0) transposes_S128x128_p1_0_S128x128

/-! ## The accesses -/

theorem zInb (p : Fin 64) (row : ℕ) (hrow : row + 8 ≤ 144) (h : Fin 2) :
    ∀ a, (![p.val, row, 128 * h.val] : Fin 3 → ℕ) a + S1x8x128.size a ≤ S64x144x256.size a := by
  intro a; have := p.2; have := h.2
  fin_cases a <;> simp [S1x8x128, S64x144x256] <;> omega

theorem stInb (row : ℕ) (hrow : row + 8 ≤ 144) (h : Fin 2) :
    ∀ a, (![h.val, row, 0] : Fin 3 → ℕ) a + S1x8x128.size a ≤ S2x144x128.size a := by
  intro a; have := h.2
  fin_cases a <;> simp [S1x8x128, S2x144x128] <;> omega

theorem ctInb (p : ℕ) (hp : p < 64) (h : Fin 2) :
    ∀ a, S1x8x128.size a = 0 ∨ (![h.val, p, 0] : Fin 3 → ℕ) a + (![1, 68, 1] : Fin 3 → ℕ) a * (S1x8x128.size a - 1) < S2x544x128.size a := by
  intro a; have := h.2; right
  fin_cases a <;> simp [S1x8x128, S2x544x128] <;> omega

theorem rdInb (r : ℕ) (hr : r + 64 ≤ 544) (h : Fin 2) :
    ∀ a, (![h.val, r, 0] : Fin 3 → ℕ) a + S1x64x128.size a ≤ S2x544x128.size a := by
  intro a; have := h.2
  fin_cases a <;> simp [S1x64x128, S2x544x128] <;> omega

theorem coInb (col : ℕ) (hc : col + 128 ≤ 8960) (h : Fin 2) :
    ∀ a, (![128 * h.val, col] : Fin 2 → ℕ) a + S128x128.size a ≤ S256x8960.size a := by
  intro a; have := h.2
  fin_cases a <;> simp [S128x128, S256x8960] <;> omega

theorem xqInb (g : Fin 4) (h : Fin 2) :
    ∀ a, (![128 * h.val, 128 * g.val] : Fin 2 → ℕ) a + S128x128.size a ≤ S256x512.size a := by
  intro a; have := h.2; have := g.2
  fin_cases a <;> simp [S128x128, S256x512] <;> omega

theorem coPacked (col : ℕ) (hc : col + 128 ≤ 8960) (h : Fin 2) :
    (Rect.unit (s := S256x8960) ![128 * h.val, col] S128x128.size (coInb col hc h)).PackedRows (EltTy.packing .fp8e4m3) :=
  .inr ⟨by decide, rfl, .inl ⟨⟨32 * h.val, by show 128 * h.val = 4 * (32 * h.val); omega⟩, ⟨32, rfl⟩⟩⟩

theorem xqPacked (g : Fin 4) (h : Fin 2) :
    (Rect.unit (s := S256x512) ![128 * h.val, 128 * g.val] S128x128.size (xqInb g h)).PackedRows (EltTy.packing .bf16) :=
  .inr ⟨by decide, rfl, .inl ⟨⟨64 * h.val, by show 128 * h.val = 2 * (64 * h.val); omega⟩, ⟨64, rfl⟩⟩⟩

/-- The rectangle of the eight rows of a strided access. -/
def ctRect (p : ℕ) (hp : p < 64) (h : Fin 2) : LoadRect S2x544x128 := ⟨![h.val, p, 0], S1x8x128.size, ![1, 68, 1], ctInb p hp h⟩

theorem ctPos : ∀ a, 0 < (![1, 68, 1] : Fin 3 → ℕ) a := spos_1_68_1

/-! ## The body -/

/-- The rows of the block in the order in which their maximum is taken. -/
def order : List (Fin 64) :=
  [0, 4, 8, 12, 16, 20, 24, 28, 32, 36, 40, 44, 48, 52, 56, 60,
   1, 5, 9, 13, 17, 21, 25, 29, 33, 37, 41, 45, 49, 53, 57, 61,
   2, 6, 10, 14, 18, 22, 26, 30, 34, 38, 42, 46, 50, 54, 58, 62,
   3, 7, 11, 15, 19, 23, 27, 31, 35, 39, 43, 47, 51, 55, 59, 63]

def sixteen : List (Fin 16) := [0, 1, 2, 3, 4, 5, 6, 7, 8, 9, 10, 11, 12, 13, 14, 15]

section
variable (arg1 : Memref sig .tc .vmem S64x144x256 .f32) (harg1 : arg1.IsWhole) (arg2 : Memref sig .tc .vmem S8960x1536 .fp8e4m3) (harg2 : arg2.IsWhole) (arg3 : Memref sig .tc .vmem S1x1536 .f32) (harg3 : arg3.IsWhole) (arg4 : Memref sig .tc .vmem S256x1536 .bf16) (harg4 : arg4.IsWhole) (arg5 : Memref sig .tc .vmem S256x8960 .fp8e4m3) (harg5 : arg5.IsWhole) (arg6 : Memref sig .tc .vmem S256x70 .f32) (harg6 : arg6.IsWhole) (arg7 : Memref sig .tc .vmem S2x544x128 .f32) (harg7 : arg7.IsWhole) (arg8 : Memref sig .tc .vmem S2x544x128 .f32) (harg8 : arg8.IsWhole) (arg9 : Memref sig .tc .vmem S256x512 .bf16) (harg9 : arg9.IsWhole) (arg10 : Memref sig .tc .vmem S2x144x128 .f32) (harg10 : arg10.IsWhole) (arg11 : Memref sig .tc .vmem S256x1536 .f32) (harg11 : arg11.IsWhole)

/-- Eight rows of the input block. -/
def zld (row : ℕ) (hrow : row + 8 ≤ 144) (h : Fin 2) (p : Fin 64) : TP F (FVec F S8x128 .f32) :=
  Prog.lift (.load arg1 (Rect.unit (s := S64x144x256) ![p.val, row, 128 * h.val] S1x8x128.size (zInb p row hrow h)).toLoadRect (View.loadsAt_vmem h_S1x8x128)) >>= fun v =>
  pure (shapeCast S8x128 v shapeCasts_S1x8x128_S8x128)

/-- The scaled group maxima of a block, their scales stored. -/
def finish (row : ℕ) (hrow : row + 8 ≤ 144) (h : Fin 2) : TP F (FVec F S8x128 .f32) :=
  foldP (fun a p => zld arg1 row hrow h p >>= fun y => pure (maximumf a (absf y))) (all8 0#32) order >>= fun a =>
  Prog.lift (.load arg10 (Rect.unit (s := S2x144x128) ![h.val, row, 0] S1x8x128.size (stInb row hrow h)).toLoadRect (View.loadsAt_vmem h_S1x8x128)) >>= fun _ =>
  Prog.lift (.store arg10 (Rect.unit (s := S2x144x128) ![h.val, row, 0] S1x8x128.size (stInb row hrow h)) (shapeCast S1x8x128 (scaleOf (pairMax a)) shapeCasts_S8x128_S1x8x128) Finset.univ (View.stores_vmem_bits_univ h_S1x8x128 rfl) (.inl rfl)) >>= fun _ =>
  pure (pairMax a)

/-- The codes of rows `4 i … 4 i + 3` of a block. -/
def quant4 (row : ℕ) (hrow : row + 8 ≤ 144) (inv : FVec F S8x128 .f32) (h : Fin 2) (i : Fin 16) : TP F (FVec F S32x128 .f32) :=
  zld arg1 row hrow h ⟨4 * i.val + 0, by omega⟩ >>= fun y0 =>
  zld arg1 row hrow h ⟨4 * i.val + 1, by omega⟩ >>= fun y1 =>
  zld arg1 row hrow h ⟨4 * i.val + 2, by omega⟩ >>= fun y2 =>
  zld arg1 row hrow h ⟨4 * i.val + 3, by omega⟩ >>= fun y3 =>
  pure (codes4 y0 y1 y2 y3 inv)

/-- A strided store of eight rows. -/
def putRows (arg : Memref sig .tc .vmem S2x544x128 .f32) (p : ℕ) (hp : p < 64) (h : Fin 2) (w : FVec F S8x128 .f32) : TP F PUnit :=
  Prog.lift (.load arg (ctRect p hp h) (View.loadsAt_vmem h_S1x8x128)) >>= fun _ =>
  Prog.lift (.store arg ⟨ctRect p hp h, ctPos⟩ (shapeCast S1x8x128 w shapeCasts_S8x128_S1x8x128) Finset.univ (View.stores_vmem_bits_univ h_S1x8x128 rfl) (.inl rfl))

/-- The stores of one row of codes and of codes times scale, for both halves. -/
def put (i : Fin 16) (q0 q1 : FVec F S32x128 .f32) (s0 s1 : FVec F S8x128 .f32) (s : Fin 4) : TP F PUnit :=
  putRows arg7 (4 * i.val + s.val) (by omega) 0 (part4 q0 s) >>= fun _ =>
  putRows arg8 (4 * i.val + s.val) (by omega) 0 (xqOf (part4 q0 s) s0) >>= fun _ =>
  putRows arg7 (4 * i.val + s.val) (by omega) 1 (part4 q1 s) >>= fun _ =>
  putRows arg8 (4 * i.val + s.val) (by omega) 1 (xqOf (part4 q1 s) s1)

/-- Rows `4 i … 4 i + 3` of a block, quantised and stored. -/
def quantise (row : ℕ) (hrow : row + 8 ≤ 144) (v0 v1 : FVec F S8x128 .f32) (i : Fin 16) : TP F PUnit :=
  quant4 arg1 row hrow (invOf v0) 0 i >>= fun q0 =>
  quant4 arg1 row hrow (invOf v1) 1 i >>= fun q1 =>
  eachP (put arg7 arg8 i q0 q1 (scaleOf v0) (scaleOf v1)) [0, 1, 2, 3]

/-- Sixty-four rows of a scratch buffer. -/
def get64 (arg : Memref sig .tc .vmem S2x544x128 .f32) (r : ℕ) (hr : r + 64 ≤ 544) (h : Fin 2) : TP F (FVec F S64x128 .f32) :=
  Prog.lift (.load arg (Rect.unit (s := S2x544x128) ![h.val, r, 0] S1x64x128.size (rdInb r hr h)).toLoadRect (View.loadsAt_vmem h_S1x64x128)) >>= fun v =>
  pure (shapeCast S64x128 v shapeCasts_S1x64x128_S64x128)

/-- One group of one half: its codes to the output block, its codes times scale to the scratch of the product. -/
def emitHalf (col : Fin 4 → ℕ) (hcol : ∀ g, col g + 128 ≤ 8960)
    (g : Fin 4) (h : Fin 2) : TP F PUnit :=
  get64 arg7 (68 * (2 * g.val)) (by omega) h >>= fun a =>
  get64 arg7 (68 * (2 * g.val + 1)) (by omega) h >>= fun b =>
  Prog.lift (.load arg5 (Rect.unit (s := S256x8960) ![128 * h.val, col g] S128x128.size (coInb (col g) (hcol g) h)).toLoadRect (View.loadsAt_vmem h_S128x128)) >>= fun _ =>
  Prog.lift (.store arg5 (Rect.unit (s := S256x8960) ![128 * h.val, col g] S128x128.size (coInb (col g) (hcol g) h)) (truncf .fp8e4m3 (turn a b) bitsLt_fp8e4m3_f32) Finset.univ (View.stores_vmem h_S128x128 (harg5.storeExact_slice rfl _ (coPacked (col g) (hcol g) h)) (fun _ => rfl)) (.inl rfl)) >>= fun _ =>
  get64 arg8 (68 * (2 * g.val)) (by omega) h >>= fun a =>
  get64 arg8 (68 * (2 * g.val + 1)) (by omega) h >>= fun b =>
  Prog.lift (.load arg9 (Rect.unit (s := S256x512) ![128 * h.val, 128 * g.val] S128x128.size (xqInb g h)).toLoadRect (View.loadsAt_vmem h_S128x128)) >>= fun _ =>
  Prog.lift (.store arg9 (Rect.unit (s := S256x512) ![128 * h.val, 128 * g.val] S128x128.size (xqInb g h)) (shapeCast S128x128 (truncf .bf16 (turn a b) bitsLt_bf16_f32) shapeCasts_S128x128_S128x128) Finset.univ (View.stores_vmem h_S128x128 (harg9.storeExact_slice rfl _ (xqPacked g h)) (fun _ => rfl)) (.inl rfl))

/-- One group of a block, both halves. -/
def emit (col : Fin 4 → ℕ) (hcol : ∀ g, col g + 128 ≤ 8960)
    (g : Fin 4) : TP F PUnit :=
  emitHalf arg5 harg5 arg7 arg8 arg9 harg9 col hcol g 0 >>= fun _ => emitHalf arg5 harg5 arg7 arg8 arg9 harg9 col hcol g 1

/-- A block up to its product: quantised, `gs` of its groups written out. -/
def block (row : ℕ) (hrow : row + 8 ≤ 144) (col : Fin 4 → ℕ) (hcol : ∀ g, col g + 128 ≤ 8960)
    (gs : List (Fin 4)) : TP F PUnit :=
  finish arg1 arg10 row hrow 0 >>= fun v0 =>
  finish arg1 arg10 row hrow 1 >>= fun v1 =>
  eachP (quantise arg1 arg7 arg8 row hrow v0 v1) sixteen >>= fun _ =>
  eachP (emit arg5 harg5 arg7 arg8 arg9 harg9 col hcol) gs

/-- The words of trip `k`: the first row and the columns of its groups. -/
def rowW (k : Fin k0_t1_loop.trips) : ℕ := (Scalar.indexCast (Scalar.muli (Scf.iv 0#32 1#32 k) 8#32)).toNat
def colW (k : Fin k0_t1_loop.trips) (g : Fin 4) : ℕ :=
  (Scalar.indexCast (Scalar.addi (Scalar.muli (Scf.iv 0#32 1#32 k) 512#32) (BitVec.ofNat 32 (128 * g.val)))).toNat

theorem rowW_le (k : Fin k0_t1_loop.trips) : rowW k + 8 ≤ 144 := k0_off1_inb k 1
theorem colW_le (k : Fin k0_t1_loop.trips) (g : Fin 4) : colW k g + 128 ≤ 8960 := k0_off131_inb k g 1

/-- One trip of the loop. -/
def trip (k : Fin k0_t1_loop.trips) : TP F PUnit :=
  block arg1 arg5 harg5 arg7 arg8 arg9 harg9 arg10 (rowW k) (rowW_le k) (colW k) (colW_le k) [0, 1, 2, 3] >>= fun _ =>
  Prog.lift (.load arg2 (Rect.unit (s := S8960x1536) (k0_off133 k) S512x1536.size (k0_off133_inb k)).toLoadRect (View.loadsAt_vmem h_S512x1536)) >>= fun (w : Vec F S512x1536 .fp8e4m3) =>
  Prog.lift (.load arg11 (Rect.unit (s := S256x1536) ![0, 0] S256x1536.size inb_S256x1536_S256x1536_0_0).toLoadRect (View.loadsAt_vmem h_S256x1536)) >>= fun (a : Vec F S256x1536 .f32) =>
  Prog.lift (.load arg9 (Rect.unit (s := S256x512) ![0, 0] S256x512.size inb_S256x512_S256x512_0_0).toLoadRect (View.loadsAt_vmem h_S256x512)) >>= fun (x : Vec F S256x512 .bf16) =>
  Prog.lift (.load arg11 (Rect.unit (s := S256x1536) ![0, 0] S256x1536.size inb_S256x1536_S256x1536_0_0).toLoadRect (View.loadsAt_vmem h_S256x1536)) >>= fun _ =>
  Prog.lift (.store arg11 (Rect.unit (s := S256x1536) ![0, 0] S256x1536.size inb_S256x1536_S256x1536_0_0)
    (shapeCast S256x1536 (addf a (matmul dot_S256x512_S512x1536_S256x1536_1_0_0_1_n_n none x w (constant S256x1536 .f32 0x00000000#32))) shapeCasts_S256x1536_S256x1536)
    Finset.univ (View.stores_vmem_bits_univ h_S256x1536 rfl) (.inl rfl))

/-- The trip as printed. -/
def tripP (i : grid0.Coords) (k0_t1 : Fin k0_t1_loop.trips) : TP F PUnit := do
    let c0_i32 : BitVec 32 := 0#32
    let c1_i32 : BitVec 32 := 1#32
    let ⟨arg12, v3520, v3937, v3943, v3944, v3945, v5423, v5427, v5431⟩ : Σ' (arg12 : BitVec 32) (v3520 : FVec F S8x128 .f32) (v3937 : FVec F S8x128 .f32) (v3943 : BitVec 32) (v3944 : FVec F S8x128 .bf16) (v3945 : FVec F S8x128 .bf16) (v5423 : FVec F S8x128 .f32) (v5427 : FVec F S8x128 .f32), FVec F S8x128 .f32 ← k0_part84 i arg1 harg1 arg2 harg2 arg3 harg3 arg4 harg4 arg5 harg5 arg6 harg6 arg7 harg7 arg8 harg8 arg9 harg9 arg10 harg10 arg11 harg11 c0_i32 c1_i32 k0_t1
    let ⟨v5442, v5465, v5473⟩ : Σ' (v5442 : FVec F S32x128 .f32) (v5465 : FVec F S32x128 .f32), FVec F S8x128 .f32 ← k0_part61 i arg1 harg1 arg2 harg2 arg3 harg3 arg4 harg4 arg5 harg5 arg6 harg6 arg7 harg7 arg8 harg8 arg9 harg9 arg10 harg10 arg11 harg11 k0_t1 v3520 v3937 v3943 v3944 v5423 v5427 v5431
    let v5506 : FVec F S8x128 .f32 ← k0_part62 i arg1 harg1 arg2 harg2 arg3 harg3 arg4 harg4 arg5 harg5 arg6 harg6 arg7 harg7 arg8 harg8 arg9 harg9 arg10 harg10 arg11 harg11 v3944 v3945 v5442 v5465 v5473
    let v5543 : FVec F S8x128 .f32 ← k0_part63 i arg1 harg1 arg2 harg2 arg3 harg3 arg4 harg4 arg5 harg5 arg6 harg6 arg7 harg7 arg8 harg8 arg9 harg9 arg10 harg10 arg11 harg11 v3944 v3945 v5442 v5465 v5506
    let ⟨v5576, v5580⟩ : Σ' (v5576 : FVec F S32x128 .f32), FVec F S8x128 .f32 ← k0_part64 i arg1 harg1 arg2 harg2 arg3 harg3 arg4 harg4 arg5 harg5 arg6 harg6 arg7 harg7 arg8 harg8 arg9 harg9 arg10 harg10 arg11 harg11 k0_t1 v3520 v3937 v3943 v3945 v5465 v5543
    let ⟨v5599, v5618⟩ : Σ' (v5599 : FVec F S32x128 .f32), FVec F S8x128 .f32 ← k0_part65 i arg1 harg1 arg2 harg2 arg3 harg3 arg4 harg4 arg5 harg5 arg6 harg6 arg7 harg7 arg8 harg8 arg9 harg9 arg10 harg10 arg11 harg11 k0_t1 v3937 v3943 v3944 v3945 v5576 v5580
    let v5655 : FVec F S8x128 .f32 ← k0_part66 i arg1 harg1 arg2 harg2 arg3 harg3 arg4 harg4 arg5 harg5 arg6 harg6 arg7 harg7 arg8 harg8 arg9 harg9 arg10 harg10 arg11 harg11 v3944 v3945 v5576 v5599 v5618
    let v5689 : Vec F S1x8x128 .f32 ← k0_part67 i arg1 harg1 arg2 harg2 arg3 harg3 arg4 harg4 arg5 harg5 arg6 harg6 arg7 harg7 arg8 harg8 arg9 harg9 arg10 harg10 arg11 harg11 k0_t1 v3943 v3944 v3945 v5576 v5599 v5655
    let ⟨v5710, v5731⟩ : Σ' (v5710 : FVec F S32x128 .f32), FVec F S32x128 .f32 ← k0_part68 i arg1 harg1 arg2 harg2 arg3 harg3 arg4 harg4 arg5 harg5 arg6 harg6 arg7 harg7 arg8 harg8 arg9 harg9 arg10 harg10 arg11 harg11 k0_t1 v3520 v3937 v3943 v5689
    let ⟨v5733, v5767⟩ : Σ' (v5733 : FVec F S32x128 .f32), FVec F S8x128 .f32 ← k0_part69 i arg1 harg1 arg2 harg2 arg3 harg3 arg4 harg4 arg5 harg5 arg6 harg6 arg7 harg7 arg8 harg8 arg9 harg9 arg10 harg10 arg11 harg11 v3944 v3945 v5710 v5731
    let v5800 : FVec F S8x128 .f32 ← k0_part70 i arg1 harg1 arg2 harg2 arg3 harg3 arg4 harg4 arg5 harg5 arg6 harg6 arg7 harg7 arg8 harg8 arg9 harg9 arg10 harg10 arg11 harg11 v3944 v3945 v5710 v5733 v5767
    let ⟨v5838, cst_2734⟩ : Σ' (v5838 : FVec F S32x128 .f32), F .f32 ← k0_part71 i arg1 harg1 arg2 harg2 arg3 harg3 arg4 harg4 arg5 harg5 arg6 harg6 arg7 harg7 arg8 harg8 arg9 harg9 arg10 harg10 arg11 harg11 k0_t1 v3520 v3943 v3944 v3945 v5710 v5733 v5800
    let ⟨v5844, v5867, v5879⟩ : Σ' (v5844 : FVec F S32x128 .f32) (v5867 : FVec F S32x128 .f32), FVec F S8x128 .f32 ← k0_part72 i arg1 harg1 arg2 harg2 arg3 harg3 arg4 harg4 arg5 harg5 arg6 harg6 arg7 harg7 arg8 harg8 arg9 harg9 arg10 harg10 arg11 harg11 k0_t1 v3937 v3943 v3944 v5838 cst_2734
    let v5912 : FVec F S8x128 .f32 ← k0_part73 i arg1 harg1 arg2 harg2 arg3 harg3 arg4 harg4 arg5 harg5 arg6 harg6 arg7 harg7 arg8 harg8 arg9 harg9 arg10 harg10 arg11 harg11 v3944 v3945 v5844 v5867 v5879
    let v5948 : FVec F S1x8x128 .f32 ← k0_part74 i arg1 harg1 arg2 harg2 arg3 harg3 arg4 harg4 arg5 harg5 arg6 harg6 arg7 harg7 arg8 harg8 arg9 harg9 arg10 harg10 arg11 harg11 v3944 v3945 v5844 v5867 v5912
    let ⟨v5978, v5982, v5986⟩ : Σ' (v5978 : FVec F S32x128 .f32) (v5982 : FVec F S8x128 .f32), FVec F S8x128 .f32 ← k0_part75 i arg1 harg1 arg2 harg2 arg3 harg3 arg4 harg4 arg5 harg5 arg6 harg6 arg7 harg7 arg8 harg8 arg9 harg9 arg10 harg10 arg11 harg11 k0_t1 v3520 v3937 v3943 v3945 v5867 v5948
    let ⟨v6001, v6024⟩ : Σ' (v6001 : FVec F S32x128 .f32), FVec F S8x128 .f32 ← k0_part76 i arg1 harg1 arg2 harg2 arg3 harg3 arg4 harg4 arg5 harg5 arg6 harg6 arg7 harg7 arg8 harg8 arg9 harg9 arg10 harg10 arg11 harg11 k0_t1 v3937 v3943 v3944 v3945 v5978 v5982 v5986
    let v6060 : FVec F S1x8x128 .f32 ← k0_part77 i arg1 harg1 arg2 harg2 arg3 harg3 arg4 harg4 arg5 harg5 arg6 harg6 arg7 harg7 arg8 harg8 arg9 harg9 arg10 harg10 arg11 harg11 v3944 v3945 v5978 v6001 v6024
    let ⟨v6092, v6094⟩ : Σ' (v6092 : BitVec 32), FVec F S64x128 .f32 ← k0_part78 i arg1 harg1 arg2 harg2 arg3 harg3 arg4 harg4 arg5 harg5 arg6 harg6 arg7 harg7 arg8 harg8 arg9 harg9 arg10 harg10 arg11 harg11 arg12 v3944 v3945 v5978 v6001 v6060
    let v6126 : FVec F S128x128 .f32 ← k0_part79 i arg1 harg1 arg2 harg2 arg3 harg3 arg4 harg4 arg5 harg5 arg6 harg6 arg7 harg7 arg8 harg8 arg9 harg9 arg10 harg10 arg11 harg11 k0_t1 v6092 v6094
    let ⟨v6133, v6158⟩ : Σ' (v6133 : BitVec 32), FVec F S128x128 .f32 ← k0_part80 i arg1 harg1 arg2 harg2 arg3 harg3 arg4 harg4 arg5 harg5 arg6 harg6 arg7 harg7 arg8 harg8 arg9 harg9 arg10 harg10 arg11 harg11 k0_t1 arg12 v6126
    let ⟨v6174, v6190⟩ : Σ' (v6174 : BitVec 32), FVec F S128x128 .bf16 ← k0_part81 i arg1 harg1 arg2 harg2 arg3 harg3 arg4 harg4 arg5 harg5 arg6 harg6 arg7 harg7 arg8 harg8 arg9 harg9 arg10 harg10 arg11 harg11 k0_t1 arg12 v6133 v6158
    let ⟨v6215, v6222⟩ : Σ' (v6215 : BitVec 32), FVec F S128x128 .fp8e4m3 ← k0_part82 i arg1 harg1 arg2 harg2 arg3 harg3 arg4 harg4 arg5 harg5 arg6 harg6 arg7 harg7 arg8 harg8 arg9 harg9 arg10 harg10 arg11 harg11 k0_t1 arg12 v6174 v6190
    let v6254 : BitVec 32 ← k0_part83 i arg1 harg1 arg2 harg2 arg3 harg3 arg4 harg4 arg5 harg5 arg6 harg6 arg7 harg7 arg8 harg8 arg9 harg9 arg10 harg10 arg11 harg11 k0_t1 arg12 v6215 v6222
    let v6255 : BitVec 32 := v6254
    let v6256 : Index := Scalar.indexCast v6255
    let c0_2981 : Index := 0#32
    let v6257 : Vec F S512x1536 .fp8e4m3 ← Prog.lift (.load arg2 (Rect.unit (s := S8960x1536) (k0_off133 k0_t1) S512x1536.size (k0_off133_inb k0_t1)).toLoadRect (View.loadsAt_vmem h_S512x1536))
    let c0_2982 : Index := 0#32
    let c0_2983 : Index := 0#32
    let v6258 : Vec F S256x1536 .f32 ← Prog.lift (.load arg11 (Rect.unit (s := S256x1536) ![0, 0] S256x1536.size inb_S256x1536_S256x1536_0_0).toLoadRect (View.loadsAt_vmem h_S256x1536))
    let c0_2984 : Index := 0#32
    let c0_2985 : Index := 0#32
    let v6259 : Vec F S256x512 .bf16 ← Prog.lift (.load arg9 (Rect.unit (s := S256x512) ![0, 0] S256x512.size inb_S256x512_S256x512_0_0).toLoadRect (View.loadsAt_vmem h_S256x512))
    have cst_2986 : FVec F S256x1536 .f32 := constant S256x1536 .f32 0x00000000#32
    have v6260 : FVec F S256x1536 .f32 := matmul dot_S256x512_S512x1536_S256x1536_1_0_0_1_n_n none v6259 v6257 cst_2986
    have v6261 : FVec F S256x1536 .f32 := addf v6258 v6260
    let c0_2987 : Index := 0#32
    let c0_2988 : Index := 0#32
    let v6262 : Vec F S256x1536 .f32 ← Prog.lift (.load arg11 (Rect.unit (s := S256x1536) ![0, 0] S256x1536.size inb_S256x1536_S256x1536_0_0).toLoadRect (View.loadsAt_vmem h_S256x1536))
    have v6263 : FVec F S256x1536 .f32 := shapeCast S256x1536 v6262 shapeCasts_S256x1536_S256x1536
    have v6264 : FVec F S256x1536 .f32 := shapeCast S256x1536 v6261 shapeCasts_S256x1536_S256x1536
    Prog.lift (.store arg11 (Rect.unit (s := S256x1536) ![0, 0] S256x1536.size inb_S256x1536_S256x1536_0_0) v6264 Finset.univ (View.stores_vmem_bits_univ h_S256x1536 rfl) (.inl rfl))
    pure ⟨⟩

/-- The printed trip is the compact one. -/
theorem trip_eq (i : grid0.Coords) (k : Fin k0_t1_loop.trips) :
    tripP (F := F) arg1 harg1 arg2 harg2 arg3 harg3 arg4 harg4 arg5 harg5 arg6 harg6 arg7 harg7 arg8 harg8 arg9 harg9 arg10 harg10 arg11 harg11 i k
      = trip arg1 arg2 arg5 harg5 arg7 arg8 arg9 harg9 arg10 arg11 k := by
  sl_kernel_rfl

/-- The columns of the two groups after the loop. -/
def colT (g : Fin 4) : ℕ := if g.val < 2 then 8704 + 128 * g.val else 0

theorem colT_le (g : Fin 4) : colT g + 128 ≤ 8960 := by unfold colT; split <;> omega

/-- The scales of one half, from the scratch: rows turned into columns. -/
def scalesOf (s : FVec F S72x128 .f32) : FVec F S128x70 .f32 :=
  extractStridedSlice S128x70 ![0, 0] (transpose S128x128 [1, 0] (concatenate S128x128 0 [⟨S72x128, s⟩, ⟨S56x128, broadcast S56x128 (Scalar.ofBits .f32 0x00000000#32)⟩] concatenates_S72x128_S56x128_S128x128_d0) transposes_S128x128_p1_0_S128x128) slices_S128x128_o0_0_S128x70

theorem evInb (h : Fin 2) :
    ∀ a, S1x72x128.size a = 0 ∨ (![h.val, 0, 0] : Fin 3 → ℕ) a + (![1, 2, 1] : Fin 3 → ℕ) a * (S1x72x128.size a - 1) < S2x144x128.size a := by
  intro a; have := h.2; right
  fin_cases a <;> simp [S1x72x128, S2x144x128] <;> omega

theorem xsInb (h : Fin 2) : ∀ a, (![128 * h.val, 0] : Fin 2 → ℕ) a + S128x70.size a ≤ S256x70.size a := by
  intro a; have := h.2
  fin_cases a <;> simp [S128x70, S256x70] <;> omega

/-- The even rows of one half of the scales. -/
def evRect (h : Fin 2) : LoadRect S2x144x128 := ⟨![h.val, 0, 0], S1x72x128.size, ![1, 2, 1], evInb h⟩

/-- One half of the scales, written out. -/
def scalesHalf (h : Fin 2) : TP F PUnit :=
  Prog.lift (.load arg10 (evRect h) (View.loadsAt_vmem h_S1x72x128)) >>= fun v =>
  Prog.lift (.load arg6 (Rect.unit (s := S256x70) ![128 * h.val, 0] S128x70.size (xsInb h)).toLoadRect (View.loadsAt_vmem h_S128x70)) >>= fun _ =>
  Prog.lift (.store arg6 (Rect.unit (s := S256x70) ![128 * h.val, 0] S128x70.size (xsInb h)) (scalesOf (shapeCast S72x128 v shapeCasts_S1x72x128_S72x128)) Finset.univ (View.stores_vmem_bits_univ h_S128x70 rfl) (.inl rfl))

/-- The product of the two groups after the loop, and the output. -/
def finale : TP F PUnit :=
  Prog.lift (.load arg2 (Rect.unit (s := S8960x1536) ![8704, 0] S256x1536.size inb_S8960x1536_S256x1536_8704_0).toLoadRect (View.loadsAt_vmem h_S256x1536)) >>= fun (w : Vec F S256x1536 .fp8e4m3) =>
  Prog.lift (.load arg11 (Rect.unit (s := S256x1536) ![0, 0] S256x1536.size inb_S256x1536_S256x1536_0_0).toLoadRect (View.loadsAt_vmem h_S256x1536)) >>= fun (a : Vec F S256x1536 .f32) =>
  Prog.lift (.load arg9 (Rect.unit (s := S256x512) ![0, 0] S256x256.size inb_S256x512_S256x256_0_0).toLoadRect (View.loadsAt_vmem h_S256x256)) >>= fun (x : Vec F S256x256 .bf16) =>
  Prog.lift (.load arg11 (Rect.unit (s := S256x1536) ![0, 0] S256x1536.size inb_S256x1536_S256x1536_0_0).toLoadRect (View.loadsAt_vmem h_S256x1536)) >>= fun _ =>
  Prog.lift (.store arg11 (Rect.unit (s := S256x1536) ![0, 0] S256x1536.size inb_S256x1536_S256x1536_0_0)
    (shapeCast S256x1536 (addf a (matmul dot_S256x256_S256x1536_S256x1536_1_0_0_1_n_n none x w (constant S256x1536 .f32 0x00000000#32))) shapeCasts_S256x1536_S256x1536)
    Finset.univ (View.stores_vmem_bits_univ h_S256x1536 rfl) (.inl rfl)) >>= fun _ =>
  Prog.lift (.load arg11 (Rect.unit (s := S256x1536) ![0, 0] S256x1536.size inb_S256x1536_S256x1536_0_0).toLoadRect (View.loadsAt_vmem h_S256x1536)) >>= fun (a : Vec F S256x1536 .f32) =>
  Prog.lift (.load arg3 (Rect.unit (s := S1x1536) ![0, 0] S1x1536.size inb_S1x1536_S1x1536_0_0).toLoadRect (View.loadsAt_vmem h_S1x1536)) >>= fun (ws : Vec F S1x1536 .f32) =>
  Prog.lift (.load arg4 (Rect.unit (s := S256x1536) ![0, 0] S256x1536.size inb_S256x1536_S256x1536_0_0).toLoadRect (View.loadsAt_vmem h_S256x1536)) >>= fun _ =>
  Prog.lift (.store arg4 (Rect.unit (s := S256x1536) ![0, 0] S256x1536.size inb_S256x1536_S256x1536_0_0)
    (truncf .bf16 (mulf a (broadcastTo S256x1536 (shapeCast S1x1536 ws shapeCasts_S1x1536_S1x1536) broadcasts_S1x1536_S256x1536)) bitsLt_bf16_f32)
    Finset.univ (View.stores_vmem h_S256x1536 (harg4.storeExact_slice rfl _ packedbf16_S256x1536_S256x1536_0_0) (fun _ => rfl)) (.inl rfl))

/-- Reassociation over two requests and a program. -/
theorem assoc3 {E : Type → Type _} {α β γ δ ε ζ : Type} (l : E α) (s : E β) (p : Prog E γ) (K : γ → Prog E δ) (L : δ → Prog E ε) (R : ε → Prog E ζ) :
    ((Prog.lift l >>= fun _ => Prog.lift s >>= fun _ => p >>= K) >>= L) >>= R
      = Prog.lift l >>= fun _ => Prog.lift s >>= fun _ => p >>= fun x => (K x >>= L) >>= R := by
  show Prog.op l (fun _ => Prog.op s (fun _ => ((p >>= K) >>= L) >>= R)) = _
  simp only [Prog.bind_assoc]
  rfl

/-- The body with the printed trip. -/
def bodyP (i : grid0.Coords) : TP F PUnit :=
  Prog.lift (.load arg11 (Rect.unit (s := S256x1536) ![0, 0] S256x1536.size inb_S256x1536_S256x1536_0_0).toLoadRect (View.loadsAt_vmem h_S256x1536)) >>= fun _ =>
  Prog.lift (.store arg11 (Rect.unit (s := S256x1536) ![0, 0] S256x1536.size inb_S256x1536_S256x1536_0_0)
    (shapeCast S256x1536 (broadcast S256x1536 (Scalar.ofBits .f32 0x00000000#32) : FVec F S256x1536 .f32) shapeCasts_S256x1536_S256x1536)
    Finset.univ (View.stores_vmem_bits_univ h_S256x1536 rfl) (.inl rfl)) >>= fun _ =>
  Scf.Loop.for k0_t1_loop k0_t1_ok ⟨⟩ (fun k (_ : Unit) => tripP arg1 harg1 arg2 harg2 arg3 harg3 arg4 harg4 arg5 harg5 arg6 harg6 arg7 harg7 arg8 harg8 arg9 harg9 arg10 harg10 arg11 harg11 i k) >>= fun _ =>
  block arg1 arg5 harg5 arg7 arg8 arg9 harg9 arg10 136 (by omega) colT colT_le [0, 1] >>= fun _ =>
  finale arg2 arg3 arg4 harg4 arg9 arg11 >>= fun _ =>
  scalesHalf arg6 arg10 0 >>= fun _ => scalesHalf arg6 arg10 1

/-- The body. -/
def body : TP F PUnit :=
  Prog.lift (.load arg11 (Rect.unit (s := S256x1536) ![0, 0] S256x1536.size inb_S256x1536_S256x1536_0_0).toLoadRect (View.loadsAt_vmem h_S256x1536)) >>= fun _ =>
  Prog.lift (.store arg11 (Rect.unit (s := S256x1536) ![0, 0] S256x1536.size inb_S256x1536_S256x1536_0_0)
    (shapeCast S256x1536 (broadcast S256x1536 (Scalar.ofBits .f32 0x00000000#32) : FVec F S256x1536 .f32) shapeCasts_S256x1536_S256x1536)
    Finset.univ (View.stores_vmem_bits_univ h_S256x1536 rfl) (.inl rfl)) >>= fun _ =>
  Scf.Loop.for k0_t1_loop k0_t1_ok ⟨⟩ (fun k (_ : Unit) => trip arg1 arg2 arg5 harg5 arg7 arg8 arg9 harg9 arg10 arg11 k) >>= fun _ =>
  block arg1 arg5 harg5 arg7 arg8 arg9 harg9 arg10 136 (by omega) colT colT_le [0, 1] >>= fun _ =>
  finale arg2 arg3 arg4 harg4 arg9 arg11 >>= fun _ =>
  scalesHalf arg6 arg10 0 >>= fun _ => scalesHalf arg6 arg10 1

theorem bodyP_eq (i : grid0.Coords) :
    bodyP (F := F) arg1 harg1 arg2 harg2 arg3 harg3 arg4 harg4 arg5 harg5 arg6 harg6 arg7 harg7 arg8 harg8 arg9 harg9 arg10 harg10 arg11 harg11 i = body arg1 arg2 arg3 arg4 harg4 arg5 harg5 arg6 arg7 arg8 arg9 harg9 arg10 arg11 := by
  have h : (fun (k : Fin k0_t1_loop.trips) (_ : Unit) => tripP (F := F) arg1 harg1 arg2 harg2 arg3 harg3 arg4 harg4 arg5 harg5 arg6 harg6 arg7 harg7 arg8 harg8 arg9 harg9 arg10 harg10 arg11 harg11 i k) = fun k _ => trip arg1 arg2 arg5 harg5 arg7 arg8 arg9 harg9 arg10 arg11 k :=
    funext fun k => funext fun _ => trip_eq arg1 harg1 arg2 harg2 arg3 harg3 arg4 harg4 arg5 harg5 arg6 harg6 arg7 harg7 arg8 harg8 arg9 harg9 arg10 harg10 arg11 harg11 i k
  unfold bodyP body
  rw [h]

theorem printed_eq (i : grid0.Coords) :
    cc0_hadamard_fp8_down_proj (F := F) i arg1 harg1 arg2 harg2 arg3 harg3 arg4 harg4 arg5 harg5 arg6 harg6 arg7 harg7 arg8 harg8 arg9 harg9 arg10 harg10 arg11 harg11 = bodyP arg1 harg1 arg2 harg2 arg3 harg3 arg4 harg4 arg5 harg5 arg6 harg6 arg7 harg7 arg8 harg8 arg9 harg9 arg10 harg10 arg11 harg11 i := by
  delta cc0_hadamard_fp8_down_proj k0_part85
  refine (assoc3 _ _ _ _ _ _).trans ?_
  sl_kernel_rfl

/-- The printed body is the compact one. -/
theorem body_eq (i : grid0.Coords) :
    cc0_hadamard_fp8_down_proj (F := F) i arg1 harg1 arg2 harg2 arg3 harg3 arg4 harg4 arg5 harg5 arg6 harg6 arg7 harg7 arg8 harg8 arg9 harg9 arg10 harg10 arg11 harg11
      = body arg1 arg2 arg3 arg4 harg4 arg5 harg5 arg6 arg7 arg8 arg9 harg9 arg10 arg11 :=
  (printed_eq arg1 harg1 arg2 harg2 arg3 harg3 arg4 harg4 arg5 harg5 arg6 harg6 arg7 harg7 arg8 harg8 arg9 harg9 arg10 harg10 arg11 harg11 i).trans (bodyP_eq arg1 harg1 arg2 harg2 arg3 harg3 arg4 harg4 arg5 harg5 arg6 harg6 arg7 harg7 arg8 harg8 arg9 harg9 arg10 harg10 arg11 harg11 i)

end

end Cert.Kernel.Compact
-- ==== Proof.Kernel.State.lean ====
/-
  The body's effect as a change of contents: the eleven buffers' contents as one record (`St`), owning them all (`Own`),
  and total correctness of a straight-line piece of the body against these contents (`Tr`).  At any float operations.
-/
module

public import proofs.«01_k».proof.Proof.Kernel.Compact
public import proofs.«01_k».proof.Proof.Gen.Kernel.Frame

@[expose] public section

set_option maxRecDepth 16384

noncomputable section

namespace Cert.Kernel.Compact

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The eleven buffers. -/
structure Refs where
  a1 : Memref sig .tc .vmem S64x144x256 .f32
  a2 : Memref sig .tc .vmem S8960x1536 .fp8e4m3
  a3 : Memref sig .tc .vmem S1x1536 .f32
  a4 : Memref sig .tc .vmem S256x1536 .bf16
  a5 : Memref sig .tc .vmem S256x8960 .fp8e4m3
  a6 : Memref sig .tc .vmem S256x70 .f32
  a7 : Memref sig .tc .vmem S2x544x128 .f32
  a8 : Memref sig .tc .vmem S2x544x128 .f32
  a9 : Memref sig .tc .vmem S256x512 .bf16
  a10 : Memref sig .tc .vmem S2x144x128 .f32
  a11 : Memref sig .tc .vmem S256x1536 .f32
  h4 : a4.IsWhole
  h5 : a5.IsWhole
  h9 : a9.IsWhole

/-- Their contents. -/
@[ext] structure St (F : FTy → Type) where
  z : Vec F S64x144x256 .f32
  w : Vec F S8960x1536 .fp8e4m3
  ws : Vec F S1x1536 .f32
  out : Vec F S256x1536 .bf16
  codes : Vec F S256x8960 .fp8e4m3
  xs : Vec F S256x70 .f32
  ct : Vec F S2x544x128 .f32
  qt : Vec F S2x544x128 .f32
  xq : Vec F S256x512 .bf16
  st : Vec F S2x144x128 .f32
  acc : Vec F S256x1536 .f32

variable (c : Dev nD) (A : Refs)

/-- All eleven owned, at the contents `s`. -/
def Own (s : St F) : sProp (MT nD τ sig Unit (Elt F) ℕ (UR sig nD τ) ℕ) :=
  iprop(owns (c : Thread nD τ) A.a1 fullShare s.z ∗ owns (c : Thread nD τ) A.a2 fullShare s.w ∗ owns (c : Thread nD τ) A.a3 fullShare s.ws
    ∗ owns (c : Thread nD τ) A.a4 fullShare s.out ∗ owns (c : Thread nD τ) A.a5 fullShare s.codes ∗ owns (c : Thread nD τ) A.a6 fullShare s.xs
    ∗ owns (c : Thread nD τ) A.a7 fullShare s.ct ∗ owns (c : Thread nD τ) A.a8 fullShare s.qt ∗ owns (c : Thread nD τ) A.a9 fullShare s.xq
    ∗ owns (c : Thread nD τ) A.a10 fullShare s.st ∗ owns (c : Thread nD τ) A.a11 fullShare s.acc)

/-- From the contents `s` the program `p` ends with the value `a` and the contents `s'`. -/
def Ev {α : Type} (p : TP F α) (s : St F) (a : α) (s' : St F) : Prop :=
  ∀ (E : Set ℕ) (K : α → sProp (MT nD τ sig Unit (Elt F) ℕ (UR sig nD τ) ℕ)), iprop(Own c A s ∗ (Own c A s' -∗ K a)) ⊢ wp frame (wpE (defs₀ (F := F)) Variants.none c none) E p K

/-- From the contents `s` the program `p` ends in a value and contents of which `Q` holds. -/
def Tr {α : Type} (p : TP F α) (s : St F) (Q : α → St F → Prop) : Prop := ∃ a s', Q a s' ∧ Ev c A p s a s'

theorem Ev.pure {α : Type} (a : α) (s : St F) : Ev c A (pure a) s a s := by
  intro E K
  show _ ⊢ wp frame _ E (Prog.ret a) K
  rw [wp_ret]
  iintro ⟨H, Hk⟩
  imodintro
  iapply Hk; iexact H

theorem Ev.bind {α β : Type} {p : TP F α} {k : α → TP F β} {s s' s'' : St F} {a : α} {b : β}
    (h : Ev c A p s a s') (h' : Ev c A (k a) s' b s'') : Ev c A (p >>= k) s b s'' := by
  intro E K
  rw [wp_bind]
  iintro ⟨H, Hk⟩
  iapply (h E _)
  isplitl [H]; · iexact H
  iintro H
  iapply (h' E K)
  isplitl [H]; · iexact H
  iexact Hk

variable {c A}

theorem Tr.pure {α : Type} {a : α} {s : St F} {Q : α → St F → Prop} (h : Q a s) : Tr c A (pure a) s Q := ⟨a, s, h, Ev.pure c A a s⟩

theorem Tr.bind {α β : Type} {p : TP F α} {k : α → TP F β} {s : St F} {R : α → St F → Prop} {Q : β → St F → Prop}
    (h : Tr c A p s R) (h' : ∀ a s', R a s' → Tr c A (k a) s' Q) : Tr c A (p >>= k) s Q := by
  obtain ⟨a, s', hR, he⟩ := h
  obtain ⟨b, s'', hQ, he'⟩ := h' a s' hR
  exact ⟨b, s'', hQ, he.bind c A he'⟩

theorem Tr.mono {α : Type} {p : TP F α} {s : St F} {R Q : α → St F → Prop} (h : Tr c A p s R) (hQ : ∀ a s', R a s' → Q a s') : Tr c A p s Q := by
  obtain ⟨a, s', hR, he⟩ := h; exact ⟨a, s', hQ a s' hR, he⟩

/-- A part of the contents that lies in one buffer. -/
def Foc (c : Dev nD) (A : Refs) {S : Shape} {e : EltTy} (m : Memref sig .tc .vmem S e) (get : St F → Vec F S e) (set : St F → Vec F S e → St F) : Prop :=
  ∀ s, Own c A s ⊢ iprop(owns (c : Thread nD τ) m fullShare (get s) ∗ (∀ X, owns (c : Thread nD τ) m fullShare X -∗ Own c A (set s X)))

/-- A load reads the contents of its rectangle. -/
theorem Tr.load {S : Shape} {e : EltTy} {m : Memref sig .tc .vmem S e} {get : St F → Vec F S e} {set : St F → Vec F S e → St F}
    (hf : Foc c A m get set) (r : LoadRect S) (hl : m.view.LoadsAt r) (s : St F) (hs : set s (get s) = s) {Q : (r.shape.Idx → Elt F e) → St F → Prop}
    (hQ : Q (fun j => get s (r.idx j)) s) : Tr c A (Prog.lift (.load m r hl)) s Q := by
  refine ⟨_, s, hQ, fun E K => ?_⟩
  show _ ⊢ wp frame _ E (Prog.op _ Prog.ret) K
  iintro ⟨H, Hk⟩
  ihave H' := (hf s) $$ H
  icases H' with ⟨Hm, Hc⟩
  unfold owns
  icases Hm with ⟨%f, %hX, Hm⟩
  iapply (wp_load (defs := defs₀ (F := F)) Variants.none (c : Thread nD τ) none E (S := m.view.set) (m.view.setOn_subset_set _)) $$ Hm
  iintro Hm
  rw [wp_ret]
  imodintro
  have hv : m.view.readAt (Elt F) r f = fun j => get s (r.idx j) := by rw [← hX]; rfl
  rw [hv]
  iapply Hk
  ihave H2 := Hc $$ %(get s) [Hm]
  · iexists f; isplitr
    · ipureintro; exact hX
    iexact Hm
  rw [hs]; iexact H2

/-- A store replaces the contents of its rectangle. -/
theorem Tr.store {S : Shape} {e : EltTy} {m : Memref sig .tc .vmem S e} {get : St F → Vec F S e} {set : St F → Vec F S e → St F}
    (hf : Foc c A m get set) (r : Rect S) (w : r.shape.Idx → Elt F e) (hx : (m.access r).Stores Finset.univ) (hm) (s : St F) {Q : PUnit → St F → Prop}
    (hQ : Q ⟨⟩ (set s (r.overlay (get s) w))) : Tr c A (Prog.lift (.store m r w Finset.univ hx hm)) s Q := by
  refine ⟨_, _, hQ, fun E K => ?_⟩
  show _ ⊢ wp frame _ E (Prog.op _ Prog.ret) K
  iintro ⟨H, Hk⟩
  ihave H' := (hf s) $$ H
  icases H' with ⟨Hm, Hc⟩
  unfold owns
  icases Hm with ⟨%f, %hX, Hm⟩
  iapply (wp_store (defs := defs₀ (F := F)) Variants.none (c : Thread nD τ) none E (m := m) (r := r) (w := w) (hx := hx) (hm := hm) (f := f) (S := m.view.set)
    ((View.setOn_subset_set _ _).trans (m.view.set_slice_subset r))) $$ Hm
  iintro Hm
  rw [wp_ret]
  imodintro
  iapply Hk
  iapply Hc
  iexists _; isplitr; swap
  · iexact Hm
  ipureintro
  funext j
  by_cases hj : j ∈ r.set
  · obtain ⟨i, rfl⟩ := r.exists_idx_of_mem hj
    rw [show r.idx i = r.emb i from rfl, Rect.overlay_emb]
    exact View.read_slice_write_emb (v := m.view) r f w (Finset.mem_univ i)
  · rw [Rect.overlay_of_not_mem _ _ _ hj, ← hX]
    exact View.read_slice_write_of_not_mem (v := m.view) r f w Finset.univ (by rwa [Rect.map_emb_univ])

theorem foc1 : Foc (F := F) c A A.a1 St.z (fun s X => { s with z := X }) := by
  intro s; unfold Own
  iintro ⟨H1, H2, H3, H4, H5, H6, H7, H8, H9, H10, H11⟩
  isplitl [H1]; · iexact H1
  iintro %X H1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc2 : Foc (F := F) c A A.a2 St.w (fun s X => { s with w := X }) := by
  intro s; unfold Own
  iintro ⟨H1, H2, H3, H4, H5, H6, H7, H8, H9, H10, H11⟩
  isplitl [H2]; · iexact H2
  iintro %X H2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc3 : Foc (F := F) c A A.a3 St.ws (fun s X => { s with ws := X }) := by
  intro s; unfold Own
  iintro ⟨H1, H2, H3, H4, H5, H6, H7, H8, H9, H10, H11⟩
  isplitl [H3]; · iexact H3
  iintro %X H3
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc4 : Foc (F := F) c A A.a4 St.out (fun s X => { s with out := X }) := by
  intro s; unfold Own
  iintro ⟨H1, H2, H3, H4, H5, H6, H7, H8, H9, H10, H11⟩
  isplitl [H4]; · iexact H4
  iintro %X H4
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc5 : Foc (F := F) c A A.a5 St.codes (fun s X => { s with codes := X }) := by
  intro s; unfold Own
  iintro ⟨H1, H2, H3, H4, H5, H6, H7, H8, H9, H10, H11⟩
  isplitl [H5]; · iexact H5
  iintro %X H5
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc6 : Foc (F := F) c A A.a6 St.xs (fun s X => { s with xs := X }) := by
  intro s; unfold Own
  iintro ⟨H1, H2, H3, H4, H5, H6, H7, H8, H9, H10, H11⟩
  isplitl [H6]; · iexact H6
  iintro %X H6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc7 : Foc (F := F) c A A.a7 St.ct (fun s X => { s with ct := X }) := by
  intro s; unfold Own
  iintro ⟨H1, H2, H3, H4, H5, H6, H7, H8, H9, H10, H11⟩
  isplitl [H7]; · iexact H7
  iintro %X H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc8 : Foc (F := F) c A A.a8 St.qt (fun s X => { s with qt := X }) := by
  intro s; unfold Own
  iintro ⟨H1, H2, H3, H4, H5, H6, H7, H8, H9, H10, H11⟩
  isplitl [H8]; · iexact H8
  iintro %X H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc9 : Foc (F := F) c A A.a9 St.xq (fun s X => { s with xq := X }) := by
  intro s; unfold Own
  iintro ⟨H1, H2, H3, H4, H5, H6, H7, H8, H9, H10, H11⟩
  isplitl [H9]; · iexact H9
  iintro %X H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc10 : Foc (F := F) c A A.a10 St.st (fun s X => { s with st := X }) := by
  intro s; unfold Own
  iintro ⟨H1, H2, H3, H4, H5, H6, H7, H8, H9, H10, H11⟩
  isplitl [H10]; · iexact H10
  iintro %X H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc11 : Foc (F := F) c A A.a11 St.acc (fun s X => { s with acc := X }) := by
  intro s; unfold Own
  iintro ⟨H1, H2, H3, H4, H5, H6, H7, H8, H9, H10, H11⟩
  isplitl [H11]; · iexact H11
  iintro %X H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- A loop keeps an invariant of the contents. -/
theorem Tr.loop {w : Nat} {σ : Type} (lb ub st : BitVec w) (hok : Scf.OK lb ub st) (init : σ) (body : Fin (Scf.trips lb ub st) → σ → TP F σ)
    (I : ℕ → St F → Prop) (hbody : ∀ k a s, I k.val s → Tr c A (body k a) s (fun _ s' => I (k.val + 1) s')) {s : St F} (h0 : I 0 s) :
    Tr c A (Scf.for lb ub st hok init body) s (fun _ s' => I (Scf.trips lb ub st) s') := by
  rw [Scf.for_eq]
  have key : ∀ (m k : ℕ) (_ : k + m = Scf.trips lb ub st) (a : σ) (s : St F), I k s →
      Tr c A (Scf.forFrom body ((List.finRange (Scf.trips lb ub st)).drop k) a) s (fun _ s' => I (Scf.trips lb ub st) s') := by
    intro m
    induction m with
    | zero =>
      intro k hk a s hI
      obtain rfl : k = Scf.trips lb ub st := by omega
      rw [List.drop_of_length_le (by simp), Scf.forFrom_nil]
      exact Tr.pure (a := a) hI
    | succ m ih =>
      intro k hk a s hI
      have hlt : k < Scf.trips lb ub st := by omega
      rw [List.drop_eq_getElem_cons (by simpa using hlt), Scf.forFrom_cons]
      refine Tr.bind (hbody _ a s (by simpa using hI)) fun a' s' hI' => ih (k + 1) (by omega) a' s' ?_
      simpa using hI'
  exact key (Scf.trips lb ub st) 0 (by omega) init s h0

/-- A fold over a list keeps an invariant of the value and the contents, along the prefixes of the list. -/
theorem Tr.fold {α β : Type} (f : α → β → TP F α) (I : List β → α → St F → Prop)
    (hf : ∀ pre b a s, I pre a s → Tr c A (f a b) s (fun a' s' => I (pre ++ [b]) a' s')) :
    ∀ (l pre : List β) (a : α) (s : St F), I pre a s → Tr c A (foldP f a l) s (fun a' s' => I (pre ++ l) a' s')
  | [], pre, a, s, h => Tr.pure (by simpa using h)
  | b :: l, pre, a, s, h => Tr.bind (hf pre b a s h) fun a' s' h' => by
      have := Tr.fold f I hf l (pre ++ [b]) a' s' h'
      simpa using this

/-- The same without a value, for a list whose elements satisfy `P`. -/
theorem Tr.each {β : Type} (f : β → TP F PUnit) (P : β → Prop) (I : List β → St F → Prop)
    (hf : ∀ pre b s, P b → I pre s → Tr c A (f b) s (fun _ s' => I (pre ++ [b]) s')) :
    ∀ (l pre : List β) (s : St F), (∀ b ∈ l, P b) → I pre s → Tr c A (eachP f l) s (fun _ s' => I (pre ++ l) s')
  | [], pre, s, _, h => Tr.pure (by simpa using h)
  | b :: l, pre, s, hl, h => Tr.bind (hf pre b s (hl b (by simp)) h) fun _ s' h' => by
      have := Tr.each f P I hf l (pre ++ [b]) s' (fun x hx => hl x (by simp [hx])) h'
      simpa using this

/-- Contents with a rectangle replaced, at an index of the rectangle, -/
theorem ov_hit {S : Shape} {α : Type} (r : Rect S) (X : S.Idx → α) (G : r.shape.Idx → α) (j : S.Idx) (i : r.shape.Idx)
    (h : ∀ a, (j a).val = r.off a + r.stride a * (i a).val) : r.overlay X G j = G i := by
  have e : j = r.emb i := funext fun a => Fin.ext (h a)
  rw [e, Rect.overlay_emb]

/-- and at one outside it. -/
theorem ov_miss {S : Shape} {α : Type} (r : Rect S) (X : S.Idx → α) (G : r.shape.Idx → α) (j : S.Idx) (a : Fin S.rank)
    (h : ∀ i, i < r.size a → (j a).val ≠ r.off a + r.stride a * i) : r.overlay X G j = X j := by
  refine Rect.overlay_of_not_mem _ _ _ fun hj => ?_
  obtain ⟨i, rfl⟩ := r.exists_idx_of_mem hj
  exact h (i a).val (i a).isLt rfl

end Cert.Kernel.Compact

end
-- ==== Proof.Kernel.Quant.lean ====
/-
  What one block of the body leaves behind: the scales of its eight groups of rows, their codes and their codes times
  scale, first in the scratch buffers and then in the output block and the operand of the product.  At any float operations.
-/
module

public import proofs.«01_k».proof.Proof.Kernel.State
public import Idealize.ShloMosaic.Lib.Pipeline.Value
public import Idealize.ShloMosaic.Lib.ValueIdxCoords

@[expose] public section

set_option maxRecDepth 16384

noncomputable section

namespace Cert.Kernel.Compact

open Cert.Kernel Cert.Kernel.Gen
open Idealize.ShloMosaic Idealize.ShloMosaic.TcCoe Idealize.ShloMosaic.ValueIdx

variable {F : FTy → Type} [FloatOps F]

/-! ## The values -/

/-- Eight rows of an input block. -/
def zv (z : Vec F S64x144x256 .f32) (row : ℕ) (hrow : row + 8 ≤ 144) (h : Fin 2) (p : Fin 64) : FVec F S8x128 .f32 :=
  shapeCast S8x128 (fun j => z ((Rect.unit (s := S64x144x256) ![p.val, row, 128 * h.val] S1x8x128.size (zInb p row hrow h)).toLoadRect.idx j)) shapeCasts_S1x8x128_S8x128

/-- The scaled maxima of the groups of a block. -/
def vV (z : Vec F S64x144x256 .f32) (row : ℕ) (hrow : row + 8 ≤ 144) (h : Fin 2) : FVec F S8x128 .f32 :=
  pairMax (order.foldl (fun a p => maximumf a (absf (zv z row hrow h p))) (all8 0#32))

/-- The codes of rows `4 i …` of a block. -/
def qV (z : Vec F S64x144x256 .f32) (row : ℕ) (hrow : row + 8 ≤ 144) (h : Fin 2) (i : Fin 16) : FVec F S32x128 .f32 :=
  codes4 (zv z row hrow h ⟨4 * i.val + 0, by omega⟩) (zv z row hrow h ⟨4 * i.val + 1, by omega⟩) (zv z row hrow h ⟨4 * i.val + 2, by omega⟩)
    (zv z row hrow h ⟨4 * i.val + 3, by omega⟩) (invOf (vV z row hrow h))

/-- The codes of row `p` of a block. -/
def pV (z : Vec F S64x144x256 .f32) (row : ℕ) (hrow : row + 8 ≤ 144) (h : Fin 2) (p : Fin 64) : FVec F S8x128 .f32 :=
  part4 (qV z row hrow h ⟨p.val / 4, by omega⟩) ⟨p.val % 4, by omega⟩

/-- The codes times scale of row `p` of a block. -/
def xV (z : Vec F S64x144x256 .f32) (row : ℕ) (hrow : row + 8 ≤ 144) (h : Fin 2) (p : Fin 64) : FVec F S8x128 .f32 :=
  xqOf (pV z row hrow h p) (scaleOf (vV z row hrow h))

/-- Half a group, as it lies in the scratch buffer: of the rows `f p`, the row `g`. -/
def colV (f : Fin 64 → FVec F S8x128 .f32) (g : Fin 8) : FVec F S64x128 .f32 := fun j => f (j 0) (ix2 g (j 1))

/-- The codes of group `g` of a block. -/
def tileC (z : Vec F S64x144x256 .f32) (row : ℕ) (hrow : row + 8 ≤ 144) (h : Fin 2) (g : Fin 4) : FVec F S128x128 .fp8e4m3 :=
  truncf .fp8e4m3 (turn (colV (pV z row hrow h) ⟨2 * g.val, by omega⟩) (colV (pV z row hrow h) ⟨2 * g.val + 1, by omega⟩)) bitsLt_fp8e4m3_f32

/-- The codes times scale of group `g` of a block. -/
def tileX (z : Vec F S64x144x256 .f32) (row : ℕ) (hrow : row + 8 ≤ 144) (h : Fin 2) (g : Fin 4) : FVec F S128x128 .bf16 :=
  shapeCast S128x128 (truncf .bf16 (turn (colV (xV z row hrow h) ⟨2 * g.val, by omega⟩) (colV (xV z row hrow h) ⟨2 * g.val + 1, by omega⟩)) bitsLt_bf16_f32) shapeCasts_S128x128_S128x128

/-! ## The runs -/

attribute [local irreducible] part4 xqOf codes4 pairMax scaleOf invOf turn

variable {c : Dev nD} {A : Refs}

theorem zld_tr (row : ℕ) (hrow : row + 8 ≤ 144) (h : Fin 2) (p : Fin 64) (s : St F) {Q : FVec F S8x128 .f32 → St F → Prop}
    (hQ : Q (zv s.z row hrow h p) s) : Tr c A (zld A.a1 row hrow h p) s Q :=
  Tr.bind (Tr.load (Q := fun a s' => a = _ ∧ s' = s) foc1 _ _ s rfl ⟨rfl, rfl⟩) fun a s' hR => by
    obtain ⟨rfl, rfl⟩ := hR; exact Tr.pure hQ

theorem amax_tr (row : ℕ) (hrow : row + 8 ≤ 144) (h : Fin 2) (s : St F) : ∀ (l : List (Fin 64)) (a : FVec F S8x128 .f32),
    Tr c A (foldP (fun a p => zld A.a1 row hrow h p >>= fun y => pure (maximumf a (absf y))) a l) s
      (fun b s' => b = l.foldl (fun a p => maximumf a (absf (zv s.z row hrow h p))) a ∧ s' = s)
  | [], a => Tr.pure ⟨rfl, rfl⟩
  | p :: l, a => by
    refine Tr.bind (R := fun b s' => b = maximumf a (absf (zv s.z row hrow h p)) ∧ s' = s) ?_ fun b s' hR => ?_
    · exact Tr.bind (zld_tr (Q := fun y s' => y = zv s.z row hrow h p ∧ s' = s) row hrow h p s ⟨rfl, rfl⟩) fun y s' hR => by
        obtain ⟨rfl, rfl⟩ := hR; exact Tr.pure ⟨rfl, rfl⟩
    · obtain ⟨rfl, rfl⟩ := hR; exact amax_tr row hrow h s' l _

/-- The scales of a block in the scratch buffer of the scales. -/
def stWith (row : ℕ) (hrow : row + 8 ≤ 144) (h : Fin 2) (X : Vec F S2x144x128 .f32) (v : FVec F S8x128 .f32) : Vec F S2x144x128 .f32 :=
  (Rect.unit (s := S2x144x128) ![h.val, row, 0] S1x8x128.size (stInb row hrow h)).overlay X (shapeCast S1x8x128 (scaleOf v) shapeCasts_S8x128_S1x8x128)

theorem finish_tr (row : ℕ) (hrow : row + 8 ≤ 144) (h : Fin 2) (s : St F) :
    Tr c A (finish A.a1 A.a10 row hrow h) s (fun v s' => v = vV s.z row hrow h ∧ s' = { s with st := stWith row hrow h s.st (vV s.z row hrow h) }) := by
  refine Tr.bind (amax_tr row hrow h s order _) fun a s' hR => ?_
  obtain ⟨rfl, rfl⟩ := hR
  refine Tr.bind (Tr.load (Q := fun a s'' => s'' = s') foc10 _ _ s' rfl rfl) fun a s'' hR => ?_
  subst hR
  refine Tr.bind (Tr.store (Q := fun _ s' => s' = _) foc10 _ _ _ _ s'' rfl) fun a s' hR => ?_
  subst hR
  exact Tr.pure ⟨rfl, rfl⟩

theorem quant4_tr (row : ℕ) (hrow : row + 8 ≤ 144) (h : Fin 2) (i : Fin 16) (s : St F) :
    Tr c A (quant4 A.a1 row hrow (invOf (vV s.z row hrow h)) h i) s (fun q s' => q = qV s.z row hrow h i ∧ s' = s) := by
  unfold quant4
  refine Tr.bind (zld_tr (Q := fun y s' => y = zv s.z row hrow h _ ∧ s' = s) row hrow h _ s ⟨rfl, rfl⟩) fun y s' hR => ?_
  obtain ⟨rfl, rfl⟩ := hR
  refine Tr.bind (zld_tr (Q := fun y s => y = zv s'.z row hrow h _ ∧ s = s') row hrow h _ s' ⟨rfl, rfl⟩) fun y s hR => ?_
  obtain ⟨rfl, rfl⟩ := hR
  refine Tr.bind (zld_tr (Q := fun y s' => y = zv s.z row hrow h _ ∧ s' = s) row hrow h _ s ⟨rfl, rfl⟩) fun y s' hR => ?_
  obtain ⟨rfl, rfl⟩ := hR
  refine Tr.bind (zld_tr (Q := fun y s => y = zv s'.z row hrow h _ ∧ s = s') row hrow h _ s' ⟨rfl, rfl⟩) fun y s hR => ?_
  obtain ⟨rfl, rfl⟩ := hR
  exact Tr.pure ⟨rfl, rfl⟩

/-- Rows `p`, `68 + p`, … of one half of a scratch buffer replaced. -/
def rowsWith (p : ℕ) (hp : p < 64) (h : Fin 2) (X : Vec F S2x544x128 .f32) (w : FVec F S8x128 .f32) : Vec F S2x544x128 .f32 :=
  (⟨ctRect p hp h, ctPos⟩ : Rect S2x544x128).overlay X (shapeCast S1x8x128 w shapeCasts_S8x128_S1x8x128)

theorem put7_tr (p : ℕ) (hp : p < 64) (h : Fin 2) (w : FVec F S8x128 .f32) (s : St F) :
    Tr c A (putRows A.a7 p hp h w) s (fun _ s' => s' = { s with ct := rowsWith p hp h s.ct w }) := by
  refine Tr.bind (Tr.load (Q := fun a s'' => s'' = s) foc7 _ _ s rfl rfl) fun a s'' hR => ?_
  subst hR
  exact Tr.store (Q := fun _ s' => s' = _) foc7 _ _ _ _ s'' rfl

theorem put8_tr (p : ℕ) (hp : p < 64) (h : Fin 2) (w : FVec F S8x128 .f32) (s : St F) :
    Tr c A (putRows A.a8 p hp h w) s (fun _ s' => s' = { s with qt := rowsWith p hp h s.qt w }) := by
  refine Tr.bind (Tr.load (Q := fun a s'' => s'' = s) foc8 _ _ s rfl rfl) fun a s'' hR => ?_
  subst hR
  exact Tr.store (Q := fun _ s' => s' = _) foc8 _ _ _ _ s'' rfl

attribute [local irreducible] rowsWith in
theorem put_tr (i : Fin 16) (q0 q1 : FVec F S32x128 .f32) (s0 s1 : FVec F S8x128 .f32) (r : Fin 4) (s : St F) :
    Tr c A (put A.a7 A.a8 i q0 q1 s0 s1 r) s (fun _ s' => s' = { s with
      ct := rowsWith (4 * i.val + r.val) (by omega) 1 (rowsWith (4 * i.val + r.val) (by omega) 0 s.ct (part4 q0 r)) (part4 q1 r)
      qt := rowsWith (4 * i.val + r.val) (by omega) 1 (rowsWith (4 * i.val + r.val) (by omega) 0 s.qt (xqOf (part4 q0 r) s0)) (xqOf (part4 q1 r) s1) }) := by
  unfold put
  refine Tr.bind (put7_tr _ _ _ _ s) fun _ s' hR => ?_
  subst hR
  refine Tr.bind (put8_tr _ _ _ _ _) fun _ s' hR => ?_
  subst hR
  refine Tr.bind (put7_tr _ _ _ _ _) fun _ s' hR => ?_
  subst hR
  exact put8_tr _ _ _ _ _

theorem rowsIx (g : Fin 8) (p : Fin 64) : 68 * g.val + p.val < 544 := by omega

theorem rowsWith_hit (p : Fin 64) (h : Fin 2) (X : Vec F S2x544x128 .f32) (w : FVec F S8x128 .f32) (g : Fin 8) (l : Fin 128) :
    rowsWith p.val p.2 h X w (ix3 h ⟨68 * g.val + p.val, rowsIx g p⟩ l) = w (ix2 g l) := by
  unfold rowsWith
  refine (ov_hit _ X _ _ (ix3 (0 : Fin 1) g l) fun a => ?_).trans ?_
  · fin_cases a
    · show h.val = h.val + 1 * 0; omega
    · show 68 * g.val + p.val = p.val + 68 * g.val; omega
    · show l.val = 0 + 1 * l.val; omega
  · exact (shapeCast_addUnit_apply ![8, 128] w _ (ix3 (0 : Fin 1) g l)).trans (congrArg w (funext fun a => by fin_cases a <;> rfl))

theorem rowsWith_miss (p p' : Fin 64) (h h' : Fin 2) (hne : ¬ (h' = h ∧ p' = p)) (X : Vec F S2x544x128 .f32) (w : FVec F S8x128 .f32) (g : Fin 8) (l : Fin 128) :
    rowsWith p.val p.2 h X w (ix3 h' ⟨68 * g.val + p'.val, rowsIx g p'⟩ l) = X (ix3 h' ⟨68 * g.val + p'.val, rowsIx g p'⟩ l) := by
  unfold rowsWith
  by_cases hh : h' = h
  · refine ov_miss _ X _ _ 1 fun i hi e => hne ⟨hh, Fin.ext ?_⟩
    have e' : 68 * g.val + p'.val = p.val + 68 * i := e
    omega
  · refine ov_miss _ X _ _ 0 fun i hi e => hh (Fin.ext ?_)
    have e' : h'.val = h.val + 1 * i := e
    have hi' : i < 1 := hi
    omega

attribute [local irreducible] rowsWith pV xV

/-- The scratch buffers hold the codes, and the codes times scale, of row `p` of the block. -/
def RowOk (z : Vec F S64x144x256 .f32) (row : ℕ) (hrow : row + 8 ≤ 144) (s : St F) (p : Fin 64) : Prop :=
  ∀ (h : Fin 2) (g : Fin 8) (l : Fin 128), s.ct (ix3 h ⟨68 * g.val + p.val, rowsIx g p⟩ l) = pV z row hrow h p (ix2 g l)
    ∧ s.qt (ix3 h ⟨68 * g.val + p.val, rowsIx g p⟩ l) = xV z row hrow h p (ix2 g l)

theorem pV_eq (z : Vec F S64x144x256 .f32) (row : ℕ) (hrow : row + 8 ≤ 144) (h : Fin 2) (i : Fin 16) (r : Fin 4) (p : Fin 64) (hp : p.val = 4 * i.val + r.val) :
    pV z row hrow h p = part4 (qV z row hrow h i) r := by
  unfold pV
  congr 1
  · congr 1; exact Fin.ext (by show p.val / 4 = i.val; omega)
  · exact Fin.ext (by show p.val % 4 = r.val; omega)

/-- One row stored. -/
theorem rowOk_put (row : ℕ) (hrow : row + 8 ≤ 144) (i : Fin 16) (r : Fin 4) (z : Vec F S64x144x256 .f32) (s s' : St F) (p : Fin 64) (hlt : 4 * i.val + r.val < 64)
    (hct : s'.ct = rowsWith (4 * i.val + r.val) hlt 1 (rowsWith (4 * i.val + r.val) hlt 0 s.ct (part4 (qV z row hrow 0 i) r)) (part4 (qV z row hrow 1 i) r))
    (hqt : s'.qt = rowsWith (4 * i.val + r.val) hlt 1 (rowsWith (4 * i.val + r.val) hlt 0 s.qt (xqOf (part4 (qV z row hrow 0 i) r) (scaleOf (vV z row hrow 0))))
      (xqOf (part4 (qV z row hrow 1 i) r) (scaleOf (vV z row hrow 1))))
    (hp : p.val ≠ 4 * i.val + r.val → RowOk z row hrow s p) : RowOk z row hrow s' p := by
  have hi := i.2
  have hr := r.2
  by_cases he : p.val = 4 * i.val + r.val
  · obtain ⟨pv, hpv⟩ := p
    obtain rfl : pv = 4 * i.val + r.val := he
    have e0 : ∀ h : Fin 2, pV z row hrow h ⟨4 * i.val + r.val, hpv⟩ = part4 (qV z row hrow h i) r := fun h => pV_eq z row hrow h i r _ rfl
    have e1 : ∀ h : Fin 2, xV z row hrow h ⟨4 * i.val + r.val, hpv⟩ = xqOf (part4 (qV z row hrow h i) r) (scaleOf (vV z row hrow h)) := fun h => by
      unfold xV; rw [e0 h]
    intro h g l
    rw [e0, e1, hct, hqt]
    obtain rfl | rfl : h = 0 ∨ h = 1 := by omega
    · exact ⟨(rowsWith_miss ⟨_, hpv⟩ ⟨_, hpv⟩ 1 0 (by simp) _ _ g l).trans (rowsWith_hit ⟨_, hpv⟩ 0 _ _ g l),
        (rowsWith_miss ⟨_, hpv⟩ ⟨_, hpv⟩ 1 0 (by simp) _ _ g l).trans (rowsWith_hit ⟨_, hpv⟩ 0 _ _ g l)⟩
    · exact ⟨rowsWith_hit ⟨_, hpv⟩ 1 _ _ g l, rowsWith_hit ⟨_, hpv⟩ 1 _ _ g l⟩
  · have hne : ∀ h h' : Fin 2, ¬ (h' = h ∧ p = (⟨4 * i.val + r.val, hlt⟩ : Fin 64)) := fun h h' hh => he (by rw [hh.2])
    intro h g l
    rw [hct, hqt]
    have hold := hp he h g l
    exact ⟨((rowsWith_miss ⟨_, hlt⟩ p 1 h (hne _ _) _ _ g l).trans (rowsWith_miss ⟨_, hlt⟩ p 0 h (hne _ _) _ _ g l)).trans hold.1,
      ((rowsWith_miss ⟨_, hlt⟩ p 1 h (hne _ _) _ _ g l).trans (rowsWith_miss ⟨_, hlt⟩ p 0 h (hne _ _) _ _ g l)).trans hold.2⟩

theorem quantise_tr (row : ℕ) (hrow : row + 8 ≤ 144) (i : Fin 16) (s : St F) :
    Tr c A (quantise A.a1 A.a7 A.a8 row hrow (vV s.z row hrow 0) (vV s.z row hrow 1) i) s
      (fun _ s' => (∃ ct qt, s' = { s with ct := ct, qt := qt }) ∧ ∀ p : Fin 64, (p.val / 4 = i.val ∨ RowOk s.z row hrow s p) → RowOk s.z row hrow s' p) := by
  unfold quantise
  refine Tr.bind (quant4_tr row hrow 0 i s) fun q s' hR => ?_
  obtain ⟨rfl, rfl⟩ := hR
  refine Tr.bind (quant4_tr row hrow 1 i s') fun q s hR => ?_
  obtain ⟨rfl, rfl⟩ := hR
  refine (Tr.each _ (fun _ => True) (fun pre s' => (∃ ct qt, s' = { s with ct := ct, qt := qt })
    ∧ ∀ p : Fin 64, ((p.val / 4 = i.val ∧ ∃ r ∈ pre, p.val % 4 = (r : Fin 4).val) ∨ RowOk s.z row hrow s p) → RowOk s.z row hrow s' p) ?_ [0, 1, 2, 3] [] s (by simp) ?_).mono ?_
  · rintro pre r s' - ⟨⟨ct, qt, rfl⟩, hp⟩
    refine (put_tr i _ _ _ _ r _).mono fun _ s' hs' => ?_
    subst hs'
    refine ⟨⟨_, _, rfl⟩, fun p hc => ?_⟩
    refine rowOk_put row hrow i r s.z { s with ct := ct, qt := qt } _ p (by omega) rfl rfl fun he => hp p ?_
    rcases hc with ⟨h1, r', hr', h2⟩ | h
    · refine .inl ⟨h1, r', ?_, h2⟩
      rcases List.mem_append.mp hr' with h | h
      · exact h
      · obtain rfl : r' = r := by simpa using h
        omega
    · exact .inr h
  · exact ⟨⟨_, _, rfl⟩, fun p hc => by
      rcases hc with ⟨-, r, hr, -⟩ | h
      · simp at hr
      · exact h⟩
  · rintro _ s' ⟨h1, h2⟩
    refine ⟨h1, fun p hc => h2 p ?_⟩
    rcases hc with h | h
    · exact .inl ⟨h, ⟨p.val % 4, by omega⟩, by
        have : ∀ r : Fin 4, r ∈ ([] ++ [0, 1, 2, 3] : List (Fin 4)) := by decide
        exact this _, rfl⟩
    · exact .inr h

/-- The whole block quantised into the scratch buffers. -/
theorem rows_tr (row : ℕ) (hrow : row + 8 ≤ 144) (s : St F) :
    Tr c A (eachP (quantise A.a1 A.a7 A.a8 row hrow (vV s.z row hrow 0) (vV s.z row hrow 1)) sixteen) s
      (fun _ s' => (∃ ct qt, s' = { s with ct := ct, qt := qt }) ∧ ∀ p : Fin 64, RowOk s.z row hrow s' p) := by
  refine (Tr.each _ (fun _ => True) (fun pre s' => (∃ ct qt, s' = { s with ct := ct, qt := qt })
    ∧ ∀ p : Fin 64, (∃ i ∈ pre, p.val / 4 = (i : Fin 16).val) → RowOk s.z row hrow s' p) ?_ sixteen [] s (by simp) ?_).mono ?_
  · rintro pre i s' - ⟨⟨ct, qt, rfl⟩, hp⟩
    refine (quantise_tr row hrow i { s with ct := ct, qt := qt }).mono ?_
    rintro _ s' ⟨⟨ct', qt', rfl⟩, h⟩
    refine ⟨⟨ct', qt', rfl⟩, fun p ⟨i', hi', he⟩ => h p ?_⟩
    rcases List.mem_append.mp hi' with hm | hm
    · exact .inr (hp p ⟨i', hm, he⟩)
    · obtain rfl : i' = i := by simpa using hm
      exact .inl he
  · exact ⟨⟨_, _, rfl⟩, fun p ⟨i, hi, _⟩ => by simp at hi⟩
  · rintro _ s' ⟨h1, h2⟩
    refine ⟨h1, fun p => h2 p ⟨⟨p.val / 4, by omega⟩, ?_, rfl⟩⟩
    have : ∀ r : Fin 16, r ∈ ([] ++ sixteen : List (Fin 16)) := by decide
    exact this _

end Cert.Kernel.Compact

end
-- ==== Proof.Kernel.Emit.lean ====
/-
  What one block of the body writes out: the codes of its groups to the output block, the codes times scale to the operand
  of the product.  At any float operations.
-/
module

public import proofs.«01_k».proof.Proof.Kernel.Quant

@[expose] public section

set_option maxRecDepth 16384

noncomputable section

namespace Cert.Kernel.Compact

open Cert.Kernel Cert.Kernel.Gen
open Idealize.ShloMosaic Idealize.ShloMosaic.TcCoe Idealize.ShloMosaic.ValueIdx

variable {F : FTy → Type} [FloatOps F] {c : Dev nD} {A : Refs}

attribute [local irreducible] part4 xqOf codes4 pairMax scaleOf invOf turn rowsWith pV xV vV

theorem get7_tr (row : ℕ) (hrow : row + 8 ≤ 144) (g : Fin 8) (h : Fin 2) (r : ℕ) (hr : r + 64 ≤ 544) (er : r = 68 * g.val) (z : Vec F S64x144x256 .f32) (s : St F)
    (hok : ∀ p, RowOk z row hrow s p) :
    Tr c A (get64 A.a7 r hr h) s (fun v s' => v = colV (pV z row hrow h) g ∧ s' = s) := by
  subst er
  refine Tr.bind (Tr.load (Q := fun a s' => a = _ ∧ s' = s) foc7 _ _ s rfl ⟨rfl, rfl⟩) fun a s' hR => ?_
  obtain ⟨rfl, rfl⟩ := hR
  refine Tr.pure ⟨funext fun j => ?_, rfl⟩
  obtain ⟨p, l, rfl⟩ : ∃ (p : Fin 64) (l : Fin 128), j = ix2 p l := ⟨j 0, j 1, eq_ix2 j⟩
  refine (shapeCast_dropUnit_apply ![64, 128] _ _ (ix2 p l)).trans ?_
  refine Eq.trans ?_ (hok p h g l).1
  refine congrArg s'.ct (funext fun a => Fin.ext ?_)
  fin_cases a
  · show h.val + 1 * 0 = h.val; omega
  · show 68 * g.val + 1 * p.val = 68 * g.val + p.val; omega
  · show 0 + 1 * l.val = l.val; omega

theorem get8_tr (row : ℕ) (hrow : row + 8 ≤ 144) (g : Fin 8) (h : Fin 2) (r : ℕ) (hr : r + 64 ≤ 544) (er : r = 68 * g.val) (z : Vec F S64x144x256 .f32) (s : St F)
    (hok : ∀ p, RowOk z row hrow s p) :
    Tr c A (get64 A.a8 r hr h) s (fun v s' => v = colV (xV z row hrow h) g ∧ s' = s) := by
  subst er
  refine Tr.bind (Tr.load (Q := fun a s' => a = _ ∧ s' = s) foc8 _ _ s rfl ⟨rfl, rfl⟩) fun a s' hR => ?_
  obtain ⟨rfl, rfl⟩ := hR
  refine Tr.pure ⟨funext fun j => ?_, rfl⟩
  obtain ⟨p, l, rfl⟩ : ∃ (p : Fin 64) (l : Fin 128), j = ix2 p l := ⟨j 0, j 1, eq_ix2 j⟩
  refine (shapeCast_dropUnit_apply ![64, 128] _ _ (ix2 p l)).trans ?_
  refine Eq.trans ?_ (hok p h g l).2
  refine congrArg s'.qt (funext fun a => Fin.ext ?_)
  fin_cases a
  · show h.val + 1 * 0 = h.val; omega
  · show 68 * g.val + 1 * p.val = 68 * g.val + p.val; omega
  · show 0 + 1 * l.val = l.val; omega

/-- One tile of codes replaced in the output block. -/
def coWith (col : ℕ) (hcol : col + 128 ≤ 8960) (h : Fin 2) (X : Vec F S256x8960 .fp8e4m3) (w : FVec F S128x128 .fp8e4m3) : Vec F S256x8960 .fp8e4m3 :=
  (Rect.unit (s := S256x8960) ![128 * h.val, col] S128x128.size (coInb col hcol h)).overlay X w

/-- One tile replaced in the operand of the product. -/
def xqWith (g : Fin 4) (h : Fin 2) (X : Vec F S256x512 .bf16) (w : FVec F S128x128 .bf16) : Vec F S256x512 .bf16 :=
  (Rect.unit (s := S256x512) ![128 * h.val, 128 * g.val] S128x128.size (xqInb g h)).overlay X w

theorem rowIx (h : Fin 2) (r : Fin 128) : 128 * h.val + r.val < 256 := by omega
theorem colIx (g : Fin 4) (l : Fin 128) : 128 * g.val + l.val < 512 := by omega

theorem coWith_hit (col : ℕ) (hcol : col + 128 ≤ 8960) (h : Fin 2) (X : Vec F S256x8960 .fp8e4m3) (w : FVec F S128x128 .fp8e4m3) (r l : Fin 128) :
    coWith col hcol h X w (ix2 ⟨128 * h.val + r.val, rowIx h r⟩ ⟨col + l.val, by omega⟩) = w (ix2 r l) := by
  unfold coWith
  refine ov_hit (Rect.unit (s := S256x8960) ![128 * h.val, col] S128x128.size (coInb col hcol h)) X w _ (ix2 r l) fun a => ?_
  fin_cases a
  · show 128 * h.val + r.val = 128 * h.val + 1 * r.val; omega
  · show col + l.val = col + 1 * l.val; omega

theorem coWith_miss (col : ℕ) (hcol : col + 128 ≤ 8960) (h : Fin 2) (X : Vec F S256x8960 .fp8e4m3) (w : FVec F S128x128 .fp8e4m3) (R : Fin 256) (C : Fin 8960)
    (hm : R.val / 128 ≠ h.val ∨ C.val < col ∨ col + 128 ≤ C.val) : coWith col hcol h X w (ix2 R C) = X (ix2 R C) := by
  unfold coWith
  rcases hm with hm | hm
  · refine ov_miss _ X _ _ 0 fun i hi e => ?_
    have e' : R.val = 128 * h.val + 1 * i := e
    have hi' : i < 128 := hi
    omega
  · refine ov_miss _ X _ _ 1 fun i hi e => ?_
    have e' : C.val = col + 1 * i := e
    have hi' : i < 128 := hi
    omega

theorem xqWith_hit (g : Fin 4) (h : Fin 2) (X : Vec F S256x512 .bf16) (w : FVec F S128x128 .bf16) (r l : Fin 128) :
    xqWith g h X w (ix2 ⟨128 * h.val + r.val, rowIx h r⟩ ⟨128 * g.val + l.val, colIx g l⟩) = w (ix2 r l) := by
  unfold xqWith
  refine ov_hit (Rect.unit (s := S256x512) ![128 * h.val, 128 * g.val] S128x128.size (xqInb g h)) X w _ (ix2 r l) fun a => ?_
  fin_cases a
  · show 128 * h.val + r.val = 128 * h.val + 1 * r.val; omega
  · show 128 * g.val + l.val = 128 * g.val + 1 * l.val; omega

theorem xqWith_miss (g : Fin 4) (h : Fin 2) (X : Vec F S256x512 .bf16) (w : FVec F S128x128 .bf16) (R : Fin 256) (C : Fin 512)
    (hm : R.val / 128 ≠ h.val ∨ C.val / 128 ≠ g.val) : xqWith g h X w (ix2 R C) = X (ix2 R C) := by
  unfold xqWith
  rcases hm with hm | hm
  · refine ov_miss _ X _ _ 0 fun i hi e => ?_
    have e' : R.val = 128 * h.val + 1 * i := e
    have hi' : i < 128 := hi
    omega
  · refine ov_miss _ X _ _ 1 fun i hi e => ?_
    have e' : C.val = 128 * g.val + 1 * i := e
    have hi' : i < 128 := hi
    omega

attribute [local irreducible] coWith xqWith tileC tileX

theorem emitHalf_tr (row : ℕ) (hrow : row + 8 ≤ 144) (z : Vec F S64x144x256 .f32) (col : Fin 4 → ℕ) (hcol : ∀ g, col g + 128 ≤ 8960) (g : Fin 4) (h : Fin 2) (s : St F)
    (hok : ∀ p, RowOk z row hrow s p) :
    Tr c A (emitHalf A.a5 A.h5 A.a7 A.a8 A.a9 A.h9 col hcol g h) s (fun _ s' => s' = { s with
      codes := coWith (col g) (hcol g) h s.codes (tileC z row hrow h g)
      xq := xqWith g h s.xq (tileX z row hrow h g) }) := by
  unfold emitHalf tileC tileX coWith xqWith
  refine Tr.bind (get7_tr row hrow ⟨2 * g.val, by omega⟩ h _ _ rfl z s hok) fun a s' hR => ?_
  obtain ⟨rfl, rfl⟩ := hR
  refine Tr.bind (get7_tr row hrow ⟨2 * g.val + 1, by omega⟩ h _ _ rfl z s' hok) fun a s hR => ?_
  obtain ⟨rfl, rfl⟩ := hR
  refine Tr.bind (Tr.load (Q := fun a s'' => s'' = s) foc5 _ _ s rfl rfl) fun a s'' hR => ?_
  subst hR
  refine Tr.bind (Tr.store (Q := fun _ s' => s' = _) foc5 _ _ _ _ s'' rfl) fun a s' hR => ?_
  subst hR
  refine Tr.bind (get8_tr row hrow ⟨2 * g.val, by omega⟩ h _ _ rfl z _ hok) fun a s' hR => ?_
  obtain ⟨rfl, rfl⟩ := hR
  refine Tr.bind (get8_tr row hrow ⟨2 * g.val + 1, by omega⟩ h _ _ rfl z _ hok) fun a s hR => ?_
  obtain ⟨rfl, rfl⟩ := hR
  refine Tr.bind (Tr.load (Q := fun a s' => s' = _) foc9 _ _ _ rfl rfl) fun a s' hR => ?_
  subst hR
  exact (Tr.store (Q := fun _ s' => s' = _) foc9 _ _ _ _ _ rfl)

/-- What has been written out of a block, of the pairs of group and half in `D`; `gs` are the groups that are written. -/
def Out (z : Vec F S64x144x256 .f32) (row : ℕ) (hrow : row + 8 ≤ 144) (col : Fin 4 → ℕ) (hcol : ∀ g, col g + 128 ≤ 8960) (gs : List (Fin 4)) (s0 : St F)
    (D : Fin 4 → Fin 2 → Prop) (s : St F) : Prop :=
  (∃ codes xq, s = { s0 with codes := codes, xq := xq })
  ∧ (∀ g h, D g h → ∀ r l : Fin 128, s.codes (ix2 ⟨128 * h.val + r.val, rowIx h r⟩ ⟨col g + l.val, by have := hcol g; omega⟩) = tileC z row hrow h g (ix2 r l)
      ∧ s.xq (ix2 ⟨128 * h.val + r.val, rowIx h r⟩ ⟨128 * g.val + l.val, colIx g l⟩) = tileX z row hrow h g (ix2 r l))
  ∧ ∀ (R : Fin 256) (C : Fin 8960), (∀ g ∈ gs, C.val < col g ∨ col g + 128 ≤ C.val) → s.codes (ix2 R C) = s0.codes (ix2 R C)

theorem Out.half {row : ℕ} {hrow : row + 8 ≤ 144} {z : Vec F S64x144x256 .f32} {col : Fin 4 → ℕ} {hcol : ∀ g, col g + 128 ≤ 8960} {gs : List (Fin 4)} {s0 : St F}
    (hdis : ∀ g ∈ gs, ∀ g' ∈ gs, g ≠ g' → col g + 128 ≤ col g' ∨ col g' + 128 ≤ col g)
    (hok : ∀ p, RowOk z row hrow s0 p) {D : Fin 4 → Fin 2 → Prop} (hD : ∀ g h, D g h → g ∈ gs) (g : Fin 4) (hg : g ∈ gs) (h : Fin 2) {s : St F}
    (ho : Out z row hrow col hcol gs s0 D s) :
    Tr c A (emitHalf A.a5 A.h5 A.a7 A.a8 A.a9 A.h9 col hcol g h) s (fun _ s' => Out z row hrow col hcol gs s0 (fun g' h' => (g' = g ∧ h' = h) ∨ D g' h') s') := by
  obtain ⟨⟨co, xq, rfl⟩, ho, hm⟩ := ho
  refine (emitHalf_tr row hrow z col hcol g h { s0 with codes := co, xq := xq } hok).mono fun _ s' hs' => ?_
  subst hs'
  refine ⟨⟨_, _, rfl⟩, fun g' h' hd r l => ?_, fun R C hC => ?_⟩
  · by_cases he : g' = g ∧ h' = h
    · obtain ⟨rfl, rfl⟩ := he
      exact ⟨coWith_hit _ _ _ _ _ r l, xqWith_hit _ _ _ _ r l⟩
    · have hd' : D g' h' := hd.resolve_left he
      refine ⟨(coWith_miss _ _ _ _ _ _ _ ?_).trans (ho g' h' hd' r l).1, (xqWith_miss _ _ _ _ _ _ ?_).trans (ho g' h' hd' r l).2⟩
      · by_cases hh : h' = h
        · have := hdis g hg g' (hD _ _ hd') (fun e => he ⟨e.symm, hh⟩)
          right
          show col g' + l.val < col g ∨ col g + 128 ≤ col g' + l.val
          omega
        · left
          have : h'.val ≠ h.val := fun e => hh (Fin.ext e)
          show (128 * h'.val + r.val) / 128 ≠ h.val
          omega
      · by_cases hh : h' = h
        · right
          have : g'.val ≠ g.val := fun e => he ⟨Fin.ext e, hh⟩
          show (128 * g'.val + l.val) / 128 ≠ g.val
          omega
        · left
          have : h'.val ≠ h.val := fun e => hh (Fin.ext e)
          show (128 * h'.val + r.val) / 128 ≠ h.val
          omega
  · exact (coWith_miss _ _ _ _ _ _ _ (.inr (hC g hg))).trans (hm R C hC)

theorem Out.imp {row : ℕ} {hrow : row + 8 ≤ 144} {z : Vec F S64x144x256 .f32} {col : Fin 4 → ℕ} {hcol : ∀ g, col g + 128 ≤ 8960} {gs : List (Fin 4)} {s0 s : St F}
    {D D' : Fin 4 → Fin 2 → Prop} (ho : Out z row hrow col hcol gs s0 D s) (h : ∀ g h, D' g h → D g h) : Out z row hrow col hcol gs s0 D' s :=
  ⟨ho.1, fun g' h' hd => ho.2.1 g' h' (h _ _ hd), ho.2.2⟩

theorem emits_tr {row : ℕ} {hrow : row + 8 ≤ 144} {z : Vec F S64x144x256 .f32} {col : Fin 4 → ℕ} {hcol : ∀ g, col g + 128 ≤ 8960} (gs : List (Fin 4)) (s0 : St F)
    (hdis : ∀ g ∈ gs, ∀ g' ∈ gs, g ≠ g' → col g + 128 ≤ col g' ∨ col g' + 128 ≤ col g) (hok : ∀ p, RowOk z row hrow s0 p) :
    Tr c A (eachP (emit A.a5 A.h5 A.a7 A.a8 A.a9 A.h9 col hcol) gs) s0 (fun _ s' => Out z row hrow col hcol gs s0 (fun g _ => g ∈ gs) s') := by
  refine (Tr.each _ (fun g => g ∈ gs) (fun pre s' => (∀ g ∈ pre, g ∈ gs) ∧ Out z row hrow col hcol gs s0 (fun g _ => g ∈ pre) s') ?_ gs [] s0 (fun _ h => h) ?_).mono ?_
  · rintro pre g s' hg ⟨hpre, ho⟩
    refine Tr.bind (Out.half hdis hok (fun g _ h => hpre g h) g hg 0 ho) fun _ s' ho => ?_
    refine (Out.half hdis hok (fun g' h' h => ?_) g hg 1 ho).mono fun _ s' ho => ⟨fun g' hg' => ?_, ho.imp fun g' h' hg' => ?_⟩
    · rcases h with h | h
      · rw [h.1]; exact hg
      · exact hpre _ h
    · rcases List.mem_append.mp hg' with h | h
      · exact hpre _ h
      · obtain rfl : g' = g := by simpa using h
        exact hg
    · rcases List.mem_append.mp hg' with h | h
      · exact .inr (.inr h)
      · obtain rfl : g' = g := by simpa using h
        obtain rfl | rfl : h' = 0 ∨ h' = 1 := by omega
        · exact .inr (.inl ⟨rfl, rfl⟩)
        · exact .inl ⟨rfl, rfl⟩
  · exact ⟨fun g h => by simp at h, ⟨_, _, rfl⟩, fun g h hg => by simp at hg, fun _ _ _ => rfl⟩
  · rintro _ s' ⟨-, ho⟩
    exact ho.imp fun g h hg => by simpa using hg

theorem stIx (row : ℕ) (hrow : row + 8 ≤ 144) (g : Fin 8) : row + g.val < 144 := by omega

theorem stWith_hit (row : ℕ) (hrow : row + 8 ≤ 144) (h : Fin 2) (X : Vec F S2x144x128 .f32) (v : FVec F S8x128 .f32) (g : Fin 8) (l : Fin 128) :
    stWith row hrow h X v (ix3 h ⟨row + g.val, stIx row hrow g⟩ l) = scaleOf v (ix2 g l) := by
  unfold stWith
  refine (ov_hit _ X _ _ (ix3 (0 : Fin 1) g l) fun a => ?_).trans ?_
  · fin_cases a
    · show h.val = h.val + 1 * 0; omega
    · show row + g.val = row + 1 * g.val; omega
    · show l.val = 0 + 1 * l.val; omega
  · exact (shapeCast_addUnit_apply ![8, 128] _ _ (ix3 (0 : Fin 1) g l)).trans (congrArg (scaleOf v) (funext fun a => by fin_cases a <;> rfl))

theorem stWith_miss (row : ℕ) (hrow : row + 8 ≤ 144) (h h' : Fin 2) (X : Vec F S2x144x128 .f32) (v : FVec F S8x128 .f32) (a : Fin 144) (l : Fin 128)
    (hm : h' ≠ h ∨ a.val < row ∨ row + 8 ≤ a.val) : stWith row hrow h X v (ix3 h' a l) = X (ix3 h' a l) := by
  unfold stWith
  rcases hm with hm | hm
  · refine ov_miss _ X _ _ 0 fun i hi e => hm (Fin.ext ?_)
    have e' : h'.val = h.val + 1 * i := e
    have hi' : i < 1 := hi
    omega
  · refine ov_miss _ X _ _ 1 fun i hi e => ?_
    have e' : a.val = row + 1 * i := e
    have hi' : i < 8 := hi
    omega

attribute [local irreducible] stWith

/-- What a block does to the state: its scales, and what is written out of it. -/
def BlockOk (row : ℕ) (hrow : row + 8 ≤ 144) (col : Fin 4 → ℕ) (hcol : ∀ g, col g + 128 ≤ 8960) (gs : List (Fin 4)) (s s' : St F) : Prop :=
  ∃ ct qt, Out s.z row hrow col hcol gs { s with st := stWith row hrow 1 (stWith row hrow 0 s.st (vV s.z row hrow 0)) (vV s.z row hrow 1), ct := ct, qt := qt } (fun g _ => g ∈ gs) s'

theorem block_tr (row : ℕ) (hrow : row + 8 ≤ 144) (col : Fin 4 → ℕ) (hcol : ∀ g, col g + 128 ≤ 8960) (gs : List (Fin 4)) (s : St F)
    (hdis : ∀ g ∈ gs, ∀ g' ∈ gs, g ≠ g' → col g + 128 ≤ col g' ∨ col g' + 128 ≤ col g) :
    Tr c A (block A.a1 A.a5 A.h5 A.a7 A.a8 A.a9 A.h9 A.a10 row hrow col hcol gs) s (fun _ s' => BlockOk row hrow col hcol gs s s') := by
  unfold block
  refine Tr.bind (finish_tr row hrow 0 s) fun a s' hR => ?_
  obtain ⟨rfl, rfl⟩ := hR
  refine Tr.bind (finish_tr row hrow 1 _) fun a s' hR => ?_
  obtain ⟨rfl, rfl⟩ := hR
  refine Tr.bind (rows_tr row hrow _) fun _ s' hR => ?_
  obtain ⟨⟨ct, qt, rfl⟩, hok⟩ := hR
  exact (emits_tr gs _ hdis hok).mono fun _ s' h => ⟨ct, qt, h⟩

end Cert.Kernel.Compact

end
-- ==== Proof.Kernel.Body.lean ====
/-
  What the body of the kernel leaves in its three output blocks, as values of its three input blocks: at any float operations.
-/
module

public import proofs.«01_k».proof.Proof.Kernel.Emit

@[expose] public section

set_option maxRecDepth 16384

noncomputable section

namespace Cert.Kernel.Compact

open Cert.Kernel Cert.Kernel.Gen
open Idealize.ShloMosaic Idealize.ShloMosaic.TcCoe Idealize.ShloMosaic.ValueIdx

variable {F : FTy → Type} [FloatOps F] {c : Dev nD} {A : Refs}

attribute [local irreducible] part4 xqOf codes4 pairMax scaleOf invOf turn rowsWith pV xV vV coWith xqWith tileC tileX stWith

theorem trips_eq : k0_t1_loop.trips = 17 := by decide +kernel

theorem rowW_eq : ∀ k, rowW k = 8 * k.val := by decide +kernel

theorem colW_eq : ∀ k g, colW k g = 512 * k.val + 128 * g.val := by decide +kernel

theorem off133_eq : ∀ k, k0_off133 k = ![512 * k.val, 0] := by
  have : ∀ k, k0_off133 k 0 = 512 * k.val := by decide +kernel
  intro k; funext a; fin_cases a
  · exact this k
  · rfl

/-! ## The values -/

theorem rowB {b : ℕ} (hb : b < 18) : 8 * b + 8 ≤ 144 := by omega

/-- The code of row `R` of the block at column `C`. -/
def codesAt (z : Vec F S64x144x256 .f32) (R : Fin 256) (C : Fin 8960) : F .fp8e4m3 :=
  tileC z (8 * (C.val / 512)) (rowB (by omega)) ⟨R.val / 128, by omega⟩ ⟨C.val % 512 / 128, by omega⟩ (ix2 ⟨R.val % 128, by omega⟩ ⟨C.val % 128, by omega⟩)

/-- The codes of a block. -/
def codesF (z : Vec F S64x144x256 .f32) : Vec F S256x8960 .fp8e4m3 := fun j => codesAt z (j 0) (j 1)

/-- Code times scale, of row `R` of the block at column `512 b + C`. -/
def xqAt (z : Vec F S64x144x256 .f32) (b : ℕ) (hb : b < 18) (R : Fin 256) (C : Fin 512) : F .bf16 :=
  tileX z (8 * b) (rowB hb) ⟨R.val / 128, by omega⟩ ⟨C.val / 128, by omega⟩ (ix2 ⟨R.val % 128, by omega⟩ ⟨C.val % 128, by omega⟩)

/-- One block of codes times scale. -/
def xqF (z : Vec F S64x144x256 .f32) (b : ℕ) (hb : b < 18) : FVec F S256x512 .bf16 := fun j => xqAt z b hb (j 0) (j 1)

/-- The first two groups of the last one. -/
def xqT (z : Vec F S64x144x256 .f32) : FVec F S256x256 .bf16 := fun j => xqAt z 17 (by omega) (j 0) ((j 1).castLE (by decide))

theorem wInb (b : ℕ) (hb : b < 17) : ∀ a, (![512 * b, 0] : Fin 2 → ℕ) a + S512x1536.size a ≤ S8960x1536.size a := by
  intro a; fin_cases a <;> simp [S512x1536, S8960x1536]; omega

/-- One block of the weights. -/
def wF (w : Vec F S8960x1536 .fp8e4m3) (b : ℕ) (hb : b < 17) : Vec F S512x1536 .fp8e4m3 :=
  fun j => w ((Rect.unit (s := S8960x1536) ![512 * b, 0] S512x1536.size (wInb b hb)).toLoadRect.idx j)

/-- The last rows of the weights. -/
def wT (w : Vec F S8960x1536 .fp8e4m3) : Vec F S256x1536 .fp8e4m3 :=
  fun j => w ((Rect.unit (s := S8960x1536) ![8704, 0] S256x1536.size inb_S8960x1536_S256x1536_8704_0).toLoadRect.idx j)

/-- The accumulator after `k` blocks. -/
def accN (z : Vec F S64x144x256 .f32) (w : Vec F S8960x1536 .fp8e4m3) : ℕ → FVec F S256x1536 .f32
  | 0 => shapeCast S256x1536 (broadcast S256x1536 (Scalar.ofBits .f32 0x00000000#32)) shapeCasts_S256x1536_S256x1536
  | k + 1 => if hk : k < 17 then
      shapeCast S256x1536 (addf (accN z w k) (matmul dot_S256x512_S512x1536_S256x1536_1_0_0_1_n_n none (xqF z k (by omega)) (wF w k hk) (constant S256x1536 .f32 0x00000000#32))) shapeCasts_S256x1536_S256x1536
    else accN z w k

/-- The accumulator after all blocks. -/
def accT (z : Vec F S64x144x256 .f32) (w : Vec F S8960x1536 .fp8e4m3) : FVec F S256x1536 .f32 :=
  shapeCast S256x1536 (addf (accN z w 17) (matmul dot_S256x256_S256x1536_S256x1536_1_0_0_1_n_n none (xqT z) (wT w) (constant S256x1536 .f32 0x00000000#32))) shapeCasts_S256x1536_S256x1536

/-- The output block. -/
def outF (z : Vec F S64x144x256 .f32) (w : Vec F S8960x1536 .fp8e4m3) (ws : Vec F S1x1536 .f32) : FVec F S256x1536 .bf16 :=
  truncf .bf16 (mulf (accT z w) (broadcastTo S256x1536 (shapeCast S1x1536 ws shapeCasts_S1x1536_S1x1536) broadcasts_S1x1536_S256x1536)) bitsLt_bf16_f32

/-- The scales in the scratch buffer. -/
def stAt (z : Vec F S64x144x256 .f32) (h : Fin 2) (a : Fin 144) (l : Fin 128) : F .f32 :=
  scaleOf (vV z (8 * (a.val / 8)) (rowB (by omega)) h) (ix2 ⟨a.val % 8, by omega⟩ l)

/-- The scales of a block. -/
def xsF (z : Vec F S64x144x256 .f32) : Vec F S256x70 .f32 := fun j =>
  stAt z ⟨(j 0).val / 128, by have : (j 0).val < 256 := (j 0).isLt; omega⟩ ⟨2 * (j 1).val, by have : (j 1).val < 70 := (j 1).isLt; omega⟩ ⟨(j 0).val % 128, by omega⟩

/-! ## The runs -/

theorem off2 {S : Shape} (r : Rect S) (j : r.shape.Idx) (k : S.Idx) (h : ∀ a, r.off a + r.stride a * (j a).val = (k a).val) : r.toLoadRect.idx j = k :=
  funext fun a => Fin.ext (h a)

/-- What a block leaves: scales, tiles and columns, by the number of the block. -/
theorem BlockOk.st {b : ℕ} {hb : b < 18} {row : ℕ} {hrow : row + 8 ≤ 144} (er : row = 8 * b) {col : Fin 4 → ℕ} {hcol : ∀ g, col g + 128 ≤ 8960} {gs : List (Fin 4)} {s s' : St F}
    (h : BlockOk row hrow col hcol gs s s') (hst : ∀ h (a : Fin 144) l, a.val < 8 * b → s.st (ix3 h a l) = stAt s.z h a l) :
    ∀ h (a : Fin 144) l, a.val < 8 * (b + 1) → s'.st (ix3 h a l) = stAt s.z h a l := by
  subst er
  obtain ⟨ct, qt, ⟨co, xq, rfl⟩, -, -⟩ := h
  intro h a l ha
  by_cases hlt : a.val < 8 * b
  · exact ((stWith_miss _ _ _ _ _ _ _ _ (.inr (.inl hlt))).trans (stWith_miss _ _ _ _ _ _ _ _ (.inr (.inl hlt)))).trans (hst h a l hlt)
  · obtain ⟨g, rfl⟩ : ∃ g : Fin 8, a = ⟨8 * b + g.val, stIx _ hrow g⟩ := ⟨⟨a.val - 8 * b, by omega⟩, Fin.ext (by show a.val = 8 * b + (a.val - 8 * b); omega)⟩
    have e : stAt s.z h ⟨8 * b + g.val, stIx _ hrow g⟩ l = scaleOf (vV s.z (8 * b) hrow h) (ix2 g l) := by
      have e1 : (8 * b + g.val) / 8 = b := by omega
      have e2 : (⟨(8 * b + g.val) % 8, by omega⟩ : Fin 8) = g := Fin.ext (by show (8 * b + g.val) % 8 = g.val; omega)
      have e3 : ∀ row (h1 : row + 8 ≤ 144), row = 8 * b → vV s.z row h1 h = vV s.z (8 * b) hrow h := by rintro _ _ rfl; rfl
      unfold stAt
      simp only [e2]
      rw [e3 _ _ (by show 8 * ((8 * b + g.val) / 8) = 8 * b; rw [e1])]
    rw [e]
    obtain rfl | rfl : h = 0 ∨ h = 1 := by omega
    · exact (stWith_miss _ _ _ _ _ _ _ _ (.inl (by decide))).trans (stWith_hit _ hrow 0 _ _ g l)
    · exact stWith_hit _ hrow 1 _ _ g l

theorem BlockOk.xq {b : ℕ} (hb : b < 18) {row : ℕ} {hrow : row + 8 ≤ 144} (er : row = 8 * b) {col : Fin 4 → ℕ} {hcol : ∀ g, col g + 128 ≤ 8960} {gs : List (Fin 4)} {s s' : St F}
    (h : BlockOk row hrow col hcol gs s s') (R : Fin 256) (C : Fin 512) (hg : (⟨C.val / 128, by omega⟩ : Fin 4) ∈ gs) : s'.xq (ix2 R C) = xqAt s.z b hb R C := by
  subst er
  obtain ⟨ct, qt, -, ht, -⟩ := h
  have := (ht _ ⟨R.val / 128, by omega⟩ hg ⟨R.val % 128, by omega⟩ ⟨C.val % 128, by omega⟩).2
  refine Eq.trans (congrArg s'.xq ?_) this
  congr 1 <;> refine Fin.ext ?_
  · show R.val = 128 * (R.val / 128) + R.val % 128; omega
  · show C.val = 128 * (C.val / 128) + C.val % 128; omega

theorem BlockOk.codes {b : ℕ} (hb : b < 18) {row : ℕ} {hrow : row + 8 ≤ 144} (er : row = 8 * b) {col : Fin 4 → ℕ} {hcol : ∀ g, col g + 128 ≤ 8960} {gs : List (Fin 4)}
    (ec : ∀ g ∈ gs, col g = 512 * b + 128 * g.val) {s s' : St F}
    (h : BlockOk row hrow col hcol gs s s') (hco : ∀ R (C : Fin 8960), C.val < 512 * b → s.codes (ix2 R C) = codesAt s.z R C) (R : Fin 256) (C : Fin 8960)
    (hC : C.val < 512 * b ∨ C.val / 512 = b ∧ (⟨C.val % 512 / 128, by omega⟩ : Fin 4) ∈ gs) : s'.codes (ix2 R C) = codesAt s.z R C := by
  subst er
  obtain ⟨ct, qt, -, ht, hm⟩ := h
  rcases hC with hC | ⟨rfl, hg⟩
  · exact (hm R C fun g hg => .inl (by rw [ec g hg]; omega)).trans (hco R C hC)
  · have := (ht _ ⟨R.val / 128, by omega⟩ hg ⟨R.val % 128, by omega⟩ ⟨C.val % 128, by omega⟩).1
    refine Eq.trans (congrArg s'.codes ?_) this
    have e := ec _ hg
    congr 1 <;> refine Fin.ext ?_
    · show R.val = 128 * (R.val / 128) + R.val % 128; omega
    · show C.val = col ⟨C.val % 512 / 128, by omega⟩ + C.val % 128
      rw [e]
      show C.val = 512 * (C.val / 512) + 128 * (C.val % 512 / 128) + C.val % 128
      omega

theorem BlockOk.keep {row : ℕ} {hrow : row + 8 ≤ 144} {col : Fin 4 → ℕ} {hcol : ∀ g, col g + 128 ≤ 8960} {gs : List (Fin 4)} {s s' : St F}
    (h : BlockOk row hrow col hcol gs s s') : s'.z = s.z ∧ s'.w = s.w ∧ s'.ws = s.ws ∧ s'.acc = s.acc := by
  obtain ⟨ct, qt, ⟨co, xq, rfl⟩, -, -⟩ := h
  exact ⟨rfl, rfl, rfl, rfl⟩

/-- The state before block `k`. -/
structure Inv (s0 : St F) (k : ℕ) (s : St F) : Prop where
  z : s.z = s0.z
  w : s.w = s0.w
  ws : s.ws = s0.ws
  acc : s.acc = accN s0.z s0.w k
  st : ∀ h (a : Fin 144) l, a.val < 8 * k → s.st (ix3 h a l) = stAt s0.z h a l
  codes : ∀ R (C : Fin 8960), C.val < 512 * k → s.codes (ix2 R C) = codesAt s0.z R C

theorem nat01 (n : ℕ) : 0 + 1 * n = n := by omega

theorem accLd (X : Vec F S256x1536 .f32) :
    (fun j => X ((Rect.unit (s := S256x1536) ![0, 0] S256x1536.size inb_S256x1536_S256x1536_0_0).toLoadRect.idx j)) = X :=
  funext fun j => congrArg X (off2 _ _ _ fun a => by fin_cases a <;> exact nat01 _)

theorem wsLd (X : Vec F S1x1536 .f32) :
    (fun j => X ((Rect.unit (s := S1x1536) ![0, 0] S1x1536.size inb_S1x1536_S1x1536_0_0).toLoadRect.idx j)) = X :=
  funext fun j => congrArg X (off2 _ _ _ fun a => by fin_cases a <;> exact nat01 _)

theorem accSt {t : EltTy} (X w : Vec F S256x1536 t) : (Rect.unit (s := S256x1536) ![0, 0] S256x1536.size inb_S256x1536_S256x1536_0_0).overlay X w = w :=
  funext fun j => ov_hit (Rect.unit (s := S256x1536) ![0, 0] S256x1536.size inb_S256x1536_S256x1536_0_0) X w j j fun a => by fin_cases a <;> exact (nat01 _).symm

theorem trip_tr (s0 : St F) (k : Fin k0_t1_loop.trips) (s : St F) (hI : Inv s0 k.val s) :
    Tr c A (trip A.a1 A.a2 A.a5 A.h5 A.a7 A.a8 A.a9 A.h9 A.a10 A.a11 k) s (fun _ s' => Inv s0 (k.val + 1) s') := by
  have hk : k.val < 17 := trips_eq ▸ k.2
  unfold trip
  refine Tr.bind (block_tr _ _ _ _ _ s fun g _ g' _ hne => ?_) fun _ s1 hB => ?_
  · have : g.val ≠ g'.val := fun e => hne (Fin.ext e)
    rw [colW_eq, colW_eq]; omega
  obtain ⟨kz, kw, kws, kacc⟩ := hB.keep
  have hst := hB.st (hb := by omega) (rowW_eq k) (fun h a l ha => (hI.st h a l ha).trans (by rw [hI.z]))
  have hxq := hB.xq (b := k.val) (by omega) (rowW_eq k)
  have hco := hB.codes (b := k.val) (by omega) (rowW_eq k) (fun g _ => colW_eq k g) (fun R C hC => (hI.codes R C hC).trans (by rw [hI.z]))
  rw [hI.z] at hst hxq hco
  refine Tr.bind (Tr.load (Q := fun a s' => a = wF s0.w k.val hk ∧ s' = s1) foc2 _ _ s1 rfl ⟨funext fun j => ?_, rfl⟩) fun a s' hR => ?_
  · show s1.w _ = s0.w _
    rw [kw, hI.w]
    refine congrArg s0.w (funext fun a => Fin.ext ?_)
    exact congrArg (· + 1 * (j a).val) (congrFun (off133_eq k) a)
  obtain ⟨rfl, rfl⟩ := hR
  refine Tr.bind (Tr.load (Q := fun a s'' => a = accN s0.z s0.w k.val ∧ s'' = s') foc11 _ _ s' rfl ⟨(accLd s'.acc).trans (kacc.trans hI.acc), rfl⟩) fun a s1 hR => ?_
  obtain ⟨rfl, rfl⟩ := hR
  refine Tr.bind (Tr.load (Q := fun a s'' => a = xqF s0.z k.val (by omega) ∧ s'' = s1) foc9 _ _ s1 rfl ⟨funext fun j => ?_, rfl⟩) fun a s' hR => ?_
  · obtain ⟨R, C, rfl⟩ : ∃ (R : Fin 256) (C : Fin 512), j = ix2 R C := ⟨j 0, j 1, eq_ix2 j⟩
    refine Eq.trans (congrArg s1.xq (off2 _ _ (ix2 R C) fun a => by fin_cases a <;> exact nat01 _)) (hxq R C ?_)
    have : ∀ g : Fin 4, g ∈ ([0, 1, 2, 3] : List (Fin 4)) := by decide
    exact this _
  obtain ⟨rfl, rfl⟩ := hR
  refine Tr.bind (Tr.load (Q := fun a s'' => s'' = s') foc11 _ _ s' rfl rfl) fun a s1 hR => ?_
  subst hR
  refine Tr.store foc11 _ _ _ _ s1 ?_
  refine ⟨kz.trans hI.z, kw.trans hI.w, kws.trans hI.ws, ?_, hst, fun R C hC => hco R C ?_⟩
  · refine (accSt _ _).trans ?_
    rw [accN, dif_pos hk]
  · have : ∀ g : Fin 4, g ∈ ([0, 1, 2, 3] : List (Fin 4)) := by decide
    by_cases h : C.val < 512 * k.val
    · exact .inl h
    · exact .inr ⟨by omega, this _⟩

theorem loop_tr (s0 : St F) (s : St F) (hI : Inv s0 0 s) :
    Tr c A (Scf.Loop.for k0_t1_loop k0_t1_ok ⟨⟩ (fun k (_ : Unit) => trip (F := F) A.a1 A.a2 A.a5 A.h5 A.a7 A.a8 A.a9 A.h9 A.a10 A.a11 k)) s (fun _ s' => Inv s0 17 s') := by
  have := Tr.loop (c := c) (A := A) _ _ _ k0_t1_ok (⟨⟩ : Unit) (fun k (_ : Unit) => trip (F := F) A.a1 A.a2 A.a5 A.h5 A.a7 A.a8 A.a9 A.h9 A.a10 A.a11 k) (Inv s0)
    (fun k _ s hI => trip_tr s0 k s hI) hI
  exact this.mono fun _ s' h => by rw [← trips_eq]; exact h

/-- The state after the last block. -/
structure Fin' (s0 : St F) (s : St F) : Prop where
  z : s.z = s0.z
  w : s.w = s0.w
  ws : s.ws = s0.ws
  st : ∀ h (a : Fin 144) l, s.st (ix3 h a l) = stAt s0.z h a l
  codes : s.codes = codesF s0.z

theorem tail_tr (s0 : St F) (s : St F) (hI : Inv s0 17 s) :
    Tr c A (block A.a1 A.a5 A.h5 A.a7 A.a8 A.a9 A.h9 A.a10 136 (by omega) colT colT_le [0, 1]) s
      (fun _ s' => Fin' s0 s' ∧ s'.acc = accN s0.z s0.w 17 ∧ ∀ (R : Fin 256) (C : Fin 512), C.val < 256 → s'.xq (ix2 R C) = xqAt s0.z 17 (by omega) R C) := by
  have e2 : ∀ g ∈ ([0, 1] : List (Fin 4)), colT g = 512 * 17 + 128 * g.val := by decide
  have m2 : ∀ g : Fin 4, g.val < 2 → g ∈ ([0, 1] : List (Fin 4)) := by decide
  refine (block_tr _ _ _ _ _ s fun g hg g' hg' hne => ?_).mono fun _ s1 hB => ?_
  · have : g.val ≠ g'.val := fun e => hne (Fin.ext e)
    rw [e2 g hg, e2 g' hg']; omega
  obtain ⟨kz, kw, kws, kacc⟩ := hB.keep
  have hst := hB.st (b := 17) (hb := by omega) rfl (fun h a l ha => (hI.st h a l ha).trans (by rw [hI.z]))
  have hxq := hB.xq (b := 17) (by omega) rfl
  have hco := hB.codes (b := 17) (by omega) rfl e2 (fun R C hC => (hI.codes R C hC).trans (by rw [hI.z]))
  rw [hI.z] at hst hxq hco
  refine ⟨⟨kz.trans hI.z, kw.trans hI.w, kws.trans hI.ws, fun h a l => hst h a l a.2, funext fun j => ?_⟩, kacc.trans hI.acc, fun R C hC => hxq R C (m2 _ ?_)⟩
  · obtain ⟨R, C, rfl⟩ : ∃ (R : Fin 256) (C : Fin 8960), j = ix2 R C := ⟨j 0, j 1, eq_ix2 j⟩
    refine hco R C ?_
    by_cases h : C.val < 512 * 17
    · exact .inl h
    · exact .inr ⟨by omega, m2 _ (by show C.val % 512 / 128 < 2; omega)⟩
  · show C.val / 128 < 2; omega

theorem finale_tr (s0 : St F) (s : St F) (hI : Fin' s0 s) (hacc : s.acc = accN s0.z s0.w 17)
    (hxq : ∀ (R : Fin 256) (C : Fin 512), C.val < 256 → s.xq (ix2 R C) = xqAt s0.z 17 (by omega) R C) :
    Tr c A (finale A.a2 A.a3 A.a4 A.h4 A.a9 A.a11) s (fun _ s' => Fin' s0 s' ∧ s'.out = outF s0.z s0.w s0.ws) := by
  unfold finale
  refine Tr.bind (Tr.load (Q := fun a s' => a = wT s0.w ∧ s' = s) foc2 _ _ s rfl ⟨funext fun j => congrFun hI.w _, rfl⟩) fun a s' hR => ?_
  obtain ⟨rfl, rfl⟩ := hR
  refine Tr.bind (Tr.load (Q := fun a s'' => a = accN s0.z s0.w 17 ∧ s'' = s') foc11 _ _ s' rfl ⟨(accLd s'.acc).trans hacc, rfl⟩) fun a s1 hR => ?_
  obtain ⟨rfl, rfl⟩ := hR
  refine Tr.bind (Tr.load (Q := fun a s'' => a = xqT s0.z ∧ s'' = s1) foc9 _ _ s1 rfl ⟨funext fun j => ?_, rfl⟩) fun a s' hR => ?_
  · obtain ⟨R, C, rfl⟩ : ∃ (R : Fin 256) (C : Fin 256), j = ix2 R C := ⟨j 0, j 1, eq_ix2 j⟩
    exact Eq.trans (congrArg s1.xq (off2 _ _ (ix2 R (C.castLE (by decide))) fun a => by fin_cases a <;> exact nat01 _)) (hxq R _ C.2)
  obtain ⟨rfl, rfl⟩ := hR
  refine Tr.bind (Tr.load (Q := fun a s'' => s'' = s') foc11 _ _ s' rfl rfl) fun a s1 hR => ?_
  subst hR
  refine Tr.bind (Tr.store (Q := fun _ s'' => s'' = { s1 with acc := accT s0.z s0.w }) foc11 _ _ _ _ s1 ?_) fun _ s' hR => ?_
  · show ({ s1 with acc := _ } : St F) = _
    rw [accSt]; rfl
  subst hR
  refine Tr.bind (Tr.load (Q := fun a s'' => a = accT s0.z s0.w ∧ s'' = { s1 with acc := accT s0.z s0.w }) foc11 _ _ _ rfl ⟨accLd _, rfl⟩) fun a s2 hR => ?_
  obtain ⟨rfl, rfl⟩ := hR
  refine Tr.bind (Tr.load (Q := fun a s'' => a = s0.ws ∧ s'' = { s1 with acc := accT s0.z s0.w }) foc3 _ _ _ rfl ⟨(wsLd s1.ws).trans hI.ws, rfl⟩) fun a s2 hR => ?_
  obtain ⟨rfl, rfl⟩ := hR
  refine Tr.bind (Tr.load (Q := fun a s'' => s'' = { s1 with acc := accT s0.z s0.w }) foc4 _ _ _ rfl rfl) fun a s2 hR => ?_
  subst hR
  refine Tr.store foc4 _ _ _ _ _ ?_
  exact ⟨⟨hI.z, hI.w, hI.ws, hI.st, hI.codes⟩, accSt _ _⟩

theorem xsWith_hit (h : Fin 2) (X : Vec F S256x70 .f32) (w : FVec F S128x70 .f32) (r : Fin 128) (t : Fin 70) :
    (Rect.unit (s := S256x70) ![128 * h.val, 0] S128x70.size (xsInb h)).overlay X w (ix2 ⟨128 * h.val + r.val, rowIx h r⟩ t) = w (ix2 r t) := by
  refine ov_hit (Rect.unit (s := S256x70) ![128 * h.val, 0] S128x70.size (xsInb h)) X w _ (ix2 r t) fun a => ?_
  fin_cases a
  · show 128 * h.val + r.val = 128 * h.val + 1 * r.val; omega
  · show t.val = 0 + 1 * t.val; omega

theorem xsWith_miss (h h' : Fin 2) (hne : h' ≠ h) (X : Vec F S256x70 .f32) (w : FVec F S128x70 .f32) (r : Fin 128) (t : Fin 70) :
    (Rect.unit (s := S256x70) ![128 * h.val, 0] S128x70.size (xsInb h)).overlay X w (ix2 ⟨128 * h'.val + r.val, rowIx h' r⟩ t) = X (ix2 ⟨128 * h'.val + r.val, rowIx h' r⟩ t) := by
  refine ov_miss _ X _ _ 0 fun i hi e => hne (Fin.ext ?_)
  have e' : 128 * h'.val + r.val = 128 * h.val + 1 * i := e
  have hi' : i < 128 := hi
  omega

theorem scalesOf_apply (s : FVec F S72x128 .f32) (r : Fin 128) (t : Fin 70) : scalesOf s (ix2 r t) = s (ix2 (t.castLE (by decide)) r) := by
  unfold scalesOf
  refine (extractStridedSlice_apply _ _ _ _ (ix2 r (t.castLE (by decide) : Fin 128)) (fun a => by fin_cases a <;> exact (Nat.zero_add _).symm)).trans ?_
  refine (transpose_apply _ _ _ _ (ix2 (t.castLE (by decide) : Fin 128) r) (fun a => by fin_cases a <;> rfl)).trans ?_
  exact concatenate_pair_apply_left (t := S128x128) (s₁ := S72x128) (s₂ := S56x128) 0 s _ _ (ix2 (t.castLE (by decide) : Fin 128) r) rfl (ix2 (t.castLE (by decide) : Fin 72) r) (fun b => by fin_cases b <;> rfl)

theorem scalesHalf_tr (s0 : St F) (h : Fin 2) (s : St F) (hI : Fin' s0 s) :
    Tr c A (scalesHalf A.a6 A.a10 h) s (fun _ s' => Fin' s0 s' ∧ s'.out = s.out
      ∧ (∀ (r : Fin 128) (t : Fin 70), s'.xs (ix2 ⟨128 * h.val + r.val, rowIx h r⟩ t) = stAt s0.z h ⟨2 * t.val, by omega⟩ r)
      ∧ ∀ h', h' ≠ h → ∀ (r : Fin 128) (t : Fin 70), s'.xs (ix2 ⟨128 * h'.val + r.val, rowIx h' r⟩ t) = s.xs (ix2 ⟨128 * h'.val + r.val, rowIx h' r⟩ t)) := by
  unfold scalesHalf
  refine Tr.bind (Tr.load (Q := fun a s' => a = (fun j => s.st ((evRect h).idx j)) ∧ s' = s) foc10 _ _ s rfl ⟨rfl, rfl⟩) fun a s' hR => ?_
  obtain ⟨rfl, rfl⟩ := hR
  refine Tr.bind (Tr.load (Q := fun a s'' => s'' = s') foc6 _ _ s' rfl rfl) fun a s hR => ?_
  subst hR
  refine Tr.store foc6 _ _ _ _ s ?_
  refine ⟨⟨hI.z, hI.w, hI.ws, hI.st, hI.codes⟩, rfl, fun r t => (xsWith_hit h _ _ r t).trans ?_, fun h' hne r t => xsWith_miss h h' hne _ _ r t⟩
  rw [scalesOf_apply]
  refine (shapeCast_dropUnit_apply ![72, 128] _ _ (ix2 (t.castLE (by decide) : Fin 72) r)).trans ?_
  refine Eq.trans (congrArg s.st (funext fun a => Fin.ext ?_)) (hI.st h ⟨2 * t.val, by omega⟩ r)
  fin_cases a
  · show h.val + 1 * 0 = h.val; omega
  · show 0 + 2 * t.val = 2 * t.val; omega
  · show 0 + 1 * r.val = r.val; omega

/-- The body: the three output blocks are those values of the input blocks. -/
theorem body_tr (s0 : St F) :
    Tr c A (body A.a1 A.a2 A.a3 A.a4 A.h4 A.a5 A.h5 A.a6 A.a7 A.a8 A.a9 A.h9 A.a10 A.a11) s0 (fun _ s => s.z = s0.z ∧ s.w = s0.w ∧ s.ws = s0.ws
      ∧ s.out = outF s0.z s0.w s0.ws ∧ s.codes = codesF s0.z ∧ s.xs = xsF s0.z) := by
  unfold body
  refine Tr.bind (Tr.load (Q := fun a s' => s' = s0) foc11 _ _ s0 rfl rfl) fun a s hR => ?_
  subst hR
  refine Tr.bind (Tr.store (Q := fun _ s' => Inv s 0 s') foc11 _ _ _ _ s ⟨rfl, rfl, rfl, accSt _ _, fun _ _ _ h => by omega, fun _ _ h => by omega⟩) fun _ s1 hI => ?_
  refine Tr.bind (loop_tr s s1 hI) fun _ s2 hI => ?_
  refine Tr.bind (tail_tr s s2 hI) fun _ s3 hI => ?_
  obtain ⟨hI, hacc, hxq⟩ := hI
  refine Tr.bind (finale_tr s s3 hI hacc hxq) fun _ s4 hI => ?_
  obtain ⟨hI, hout⟩ := hI
  refine Tr.bind (scalesHalf_tr s 0 s4 hI) fun _ s5 hI => ?_
  obtain ⟨hI, ho, h0, -⟩ := hI
  refine (scalesHalf_tr s 1 s5 hI).mono fun _ s6 hI => ?_
  obtain ⟨hI, ho', h1, hk⟩ := hI
  refine ⟨hI.z, hI.w, hI.ws, ho'.trans (ho.trans hout), hI.codes, funext fun j => ?_⟩
  obtain ⟨R, t, rfl⟩ : ∃ (R : Fin 256) (t : Fin 70), j = ix2 R t := ⟨j 0, j 1, eq_ix2 j⟩
  have key : ∀ (h : Fin 2) (r : Fin 128), s6.xs (ix2 ⟨128 * h.val + r.val, rowIx h r⟩ t) = stAt s.z h ⟨2 * t.val, by omega⟩ r := by
    intro h r
    obtain rfl | rfl : h = 0 ∨ h = 1 := by omega
    · exact (hk 0 (by decide) r t).trans (h0 r t)
    · exact h1 r t
  have e : R = (⟨128 * (R.val / 128) + R.val % 128, by omega⟩ : Fin 256) := Fin.ext (by show R.val = 128 * (R.val / 128) + R.val % 128; omega)
  refine Eq.trans (congrArg (fun R => s6.xs (ix2 R t)) e) (key ⟨R.val / 128, by omega⟩ ⟨R.val % 128, by omega⟩)

end Cert.Kernel.Compact

end
-- ==== Proof.Kernel.Run.lean ====
/-
  The run of the kernel's body on whole buffers: the three output blocks end at the values of `Body.lean`.
-/
module

public import proofs.«01_k».proof.Proof.Kernel.Body

@[expose] public section

noncomputable section

namespace Cert.Kernel.Compact

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .vmem S64x144x256 .f32) (harg1 : arg1.IsWhole) (arg2 : Memref sig .tc .vmem S8960x1536 .fp8e4m3) (harg2 : arg2.IsWhole) (arg3 : Memref sig .tc .vmem S1x1536 .f32) (harg3 : arg3.IsWhole) (arg4 : Memref sig .tc .vmem S256x1536 .bf16) (harg4 : arg4.IsWhole) (arg5 : Memref sig .tc .vmem S256x8960 .fp8e4m3) (harg5 : arg5.IsWhole) (arg6 : Memref sig .tc .vmem S256x70 .f32) (harg6 : arg6.IsWhole) (arg7 : Memref sig .tc .vmem S2x544x128 .f32) (harg7 : arg7.IsWhole) (arg8 : Memref sig .tc .vmem S2x544x128 .f32) (harg8 : arg8.IsWhole) (arg9 : Memref sig .tc .vmem S256x512 .bf16) (harg9 : arg9.IsWhole) (arg10 : Memref sig .tc .vmem S2x144x128 .f32) (harg10 : arg10.IsWhole) (arg11 : Memref sig .tc .vmem S256x1536 .f32) (harg11 : arg11.IsWhole)

/-- THE BODY: on whole buffers holding `x0` (the rotated activations), `x1` (weight codes) and `x2` (column scales), with
    the output blocks and the scratch buffers at any contents, the body ends with the output blocks at `outF`, `codesF`
    and `xsF` and the inputs as they were. -/
theorem run (x0 : Vec F S64x144x256 .f32) (x1 : Vec F S8960x1536 .fp8e4m3) (x2 : Vec F S1x1536 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outF x0 x1 x2) ∗ owns (c : Thread nD τ) arg5 fullShare (codesF x0) ∗ owns (c : Thread nD τ) arg6 fullShare (xsF x0)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_hadamard_fp8_down_proj i arg1 harg1 arg2 harg2 arg3 harg3 arg4 harg4 arg5 harg5 arg6 harg6 arg7 harg7 arg8 harg8 arg9 harg9 arg10 harg10 arg11 harg11) K := by
  rw [body_eq]
  iintro ⟨H1, H2, H3, ⟨%d4, H4⟩, ⟨%d5, H5⟩, ⟨%d6, H6⟩, ⟨%d7, H7⟩, ⟨%d8, H8⟩, ⟨%d9, H9⟩, ⟨%d10, H10⟩, ⟨%d11, H11⟩, Hk⟩
  obtain ⟨⟨⟩, s', ⟨hz, hw, hws, hout, hcodes, hxs⟩, hE⟩ := body_tr (c := c) (A := ⟨arg1, arg2, arg3, arg4, arg5, arg6, arg7, arg8, arg9, arg10, arg11, harg4, harg5, harg9⟩)
    ⟨x0, x1, x2, d4, d5, d6, d7, d8, d9, d10, d11⟩
  iapply (hE E K)
  unfold Own
  isplitr [Hk]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  rw [hz, hw, hws, hout, hcodes, hxs]
  iintro ⟨H1, H2, H3, H4, H5, H6, H7, H8, H9, H10, H11⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

end Cert.Kernel.Compact

end
-- ==== Proof.Kernel.Frame.lean ====
/-
  The frame of `Kernel`: the pipeline's proof data with the output blocks at `outF`, `codesF` and `xsF` of the point's input blocks, the
  body obligation from `Compact.run`, and so the run of the whole program. The text follows the generated frames.
-/
module

public import proofs.«01_k».proof.Proof.Kernel.Run
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## What the outputs hold after each point -/

/-- The scratch buffers as memrefs, and the region's invariant with them owned at some contents. -/
abbrev scM0_0 : Memref sig .tc .vmem S2x544x128 .f32 := Memref.whole cc0_scratch0
abbrev scM0_1 : Memref sig .tc .vmem S2x544x128 .f32 := Memref.whole cc0_scratch1
abbrev scM0_2 : Memref sig .tc .vmem S256x512 .bf16 := Memref.whole cc0_scratch2
abbrev scM0_3 : Memref sig .tc .vmem S2x144x128 .f32 := Memref.whole cc0_scratch3
abbrev scM0_4 : Memref sig .tc .vmem S256x1536 .f32 := Memref.whole cc0_scratch4

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What the outputs' staging buffers hold after the body at point `t`. -/
def out0At (c : Dev nD) (t : Fin cfg0.N) : Vec F S256x1536 .bf16 := Compact.outF (iblk m c 0 t) (iblk m c 1 t) (iblk m c 2 t)
def out1At (c : Dev nD) (t : Fin cfg0.N) : Vec F S256x8960 .fp8e4m3 := Compact.codesF (iblk m c 0 t)
def out2At (c : Dev nD) (t : Fin cfg0.N) : Vec F S256x70 .f32 := Compact.xsF (iblk m c 0 t)

/-! ## The pipeline's proof data -/

/-- The proof data of the one pipeline on core `c`: the arrays as the region finds them (`V`); after the body at
    point `t` each input's buffer at its block and the outputs' at `out0At`, `out1At` and `out2At`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0At m c t
    | ⟨4, _⟩ => out1At m c t
    | ⟨5, _⟩ => out2At m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0At m c t := by dsimp only [dats]
theorem after0_4 (c : Dev nD) (t : Fin cfg0.N) : (dats m 0 c).after 4 t = out1At m c t := by dsimp only [dats]
theorem after0_5 (c : Dev nD) (t : Fin cfg0.N) : (dats m 0 c).after 5 t = out2At m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold out0At out1At out2At
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (Compact.run c (grid0.coords t) _ _ _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.KernelIdeal.Compact.lean ====
/-
  The body of the kernel written with its repetitions as recursions over lists: the same loads, stores and vector
  operations in the same order (`body_eq`).  At any float operations.
-/
module

public import proofs.«01_k».proof.Proof.Gen.KernelIdeal
public import Idealize.ShloMosaic.Lib.Tactic

@[expose] public section

set_option maxRecDepth 16384

noncomputable section

namespace Cert.KernelIdeal.Compact

open Cert.KernelIdeal Cert.KernelIdeal.Gen
open Idealize.ShloMosaic Idealize.ShloMosaic.TcCoe Idealize.ShloMosaic.Tactic
open Idealize.SL Idealize.SL.Sem

variable {F : FTy → Type} [FloatOps F]

/-- Programs of the kernel's body. -/
abbrev TP (F : FTy → Type) (α : Type) := Prog (TpuEff nD τ sig (Elt F) Λ₀ .tc) α

/-- `f` for each element of a list in turn, a value threaded through. -/
def foldP {α β : Type} (f : α → β → TP F α) : α → List β → TP F α
  | a, [] => pure a
  | a, p :: ps => f a p >>= fun a => foldP f a ps

/-- `f` for each element of a list in turn. -/
def eachP {β : Type} (f : β → TP F PUnit) : List β → TP F PUnit
  | [] => pure ⟨⟩
  | p :: ps => f p >>= fun _ => eachP f ps

/-! ## The vector operations -/

/-- A vector of eight rows, one value everywhere. -/
abbrev all8 (b : BitVec 32) : FVec F S8x128 .f32 := broadcast S8x128 (Scalar.ofBits .f32 b)

/-- One step of the search: `low` times `s` where that is at most `v`. -/
def lowStep (v low : FVec F S8x128 .f32) (s : BitVec 32) : FVec F S8x128 .f32 :=
  select (cmpf .oge v (mulf low (all8 s))) (mulf low (all8 s)) low

/-- The same step on the reciprocal: times `t` where `low` moves. -/
def invStep (v low inv : FVec F S8x128 .f32) (s t : BitVec 32) : FVec F S8x128 .f32 :=
  select (cmpf .oge v (mulf low (all8 s))) (mulf inv (all8 t)) inv

def low0 : FVec F S8x128 .f32 := all8 0x00800000#32
def low1 (v : FVec F S8x128 .f32) := lowStep v low0 0x7E800000#32
def low2 (v : FVec F S8x128 .f32) := lowStep v (low1 v) 0x5F800000#32
def low3 (v : FVec F S8x128 .f32) := lowStep v (low2 v) 0x4F800000#32
def low4 (v : FVec F S8x128 .f32) := lowStep v (low3 v) 0x47800000#32
def low5 (v : FVec F S8x128 .f32) := lowStep v (low4 v) 0x43800000#32
def low6 (v : FVec F S8x128 .f32) := lowStep v (low5 v) 0x41800000#32
def low7 (v : FVec F S8x128 .f32) := lowStep v (low6 v) 0x40800000#32
def low8 (v : FVec F S8x128 .f32) := lowStep v (low7 v) 0x40000000#32

def inv0 : FVec F S8x128 .f32 := all8 0x7E000000#32
def inv1 (v : FVec F S8x128 .f32) := invStep v low0 inv0 0x7E800000#32 0x00800000#32
def inv2 (v : FVec F S8x128 .f32) := invStep v (low1 v) (inv1 v) 0x5F800000#32 0x1F800000#32
def inv3 (v : FVec F S8x128 .f32) := invStep v (low2 v) (inv2 v) 0x4F800000#32 0x2F800000#32
def inv4 (v : FVec F S8x128 .f32) := invStep v (low3 v) (inv3 v) 0x47800000#32 0x37800000#32
def inv5 (v : FVec F S8x128 .f32) := invStep v (low4 v) (inv4 v) 0x43800000#32 0x3B800000#32
def inv6 (v : FVec F S8x128 .f32) := invStep v (low5 v) (inv5 v) 0x41800000#32 0x3D800000#32
def inv7 (v : FVec F S8x128 .f32) := invStep v (low6 v) (inv6 v) 0x40800000#32 0x3E800000#32
def inv8 (v : FVec F S8x128 .f32) := invStep v (low7 v) (inv7 v) 0x40000000#32 0x3F000000#32

/-- Where the scale is not 1: the scaled maximum is a normal number. -/
def plain (v : FVec F S8x128 .f32) : IVec S8x128 1 :=
  andi (cmpf .oge v low0) (cmpf .olt (mulf v (all8 0x3F000000#32)) (all8 0x7F000000#32))

/-- The scale of a group, from its scaled maximum. -/
def scaleOf (v : FVec F S8x128 .f32) : FVec F S8x128 .f32 :=
  select (plain v) (mulf (low8 v) (all8 0x40000000#32)) (all8 0x3F800000#32)

/-- The reciprocal of the scale of a group, from its scaled maximum. -/
def invOf (v : FVec F S8x128 .f32) : FVec F S8x128 .f32 := select (plain v) (inv8 v) (all8 0x3F800000#32)

/-- Which of the eight rows are even. -/
def even : IVec S8x128 1 :=
  cmpi .eq (remsi (iota .tc S8x128 32 [0] iota_S8x128_d0_w32) (broadcast S8x128 2#32)) (broadcast S8x128 0#32)

/-- The scaled maximum of a group from the maxima of its rows: each row with its neighbour. -/
def pairMax (a : FVec F S8x128 .f32) : FVec F S8x128 .f32 :=
  mulf (maximumf a (select even (dynamicRotate 0 7#32 none a rotates_S8x128_d0) (dynamicRotate 0 1#32 none a rotates_S8x128_d0)))
    (all8 0x3B124925#32)

/-- The codes of four blocks of rows, as f32. -/
def codes4 (y0 y1 y2 y3 inv : FVec F S8x128 .f32) : FVec F S32x128 .f32 :=
  extf .f32 (truncf .fp8e4m3 (minimumf (broadcast S32x128 (Scalar.ofBits .f32 0x43E00000#32)) (maximumf (broadcast S32x128 (Scalar.ofBits .f32 0xC3E00000#32))
    (concatenate S32x128 0 [⟨S8x128, mulf y0 inv⟩, ⟨S8x128, mulf y1 inv⟩, ⟨S8x128, mulf y2 inv⟩, ⟨S8x128, mulf y3 inv⟩] concatenates_S8x128_S8x128_S8x128_S8x128_S32x128_d0)))
    bitsLt_fp8e4m3_f32) bitsLt_fp8e4m3_f32

theorem slices4 : ∀ s : Fin 4, S32x128.Slices ![8 * s.val, 0] S8x128 := by decide

/-- One block of rows of the codes. -/
def part4 (q : FVec F S32x128 .f32) (s : Fin 4) : FVec F S8x128 .f32 :=
  extractStridedSlice S8x128 ![8 * s.val, 0] q (slices4 s)

/-- Codes times scale. -/
def xqOf (q scale : FVec F S8x128 .f32) : FVec F S8x128 .f32 :=
  extf .f32 (mulf (truncf .bf16 q bitsLt_bf16_f32) (truncf .bf16 scale bitsLt_bf16_f32)) bitsLt_bf16_f32

/-- Two half columns side by side, transposed. -/
def turn (a b : FVec F S64x128 .f32) : FVec F S128x128 .f32 :=
  transpose S128x128 [1, 0] (concatenate S128x128 0 [⟨S64x128, a⟩, ⟨S64x128, b⟩] concatenates_S64x128_S64x128_S128x128_d0) transposes_S128x128_p1_0_S128x128

/-! ## The accesses -/

theorem zInb (p : Fin 64) (row : ℕ) (hrow : row + 8 ≤ 144) (h : Fin 2) :
    ∀ a, (![p.val, row, 128 * h.val] : Fin 3 → ℕ) a + S1x8x128.size a ≤ S64x144x256.size a := by
  intro a; have := p.2; have := h.2
  fin_cases a <;> simp [S1x8x128, S64x144x256] <;> omega

theorem stInb (row : ℕ) (hrow : row + 8 ≤ 144) (h : Fin 2) :
    ∀ a, (![h.val, row, 0] : Fin 3 → ℕ) a + S1x8x128.size a ≤ S2x144x128.size a := by
  intro a; have := h.2
  fin_cases a <;> simp [S1x8x128, S2x144x128] <;> omega

theorem ctInb (p : ℕ) (hp : p < 64) (h : Fin 2) :
    ∀ a, S1x8x128.size a = 0 ∨ (![h.val, p, 0] : Fin 3 → ℕ) a + (![1, 68, 1] : Fin 3 → ℕ) a * (S1x8x128.size a - 1) < S2x544x128.size a := by
  intro a; have := h.2; right
  fin_cases a <;> simp [S1x8x128, S2x544x128] <;> omega

theorem rdInb (r : ℕ) (hr : r + 64 ≤ 544) (h : Fin 2) :
    ∀ a, (![h.val, r, 0] : Fin 3 → ℕ) a + S1x64x128.size a ≤ S2x544x128.size a := by
  intro a; have := h.2
  fin_cases a <;> simp [S1x64x128, S2x544x128] <;> omega

theorem coInb (col : ℕ) (hc : col + 128 ≤ 8960) (h : Fin 2) :
    ∀ a, (![128 * h.val, col] : Fin 2 → ℕ) a + S128x128.size a ≤ S256x8960.size a := by
  intro a; have := h.2
  fin_cases a <;> simp [S128x128, S256x8960] <;> omega

theorem xqInb (g : Fin 4) (h : Fin 2) :
    ∀ a, (![128 * h.val, 128 * g.val] : Fin 2 → ℕ) a + S128x128.size a ≤ S256x512.size a := by
  intro a; have := h.2; have := g.2
  fin_cases a <;> simp [S128x128, S256x512] <;> omega

theorem coPacked (col : ℕ) (hc : col + 128 ≤ 8960) (h : Fin 2) :
    (Rect.unit (s := S256x8960) ![128 * h.val, col] S128x128.size (coInb col hc h)).PackedRows (EltTy.packing .fp8e4m3) :=
  .inr ⟨by decide, rfl, .inl ⟨⟨32 * h.val, by show 128 * h.val = 4 * (32 * h.val); omega⟩, ⟨32, rfl⟩⟩⟩

theorem xqPacked (g : Fin 4) (h : Fin 2) :
    (Rect.unit (s := S256x512) ![128 * h.val, 128 * g.val] S128x128.size (xqInb g h)).PackedRows (EltTy.packing .bf16) :=
  .inr ⟨by decide, rfl, .inl ⟨⟨64 * h.val, by show 128 * h.val = 2 * (64 * h.val); omega⟩, ⟨64, rfl⟩⟩⟩

/-- The rectangle of the eight rows of a strided access. -/
def ctRect (p : ℕ) (hp : p < 64) (h : Fin 2) : LoadRect S2x544x128 := ⟨![h.val, p, 0], S1x8x128.size, ![1, 68, 1], ctInb p hp h⟩

theorem ctPos : ∀ a, 0 < (![1, 68, 1] : Fin 3 → ℕ) a := spos_1_68_1

/-! ## The body -/

/-- The rows of the block in the order in which their maximum is taken. -/
def order : List (Fin 64) :=
  [0, 4, 8, 12, 16, 20, 24, 28, 32, 36, 40, 44, 48, 52, 56, 60,
   1, 5, 9, 13, 17, 21, 25, 29, 33, 37, 41, 45, 49, 53, 57, 61,
   2, 6, 10, 14, 18, 22, 26, 30, 34, 38, 42, 46, 50, 54, 58, 62,
   3, 7, 11, 15, 19, 23, 27, 31, 35, 39, 43, 47, 51, 55, 59, 63]

def sixteen : List (Fin 16) := [0, 1, 2, 3, 4, 5, 6, 7, 8, 9, 10, 11, 12, 13, 14, 15]

section
variable (arg1 : Memref sig .tc .vmem S64x144x256 .f32) (harg1 : arg1.IsWhole) (arg2 : Memref sig .tc .vmem S8960x1536 .fp8e4m3) (harg2 : arg2.IsWhole) (arg3 : Memref sig .tc .vmem S1x1536 .f32) (harg3 : arg3.IsWhole) (arg4 : Memref sig .tc .vmem S256x1536 .bf16) (harg4 : arg4.IsWhole) (arg5 : Memref sig .tc .vmem S256x8960 .fp8e4m3) (harg5 : arg5.IsWhole) (arg6 : Memref sig .tc .vmem S256x70 .f32) (harg6 : arg6.IsWhole) (arg7 : Memref sig .tc .vmem S2x544x128 .f32) (harg7 : arg7.IsWhole) (arg8 : Memref sig .tc .vmem S2x544x128 .f32) (harg8 : arg8.IsWhole) (arg9 : Memref sig .tc .vmem S256x512 .bf16) (harg9 : arg9.IsWhole) (arg10 : Memref sig .tc .vmem S2x144x128 .f32) (harg10 : arg10.IsWhole) (arg11 : Memref sig .tc .vmem S256x1536 .f32) (harg11 : arg11.IsWhole)

/-- Eight rows of the input block. -/
def zld (row : ℕ) (hrow : row + 8 ≤ 144) (h : Fin 2) (p : Fin 64) : TP F (FVec F S8x128 .f32) :=
  Prog.lift (.load arg1 (Rect.unit (s := S64x144x256) ![p.val, row, 128 * h.val] S1x8x128.size (zInb p row hrow h)).toLoadRect (View.loadsAt_vmem h_S1x8x128)) >>= fun v =>
  pure (shapeCast S8x128 v shapeCasts_S1x8x128_S8x128)

/-- The scaled group maxima of a block, their scales stored. -/
def finish (row : ℕ) (hrow : row + 8 ≤ 144) (h : Fin 2) : TP F (FVec F S8x128 .f32) :=
  foldP (fun a p => zld arg1 row hrow h p >>= fun y => pure (maximumf a (absf y))) (all8 0#32) order >>= fun a =>
  Prog.lift (.load arg10 (Rect.unit (s := S2x144x128) ![h.val, row, 0] S1x8x128.size (stInb row hrow h)).toLoadRect (View.loadsAt_vmem h_S1x8x128)) >>= fun _ =>
  Prog.lift (.store arg10 (Rect.unit (s := S2x144x128) ![h.val, row, 0] S1x8x128.size (stInb row hrow h)) (shapeCast S1x8x128 (scaleOf (pairMax a)) shapeCasts_S8x128_S1x8x128) Finset.univ (View.stores_vmem_bits_univ h_S1x8x128 rfl) (.inl rfl)) >>= fun _ =>
  pure (pairMax a)

/-- The codes of rows `4 i … 4 i + 3` of a block. -/
def quant4 (row : ℕ) (hrow : row + 8 ≤ 144) (inv : FVec F S8x128 .f32) (h : Fin 2) (i : Fin 16) : TP F (FVec F S32x128 .f32) :=
  zld arg1 row hrow h ⟨4 * i.val + 0, by omega⟩ >>= fun y0 =>
  zld arg1 row hrow h ⟨4 * i.val + 1, by omega⟩ >>= fun y1 =>
  zld arg1 row hrow h ⟨4 * i.val + 2, by omega⟩ >>= fun y2 =>
  zld arg1 row hrow h ⟨4 * i.val + 3, by omega⟩ >>= fun y3 =>
  pure (codes4 y0 y1 y2 y3 inv)

/-- A strided store of eight rows. -/
def putRows (arg : Memref sig .tc .vmem S2x544x128 .f32) (p : ℕ) (hp : p < 64) (h : Fin 2) (w : FVec F S8x128 .f32) : TP F PUnit :=
  Prog.lift (.load arg (ctRect p hp h) (View.loadsAt_vmem h_S1x8x128)) >>= fun _ =>
  Prog.lift (.store arg ⟨ctRect p hp h, ctPos⟩ (shapeCast S1x8x128 w shapeCasts_S8x128_S1x8x128) Finset.univ (View.stores_vmem_bits_univ h_S1x8x128 rfl) (.inl rfl))

/-- The stores of one row of codes and of codes times scale, for both halves. -/
def put (i : Fin 16) (q0 q1 : FVec F S32x128 .f32) (s0 s1 : FVec F S8x128 .f32) (s : Fin 4) : TP F PUnit :=
  putRows arg7 (4 * i.val + s.val) (by omega) 0 (part4 q0 s) >>= fun _ =>
  putRows arg8 (4 * i.val + s.val) (by omega) 0 (xqOf (part4 q0 s) s0) >>= fun _ =>
  putRows arg7 (4 * i.val + s.val) (by omega) 1 (part4 q1 s) >>= fun _ =>
  putRows arg8 (4 * i.val + s.val) (by omega) 1 (xqOf (part4 q1 s) s1)

/-- Rows `4 i … 4 i + 3` of a block, quantised and stored. -/
def quantise (row : ℕ) (hrow : row + 8 ≤ 144) (v0 v1 : FVec F S8x128 .f32) (i : Fin 16) : TP F PUnit :=
  quant4 arg1 row hrow (invOf v0) 0 i >>= fun q0 =>
  quant4 arg1 row hrow (invOf v1) 1 i >>= fun q1 =>
  eachP (put arg7 arg8 i q0 q1 (scaleOf v0) (scaleOf v1)) [0, 1, 2, 3]

/-- Sixty-four rows of a scratch buffer. -/
def get64 (arg : Memref sig .tc .vmem S2x544x128 .f32) (r : ℕ) (hr : r + 64 ≤ 544) (h : Fin 2) : TP F (FVec F S64x128 .f32) :=
  Prog.lift (.load arg (Rect.unit (s := S2x544x128) ![h.val, r, 0] S1x64x128.size (rdInb r hr h)).toLoadRect (View.loadsAt_vmem h_S1x64x128)) >>= fun v =>
  pure (shapeCast S64x128 v shapeCasts_S1x64x128_S64x128)

/-- One group of one half: its codes to the output block, its codes times scale to the scratch of the product. -/
def emitHalf (col : Fin 4 → ℕ) (hcol : ∀ g, col g + 128 ≤ 8960)
    (g : Fin 4) (h : Fin 2) : TP F PUnit :=
  get64 arg7 (68 * (2 * g.val)) (by omega) h >>= fun a =>
  get64 arg7 (68 * (2 * g.val + 1)) (by omega) h >>= fun b =>
  Prog.lift (.load arg5 (Rect.unit (s := S256x8960) ![128 * h.val, col g] S128x128.size (coInb (col g) (hcol g) h)).toLoadRect (View.loadsAt_vmem h_S128x128)) >>= fun _ =>
  Prog.lift (.store arg5 (Rect.unit (s := S256x8960) ![128 * h.val, col g] S128x128.size (coInb (col g) (hcol g) h)) (truncf .fp8e4m3 (turn a b) bitsLt_fp8e4m3_f32) Finset.univ (View.stores_vmem h_S128x128 (harg5.storeExact_slice rfl _ (coPacked (col g) (hcol g) h)) (fun _ => rfl)) (.inl rfl)) >>= fun _ =>
  get64 arg8 (68 * (2 * g.val)) (by omega) h >>= fun a =>
  get64 arg8 (68 * (2 * g.val + 1)) (by omega) h >>= fun b =>
  Prog.lift (.load arg9 (Rect.unit (s := S256x512) ![128 * h.val, 128 * g.val] S128x128.size (xqInb g h)).toLoadRect (View.loadsAt_vmem h_S128x128)) >>= fun _ =>
  Prog.lift (.store arg9 (Rect.unit (s := S256x512) ![128 * h.val, 128 * g.val] S128x128.size (xqInb g h)) (shapeCast S128x128 (truncf .bf16 (turn a b) bitsLt_bf16_f32) shapeCasts_S128x128_S128x128) Finset.univ (View.stores_vmem h_S128x128 (harg9.storeExact_slice rfl _ (xqPacked g h)) (fun _ => rfl)) (.inl rfl))

/-- One group of a block, both halves. -/
def emit (col : Fin 4 → ℕ) (hcol : ∀ g, col g + 128 ≤ 8960)
    (g : Fin 4) : TP F PUnit :=
  emitHalf arg5 harg5 arg7 arg8 arg9 harg9 col hcol g 0 >>= fun _ => emitHalf arg5 harg5 arg7 arg8 arg9 harg9 col hcol g 1

/-- A block up to its product: quantised, `gs` of its groups written out. -/
def block (row : ℕ) (hrow : row + 8 ≤ 144) (col : Fin 4 → ℕ) (hcol : ∀ g, col g + 128 ≤ 8960)
    (gs : List (Fin 4)) : TP F PUnit :=
  finish arg1 arg10 row hrow 0 >>= fun v0 =>
  finish arg1 arg10 row hrow 1 >>= fun v1 =>
  eachP (quantise arg1 arg7 arg8 row hrow v0 v1) sixteen >>= fun _ =>
  eachP (emit arg5 harg5 arg7 arg8 arg9 harg9 col hcol) gs

/-- The words of trip `k`: the first row and the columns of its groups. -/
def rowW (k : Fin k0_t1_loop.trips) : ℕ := (Scalar.indexCast (Scalar.muli (Scf.iv 0#32 1#32 k) 8#32)).toNat
def colW (k : Fin k0_t1_loop.trips) (g : Fin 4) : ℕ :=
  (Scalar.indexCast (Scalar.addi (Scalar.muli (Scf.iv 0#32 1#32 k) 512#32) (BitVec.ofNat 32 (128 * g.val)))).toNat

theorem rowW_le (k : Fin k0_t1_loop.trips) : rowW k + 8 ≤ 144 := k0_off1_inb k 1
theorem colW_le (k : Fin k0_t1_loop.trips) (g : Fin 4) : colW k g + 128 ≤ 8960 := k0_off131_inb k g 1

/-- One trip of the loop. -/
def trip (k : Fin k0_t1_loop.trips) : TP F PUnit :=
  block arg1 arg5 harg5 arg7 arg8 arg9 harg9 arg10 (rowW k) (rowW_le k) (colW k) (colW_le k) [0, 1, 2, 3] >>= fun _ =>
  Prog.lift (.load arg2 (Rect.unit (s := S8960x1536) (k0_off133 k) S512x1536.size (k0_off133_inb k)).toLoadRect (View.loadsAt_vmem h_S512x1536)) >>= fun (w : Vec F S512x1536 .fp8e4m3) =>
  Prog.lift (.load arg11 (Rect.unit (s := S256x1536) ![0, 0] S256x1536.size inb_S256x1536_S256x1536_0_0).toLoadRect (View.loadsAt_vmem h_S256x1536)) >>= fun (a : Vec F S256x1536 .f32) =>
  Prog.lift (.load arg9 (Rect.unit (s := S256x512) ![0, 0] S256x512.size inb_S256x512_S256x512_0_0).toLoadRect (View.loadsAt_vmem h_S256x512)) >>= fun (x : Vec F S256x512 .bf16) =>
  Prog.lift (.load arg11 (Rect.unit (s := S256x1536) ![0, 0] S256x1536.size inb_S256x1536_S256x1536_0_0).toLoadRect (View.loadsAt_vmem h_S256x1536)) >>= fun _ =>
  Prog.lift (.store arg11 (Rect.unit (s := S256x1536) ![0, 0] S256x1536.size inb_S256x1536_S256x1536_0_0)
    (shapeCast S256x1536 (addf a (matmul dot_S256x512_S512x1536_S256x1536_1_0_0_1_n_n none x w (constant S256x1536 .f32 0x00000000#32))) shapeCasts_S256x1536_S256x1536)
    Finset.univ (View.stores_vmem_bits_univ h_S256x1536 rfl) (.inl rfl))

/-- The trip as printed. -/
def tripP (i : grid0.Coords) (k0_t1 : Fin k0_t1_loop.trips) : TP F PUnit := do
    let c0_i32 : BitVec 32 := 0#32
    let c1_i32 : BitVec 32 := 1#32
    let ⟨arg12, v3520, v3937, v3943, v3944, v3945, v5423, v5427, v5431⟩ : Σ' (arg12 : BitVec 32) (v3520 : FVec F S8x128 .f32) (v3937 : FVec F S8x128 .f32) (v3943 : BitVec 32) (v3944 : FVec F S8x128 .bf16) (v3945 : FVec F S8x128 .bf16) (v5423 : FVec F S8x128 .f32) (v5427 : FVec F S8x128 .f32), FVec F S8x128 .f32 ← k0_part84 i arg1 harg1 arg2 harg2 arg3 harg3 arg4 harg4 arg5 harg5 arg6 harg6 arg7 harg7 arg8 harg8 arg9 harg9 arg10 harg10 arg11 harg11 c0_i32 c1_i32 k0_t1
    let ⟨v5442, v5465, v5473⟩ : Σ' (v5442 : FVec F S32x128 .f32) (v5465 : FVec F S32x128 .f32), FVec F S8x128 .f32 ← k0_part61 i arg1 harg1 arg2 harg2 arg3 harg3 arg4 harg4 arg5 harg5 arg6 harg6 arg7 harg7 arg8 harg8 arg9 harg9 arg10 harg10 arg11 harg11 k0_t1 v3520 v3937 v3943 v3944 v5423 v5427 v5431
    let v5506 : FVec F S8x128 .f32 ← k0_part62 i arg1 harg1 arg2 harg2 arg3 harg3 arg4 harg4 arg5 harg5 arg6 harg6 arg7 harg7 arg8 harg8 arg9 harg9 arg10 harg10 arg11 harg11 v3944 v3945 v5442 v5465 v5473
    let v5543 : FVec F S8x128 .f32 ← k0_part63 i arg1 harg1 arg2 harg2 arg3 harg3 arg4 harg4 arg5 harg5 arg6 harg6 arg7 harg7 arg8 harg8 arg9 harg9 arg10 harg10 arg11 harg11 v3944 v3945 v5442 v5465 v5506
    let ⟨v5576, v5580⟩ : Σ' (v5576 : FVec F S32x128 .f32), FVec F S8x128 .f32 ← k0_part64 i arg1 harg1 arg2 harg2 arg3 harg3 arg4 harg4 arg5 harg5 arg6 harg6 arg7 harg7 arg8 harg8 arg9 harg9 arg10 harg10 arg11 harg11 k0_t1 v3520 v3937 v3943 v3945 v5465 v5543
    let ⟨v5599, v5618⟩ : Σ' (v5599 : FVec F S32x128 .f32), FVec F S8x128 .f32 ← k0_part65 i arg1 harg1 arg2 harg2 arg3 harg3 arg4 harg4 arg5 harg5 arg6 harg6 arg7 harg7 arg8 harg8 arg9 harg9 arg10 harg10 arg11 harg11 k0_t1 v3937 v3943 v3944 v3945 v5576 v5580
    let v5655 : FVec F S8x128 .f32 ← k0_part66 i arg1 harg1 arg2 harg2 arg3 harg3 arg4 harg4 arg5 harg5 arg6 harg6 arg7 harg7 arg8 harg8 arg9 harg9 arg10 harg10 arg11 harg11 v3944 v3945 v5576 v5599 v5618
    let v5689 : Vec F S1x8x128 .f32 ← k0_part67 i arg1 harg1 arg2 harg2 arg3 harg3 arg4 harg4 arg5 harg5 arg6 harg6 arg7 harg7 arg8 harg8 arg9 harg9 arg10 harg10 arg11 harg11 k0_t1 v3943 v3944 v3945 v5576 v5599 v5655
    let ⟨v5710, v5731⟩ : Σ' (v5710 : FVec F S32x128 .f32), FVec F S32x128 .f32 ← k0_part68 i arg1 harg1 arg2 harg2 arg3 harg3 arg4 harg4 arg5 harg5 arg6 harg6 arg7 harg7 arg8 harg8 arg9 harg9 arg10 harg10 arg11 harg11 k0_t1 v3520 v3937 v3943 v5689
    let ⟨v5733, v5767⟩ : Σ' (v5733 : FVec F S32x128 .f32), FVec F S8x128 .f32 ← k0_part69 i arg1 harg1 arg2 harg2 arg3 harg3 arg4 harg4 arg5 harg5 arg6 harg6 arg7 harg7 arg8 harg8 arg9 harg9 arg10 harg10 arg11 harg11 v3944 v3945 v5710 v5731
    let v5800 : FVec F S8x128 .f32 ← k0_part70 i arg1 harg1 arg2 harg2 arg3 harg3 arg4 harg4 arg5 harg5 arg6 harg6 arg7 harg7 arg8 harg8 arg9 harg9 arg10 harg10 arg11 harg11 v3944 v3945 v5710 v5733 v5767
    let ⟨v5838, cst_2734⟩ : Σ' (v5838 : FVec F S32x128 .f32), F .f32 ← k0_part71 i arg1 harg1 arg2 harg2 arg3 harg3 arg4 harg4 arg5 harg5 arg6 harg6 arg7 harg7 arg8 harg8 arg9 harg9 arg10 harg10 arg11 harg11 k0_t1 v3520 v3943 v3944 v3945 v5710 v5733 v5800
    let ⟨v5844, v5867, v5879⟩ : Σ' (v5844 : FVec F S32x128 .f32) (v5867 : FVec F S32x128 .f32), FVec F S8x128 .f32 ← k0_part72 i arg1 harg1 arg2 harg2 arg3 harg3 arg4 harg4 arg5 harg5 arg6 harg6 arg7 harg7 arg8 harg8 arg9 harg9 arg10 harg10 arg11 harg11 k0_t1 v3937 v3943 v3944 v5838 cst_2734
    let v5912 : FVec F S8x128 .f32 ← k0_part73 i arg1 harg1 arg2 harg2 arg3 harg3 arg4 harg4 arg5 harg5 arg6 harg6 arg7 harg7 arg8 harg8 arg9 harg9 arg10 harg10 arg11 harg11 v3944 v3945 v5844 v5867 v5879
    let v5948 : FVec F S1x8x128 .f32 ← k0_part74 i arg1 harg1 arg2 harg2 arg3 harg3 arg4 harg4 arg5 harg5 arg6 harg6 arg7 harg7 arg8 harg8 arg9 harg9 arg10 harg10 arg11 harg11 v3944 v3945 v5844 v5867 v5912
    let ⟨v5978, v5982, v5986⟩ : Σ' (v5978 : FVec F S32x128 .f32) (v5982 : FVec F S8x128 .f32), FVec F S8x128 .f32 ← k0_part75 i arg1 harg1 arg2 harg2 arg3 harg3 arg4 harg4 arg5 harg5 arg6 harg6 arg7 harg7 arg8 harg8 arg9 harg9 arg10 harg10 arg11 harg11 k0_t1 v3520 v3937 v3943 v3945 v5867 v5948
    let ⟨v6001, v6024⟩ : Σ' (v6001 : FVec F S32x128 .f32), FVec F S8x128 .f32 ← k0_part76 i arg1 harg1 arg2 harg2 arg3 harg3 arg4 harg4 arg5 harg5 arg6 harg6 arg7 harg7 arg8 harg8 arg9 harg9 arg10 harg10 arg11 harg11 k0_t1 v3937 v3943 v3944 v3945 v5978 v5982 v5986
    let v6060 : FVec F S1x8x128 .f32 ← k0_part77 i arg1 harg1 arg2 harg2 arg3 harg3 arg4 harg4 arg5 harg5 arg6 harg6 arg7 harg7 arg8 harg8 arg9 harg9 arg10 harg10 arg11 harg11 v3944 v3945 v5978 v6001 v6024
    let ⟨v6092, v6094⟩ : Σ' (v6092 : BitVec 32), FVec F S64x128 .f32 ← k0_part78 i arg1 harg1 arg2 harg2 arg3 harg3 arg4 harg4 arg5 harg5 arg6 harg6 arg7 harg7 arg8 harg8 arg9 harg9 arg10 harg10 arg11 harg11 arg12 v3944 v3945 v5978 v6001 v6060
    let v6126 : FVec F S128x128 .f32 ← k0_part79 i arg1 harg1 arg2 harg2 arg3 harg3 arg4 harg4 arg5 harg5 arg6 harg6 arg7 harg7 arg8 harg8 arg9 harg9 arg10 harg10 arg11 harg11 k0_t1 v6092 v6094
    let ⟨v6133, v6158⟩ : Σ' (v6133 : BitVec 32), FVec F S128x128 .f32 ← k0_part80 i arg1 harg1 arg2 harg2 arg3 harg3 arg4 harg4 arg5 harg5 arg6 harg6 arg7 harg7 arg8 harg8 arg9 harg9 arg10 harg10 arg11 harg11 k0_t1 arg12 v6126
    let ⟨v6174, v6190⟩ : Σ' (v6174 : BitVec 32), FVec F S128x128 .bf16 ← k0_part81 i arg1 harg1 arg2 harg2 arg3 harg3 arg4 harg4 arg5 harg5 arg6 harg6 arg7 harg7 arg8 harg8 arg9 harg9 arg10 harg10 arg11 harg11 k0_t1 arg12 v6133 v6158
    let ⟨v6215, v6222⟩ : Σ' (v6215 : BitVec 32), FVec F S128x128 .fp8e4m3 ← k0_part82 i arg1 harg1 arg2 harg2 arg3 harg3 arg4 harg4 arg5 harg5 arg6 harg6 arg7 harg7 arg8 harg8 arg9 harg9 arg10 harg10 arg11 harg11 k0_t1 arg12 v6174 v6190
    let v6254 : BitVec 32 ← k0_part83 i arg1 harg1 arg2 harg2 arg3 harg3 arg4 harg4 arg5 harg5 arg6 harg6 arg7 harg7 arg8 harg8 arg9 harg9 arg10 harg10 arg11 harg11 k0_t1 arg12 v6215 v6222
    let v6255 : BitVec 32 := v6254
    let v6256 : Index := Scalar.indexCast v6255
    let c0_2981 : Index := 0#32
    let v6257 : Vec F S512x1536 .fp8e4m3 ← Prog.lift (.load arg2 (Rect.unit (s := S8960x1536) (k0_off133 k0_t1) S512x1536.size (k0_off133_inb k0_t1)).toLoadRect (View.loadsAt_vmem h_S512x1536))
    let c0_2982 : Index := 0#32
    let c0_2983 : Index := 0#32
    let v6258 : Vec F S256x1536 .f32 ← Prog.lift (.load arg11 (Rect.unit (s := S256x1536) ![0, 0] S256x1536.size inb_S256x1536_S256x1536_0_0).toLoadRect (View.loadsAt_vmem h_S256x1536))
    let c0_2984 : Index := 0#32
    let c0_2985 : Index := 0#32
    let v6259 : Vec F S256x512 .bf16 ← Prog.lift (.load arg9 (Rect.unit (s := S256x512) ![0, 0] S256x512.size inb_S256x512_S256x512_0_0).toLoadRect (View.loadsAt_vmem h_S256x512))
    have cst_2986 : FVec F S256x1536 .f32 := constant S256x1536 .f32 0x00000000#32
    have v6260 : FVec F S256x1536 .f32 := matmul dot_S256x512_S512x1536_S256x1536_1_0_0_1_n_n none v6259 v6257 cst_2986
    have v6261 : FVec F S256x1536 .f32 := addf v6258 v6260
    let c0_2987 : Index := 0#32
    let c0_2988 : Index := 0#32
    let v6262 : Vec F S256x1536 .f32 ← Prog.lift (.load arg11 (Rect.unit (s := S256x1536) ![0, 0] S256x1536.size inb_S256x1536_S256x1536_0_0).toLoadRect (View.loadsAt_vmem h_S256x1536))
    have v6263 : FVec F S256x1536 .f32 := shapeCast S256x1536 v6262 shapeCasts_S256x1536_S256x1536
    have v6264 : FVec F S256x1536 .f32 := shapeCast S256x1536 v6261 shapeCasts_S256x1536_S256x1536
    Prog.lift (.store arg11 (Rect.unit (s := S256x1536) ![0, 0] S256x1536.size inb_S256x1536_S256x1536_0_0) v6264 Finset.univ (View.stores_vmem_bits_univ h_S256x1536 rfl) (.inl rfl))
    pure ⟨⟩

/-- The printed trip is the compact one. -/
theorem trip_eq (i : grid0.Coords) (k : Fin k0_t1_loop.trips) :
    tripP (F := F) arg1 harg1 arg2 harg2 arg3 harg3 arg4 harg4 arg5 harg5 arg6 harg6 arg7 harg7 arg8 harg8 arg9 harg9 arg10 harg10 arg11 harg11 i k
      = trip arg1 arg2 arg5 harg5 arg7 arg8 arg9 harg9 arg10 arg11 k := by
  sl_kernel_rfl

/-- The columns of the two groups after the loop. -/
def colT (g : Fin 4) : ℕ := if g.val < 2 then 8704 + 128 * g.val else 0

theorem colT_le (g : Fin 4) : colT g + 128 ≤ 8960 := by unfold colT; split <;> omega

/-- The scales of one half, from the scratch: rows turned into columns. -/
def scalesOf (s : FVec F S72x128 .f32) : FVec F S128x70 .f32 :=
  extractStridedSlice S128x70 ![0, 0] (transpose S128x128 [1, 0] (concatenate S128x128 0 [⟨S72x128, s⟩, ⟨S56x128, broadcast S56x128 (Scalar.ofBits .f32 0x00000000#32)⟩] concatenates_S72x128_S56x128_S128x128_d0) transposes_S128x128_p1_0_S128x128) slices_S128x128_o0_0_S128x70

theorem evInb (h : Fin 2) :
    ∀ a, S1x72x128.size a = 0 ∨ (![h.val, 0, 0] : Fin 3 → ℕ) a + (![1, 2, 1] : Fin 3 → ℕ) a * (S1x72x128.size a - 1) < S2x144x128.size a := by
  intro a; have := h.2; right
  fin_cases a <;> simp [S1x72x128, S2x144x128] <;> omega

theorem xsInb (h : Fin 2) : ∀ a, (![128 * h.val, 0] : Fin 2 → ℕ) a + S128x70.size a ≤ S256x70.size a := by
  intro a; have := h.2
  fin_cases a <;> simp [S128x70, S256x70] <;> omega

/-- The even rows of one half of the scales. -/
def evRect (h : Fin 2) : LoadRect S2x144x128 := ⟨![h.val, 0, 0], S1x72x128.size, ![1, 2, 1], evInb h⟩

/-- One half of the scales, written out. -/
def scalesHalf (h : Fin 2) : TP F PUnit :=
  Prog.lift (.load arg10 (evRect h) (View.loadsAt_vmem h_S1x72x128)) >>= fun v =>
  Prog.lift (.load arg6 (Rect.unit (s := S256x70) ![128 * h.val, 0] S128x70.size (xsInb h)).toLoadRect (View.loadsAt_vmem h_S128x70)) >>= fun _ =>
  Prog.lift (.store arg6 (Rect.unit (s := S256x70) ![128 * h.val, 0] S128x70.size (xsInb h)) (scalesOf (shapeCast S72x128 v shapeCasts_S1x72x128_S72x128)) Finset.univ (View.stores_vmem_bits_univ h_S128x70 rfl) (.inl rfl))

/-- The product of the two groups after the loop, and the output. -/
def finale : TP F PUnit :=
  Prog.lift (.load arg2 (Rect.unit (s := S8960x1536) ![8704, 0] S256x1536.size inb_S8960x1536_S256x1536_8704_0).toLoadRect (View.loadsAt_vmem h_S256x1536)) >>= fun (w : Vec F S256x1536 .fp8e4m3) =>
  Prog.lift (.load arg11 (Rect.unit (s := S256x1536) ![0, 0] S256x1536.size inb_S256x1536_S256x1536_0_0).toLoadRect (View.loadsAt_vmem h_S256x1536)) >>= fun (a : Vec F S256x1536 .f32) =>
  Prog.lift (.load arg9 (Rect.unit (s := S256x512) ![0, 0] S256x256.size inb_S256x512_S256x256_0_0).toLoadRect (View.loadsAt_vmem h_S256x256)) >>= fun (x : Vec F S256x256 .bf16) =>
  Prog.lift (.load arg11 (Rect.unit (s := S256x1536) ![0, 0] S256x1536.size inb_S256x1536_S256x1536_0_0).toLoadRect (View.loadsAt_vmem h_S256x1536)) >>= fun _ =>
  Prog.lift (.store arg11 (Rect.unit (s := S256x1536) ![0, 0] S256x1536.size inb_S256x1536_S256x1536_0_0)
    (shapeCast S256x1536 (addf a (matmul dot_S256x256_S256x1536_S256x1536_1_0_0_1_n_n none x w (constant S256x1536 .f32 0x00000000#32))) shapeCasts_S256x1536_S256x1536)
    Finset.univ (View.stores_vmem_bits_univ h_S256x1536 rfl) (.inl rfl)) >>= fun _ =>
  Prog.lift (.load arg11 (Rect.unit (s := S256x1536) ![0, 0] S256x1536.size inb_S256x1536_S256x1536_0_0).toLoadRect (View.loadsAt_vmem h_S256x1536)) >>= fun (a : Vec F S256x1536 .f32) =>
  Prog.lift (.load arg3 (Rect.unit (s := S1x1536) ![0, 0] S1x1536.size inb_S1x1536_S1x1536_0_0).toLoadRect (View.loadsAt_vmem h_S1x1536)) >>= fun (ws : Vec F S1x1536 .f32) =>
  Prog.lift (.load arg4 (Rect.unit (s := S256x1536) ![0, 0] S256x1536.size inb_S256x1536_S256x1536_0_0).toLoadRect (View.loadsAt_vmem h_S256x1536)) >>= fun _ =>
  Prog.lift (.store arg4 (Rect.unit (s := S256x1536) ![0, 0] S256x1536.size inb_S256x1536_S256x1536_0_0)
    (truncf .bf16 (mulf a (broadcastTo S256x1536 (shapeCast S1x1536 ws shapeCasts_S1x1536_S1x1536) broadcasts_S1x1536_S256x1536)) bitsLt_bf16_f32)
    Finset.univ (View.stores_vmem h_S256x1536 (harg4.storeExact_slice rfl _ packedbf16_S256x1536_S256x1536_0_0) (fun _ => rfl)) (.inl rfl))

/-- Reassociation over two requests and a program. -/
theorem assoc3 {E : Type → Type _} {α β γ δ ε ζ : Type} (l : E α) (s : E β) (p : Prog E γ) (K : γ → Prog E δ) (L : δ → Prog E ε) (R : ε → Prog E ζ) :
    ((Prog.lift l >>= fun _ => Prog.lift s >>= fun _ => p >>= K) >>= L) >>= R
      = Prog.lift l >>= fun _ => Prog.lift s >>= fun _ => p >>= fun x => (K x >>= L) >>= R := by
  show Prog.op l (fun _ => Prog.op s (fun _ => ((p >>= K) >>= L) >>= R)) = _
  simp only [Prog.bind_assoc]
  rfl

/-- The body with the printed trip. -/
def bodyP (i : grid0.Coords) : TP F PUnit :=
  Prog.lift (.load arg11 (Rect.unit (s := S256x1536) ![0, 0] S256x1536.size inb_S256x1536_S256x1536_0_0).toLoadRect (View.loadsAt_vmem h_S256x1536)) >>= fun _ =>
  Prog.lift (.store arg11 (Rect.unit (s := S256x1536) ![0, 0] S256x1536.size inb_S256x1536_S256x1536_0_0)
    (shapeCast S256x1536 (broadcast S256x1536 (Scalar.ofBits .f32 0x00000000#32) : FVec F S256x1536 .f32) shapeCasts_S256x1536_S256x1536)
    Finset.univ (View.stores_vmem_bits_univ h_S256x1536 rfl) (.inl rfl)) >>= fun _ =>
  Scf.Loop.for k0_t1_loop k0_t1_ok ⟨⟩ (fun k (_ : Unit) => tripP arg1 harg1 arg2 harg2 arg3 harg3 arg4 harg4 arg5 harg5 arg6 harg6 arg7 harg7 arg8 harg8 arg9 harg9 arg10 harg10 arg11 harg11 i k) >>= fun _ =>
  block arg1 arg5 harg5 arg7 arg8 arg9 harg9 arg10 136 (by omega) colT colT_le [0, 1] >>= fun _ =>
  finale arg2 arg3 arg4 harg4 arg9 arg11 >>= fun _ =>
  scalesHalf arg6 arg10 0 >>= fun _ => scalesHalf arg6 arg10 1

/-- The body. -/
def body : TP F PUnit :=
  Prog.lift (.load arg11 (Rect.unit (s := S256x1536) ![0, 0] S256x1536.size inb_S256x1536_S256x1536_0_0).toLoadRect (View.loadsAt_vmem h_S256x1536)) >>= fun _ =>
  Prog.lift (.store arg11 (Rect.unit (s := S256x1536) ![0, 0] S256x1536.size inb_S256x1536_S256x1536_0_0)
    (shapeCast S256x1536 (broadcast S256x1536 (Scalar.ofBits .f32 0x00000000#32) : FVec F S256x1536 .f32) shapeCasts_S256x1536_S256x1536)
    Finset.univ (View.stores_vmem_bits_univ h_S256x1536 rfl) (.inl rfl)) >>= fun _ =>
  Scf.Loop.for k0_t1_loop k0_t1_ok ⟨⟩ (fun k (_ : Unit) => trip arg1 arg2 arg5 harg5 arg7 arg8 arg9 harg9 arg10 arg11 k) >>= fun _ =>
  block arg1 arg5 harg5 arg7 arg8 arg9 harg9 arg10 136 (by omega) colT colT_le [0, 1] >>= fun _ =>
  finale arg2 arg3 arg4 harg4 arg9 arg11 >>= fun _ =>
  scalesHalf arg6 arg10 0 >>= fun _ => scalesHalf arg6 arg10 1

theorem bodyP_eq (i : grid0.Coords) :
    bodyP (F := F) arg1 harg1 arg2 harg2 arg3 harg3 arg4 harg4 arg5 harg5 arg6 harg6 arg7 harg7 arg8 harg8 arg9 harg9 arg10 harg10 arg11 harg11 i = body arg1 arg2 arg3 arg4 harg4 arg5 harg5 arg6 arg7 arg8 arg9 harg9 arg10 arg11 := by
  have h : (fun (k : Fin k0_t1_loop.trips) (_ : Unit) => tripP (F := F) arg1 harg1 arg2 harg2 arg3 harg3 arg4 harg4 arg5 harg5 arg6 harg6 arg7 harg7 arg8 harg8 arg9 harg9 arg10 harg10 arg11 harg11 i k) = fun k _ => trip arg1 arg2 arg5 harg5 arg7 arg8 arg9 harg9 arg10 arg11 k :=
    funext fun k => funext fun _ => trip_eq arg1 harg1 arg2 harg2 arg3 harg3 arg4 harg4 arg5 harg5 arg6 harg6 arg7 harg7 arg8 harg8 arg9 harg9 arg10 harg10 arg11 harg11 i k
  unfold bodyP body
  rw [h]

theorem printed_eq (i : grid0.Coords) :
    cc0_hadamard_fp8_down_proj (F := F) i arg1 harg1 arg2 harg2 arg3 harg3 arg4 harg4 arg5 harg5 arg6 harg6 arg7 harg7 arg8 harg8 arg9 harg9 arg10 harg10 arg11 harg11 = bodyP arg1 harg1 arg2 harg2 arg3 harg3 arg4 harg4 arg5 harg5 arg6 harg6 arg7 harg7 arg8 harg8 arg9 harg9 arg10 harg10 arg11 harg11 i := by
  delta cc0_hadamard_fp8_down_proj k0_part85
  refine (assoc3 _ _ _ _ _ _).trans ?_
  sl_kernel_rfl

/-- The printed body is the compact one. -/
theorem body_eq (i : grid0.Coords) :
    cc0_hadamard_fp8_down_proj (F := F) i arg1 harg1 arg2 harg2 arg3 harg3 arg4 harg4 arg5 harg5 arg6 harg6 arg7 harg7 arg8 harg8 arg9 harg9 arg10 harg10 arg11 harg11
      = body arg1 arg2 arg3 arg4 harg4 arg5 harg5 arg6 arg7 arg8 arg9 harg9 arg10 arg11 :=
  (printed_eq arg1 harg1 arg2 harg2 arg3 harg3 arg4 harg4 arg5 harg5 arg6 harg6 arg7 harg7 arg8 harg8 arg9 harg9 arg10 harg10 arg11 harg11 i).trans (bodyP_eq arg1 harg1 arg2 harg2 arg3 harg3 arg4 harg4 arg5 harg5 arg6 harg6 arg7 harg7 arg8 harg8 arg9 harg9 arg10 harg10 arg11 harg11 i)

end

end Cert.KernelIdeal.Compact
-- ==== Proof.KernelIdeal.State.lean ====
/-
  The body's effect as a change of contents: the eleven buffers' contents as one record (`St`), owning them all (`Own`),
  and total correctness of a straight-line piece of the body against these contents (`Tr`).  At any float operations.
-/
module

public import proofs.«01_k».proof.Proof.KernelIdeal.Compact
public import proofs.«01_k».proof.Proof.Gen.KernelIdeal.Frame

@[expose] public section

set_option maxRecDepth 16384

noncomputable section

namespace Cert.KernelIdeal.Compact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The eleven buffers. -/
structure Refs where
  a1 : Memref sig .tc .vmem S64x144x256 .f32
  a2 : Memref sig .tc .vmem S8960x1536 .fp8e4m3
  a3 : Memref sig .tc .vmem S1x1536 .f32
  a4 : Memref sig .tc .vmem S256x1536 .bf16
  a5 : Memref sig .tc .vmem S256x8960 .fp8e4m3
  a6 : Memref sig .tc .vmem S256x70 .f32
  a7 : Memref sig .tc .vmem S2x544x128 .f32
  a8 : Memref sig .tc .vmem S2x544x128 .f32
  a9 : Memref sig .tc .vmem S256x512 .bf16
  a10 : Memref sig .tc .vmem S2x144x128 .f32
  a11 : Memref sig .tc .vmem S256x1536 .f32
  h4 : a4.IsWhole
  h5 : a5.IsWhole
  h9 : a9.IsWhole

/-- Their contents. -/
@[ext] structure St (F : FTy → Type) where
  z : Vec F S64x144x256 .f32
  w : Vec F S8960x1536 .fp8e4m3
  ws : Vec F S1x1536 .f32
  out : Vec F S256x1536 .bf16
  codes : Vec F S256x8960 .fp8e4m3
  xs : Vec F S256x70 .f32
  ct : Vec F S2x544x128 .f32
  qt : Vec F S2x544x128 .f32
  xq : Vec F S256x512 .bf16
  st : Vec F S2x144x128 .f32
  acc : Vec F S256x1536 .f32

variable (c : Dev nD) (A : Refs)

/-- All eleven owned, at the contents `s`. -/
def Own (s : St F) : sProp (MT nD τ sig Unit (Elt F) ℕ (UR sig nD τ) ℕ) :=
  iprop(owns (c : Thread nD τ) A.a1 fullShare s.z ∗ owns (c : Thread nD τ) A.a2 fullShare s.w ∗ owns (c : Thread nD τ) A.a3 fullShare s.ws
    ∗ owns (c : Thread nD τ) A.a4 fullShare s.out ∗ owns (c : Thread nD τ) A.a5 fullShare s.codes ∗ owns (c : Thread nD τ) A.a6 fullShare s.xs
    ∗ owns (c : Thread nD τ) A.a7 fullShare s.ct ∗ owns (c : Thread nD τ) A.a8 fullShare s.qt ∗ owns (c : Thread nD τ) A.a9 fullShare s.xq
    ∗ owns (c : Thread nD τ) A.a10 fullShare s.st ∗ owns (c : Thread nD τ) A.a11 fullShare s.acc)

/-- From the contents `s` the program `p` ends with the value `a` and the contents `s'`. -/
def Ev {α : Type} (p : TP F α) (s : St F) (a : α) (s' : St F) : Prop :=
  ∀ (E : Set ℕ) (K : α → sProp (MT nD τ sig Unit (Elt F) ℕ (UR sig nD τ) ℕ)), iprop(Own c A s ∗ (Own c A s' -∗ K a)) ⊢ wp frame (wpE (defs₀ (F := F)) Variants.none c none) E p K

/-- From the contents `s` the program `p` ends in a value and contents of which `Q` holds. -/
def Tr {α : Type} (p : TP F α) (s : St F) (Q : α → St F → Prop) : Prop := ∃ a s', Q a s' ∧ Ev c A p s a s'

theorem Ev.pure {α : Type} (a : α) (s : St F) : Ev c A (pure a) s a s := by
  intro E K
  show _ ⊢ wp frame _ E (Prog.ret a) K
  rw [wp_ret]
  iintro ⟨H, Hk⟩
  imodintro
  iapply Hk; iexact H

theorem Ev.bind {α β : Type} {p : TP F α} {k : α → TP F β} {s s' s'' : St F} {a : α} {b : β}
    (h : Ev c A p s a s') (h' : Ev c A (k a) s' b s'') : Ev c A (p >>= k) s b s'' := by
  intro E K
  rw [wp_bind]
  iintro ⟨H, Hk⟩
  iapply (h E _)
  isplitl [H]; · iexact H
  iintro H
  iapply (h' E K)
  isplitl [H]; · iexact H
  iexact Hk

variable {c A}

theorem Tr.pure {α : Type} {a : α} {s : St F} {Q : α → St F → Prop} (h : Q a s) : Tr c A (pure a) s Q := ⟨a, s, h, Ev.pure c A a s⟩

theorem Tr.bind {α β : Type} {p : TP F α} {k : α → TP F β} {s : St F} {R : α → St F → Prop} {Q : β → St F → Prop}
    (h : Tr c A p s R) (h' : ∀ a s', R a s' → Tr c A (k a) s' Q) : Tr c A (p >>= k) s Q := by
  obtain ⟨a, s', hR, he⟩ := h
  obtain ⟨b, s'', hQ, he'⟩ := h' a s' hR
  exact ⟨b, s'', hQ, he.bind c A he'⟩

theorem Tr.mono {α : Type} {p : TP F α} {s : St F} {R Q : α → St F → Prop} (h : Tr c A p s R) (hQ : ∀ a s', R a s' → Q a s') : Tr c A p s Q := by
  obtain ⟨a, s', hR, he⟩ := h; exact ⟨a, s', hQ a s' hR, he⟩

/-- A part of the contents that lies in one buffer. -/
def Foc (c : Dev nD) (A : Refs) {S : Shape} {e : EltTy} (m : Memref sig .tc .vmem S e) (get : St F → Vec F S e) (set : St F → Vec F S e → St F) : Prop :=
  ∀ s, Own c A s ⊢ iprop(owns (c : Thread nD τ) m fullShare (get s) ∗ (∀ X, owns (c : Thread nD τ) m fullShare X -∗ Own c A (set s X)))

/-- A load reads the contents of its rectangle. -/
theorem Tr.load {S : Shape} {e : EltTy} {m : Memref sig .tc .vmem S e} {get : St F → Vec F S e} {set : St F → Vec F S e → St F}
    (hf : Foc c A m get set) (r : LoadRect S) (hl : m.view.LoadsAt r) (s : St F) (hs : set s (get s) = s) {Q : (r.shape.Idx → Elt F e) → St F → Prop}
    (hQ : Q (fun j => get s (r.idx j)) s) : Tr c A (Prog.lift (.load m r hl)) s Q := by
  refine ⟨_, s, hQ, fun E K => ?_⟩
  show _ ⊢ wp frame _ E (Prog.op _ Prog.ret) K
  iintro ⟨H, Hk⟩
  ihave H' := (hf s) $$ H
  icases H' with ⟨Hm, Hc⟩
  unfold owns
  icases Hm with ⟨%f, %hX, Hm⟩
  iapply (wp_load (defs := defs₀ (F := F)) Variants.none (c : Thread nD τ) none E (S := m.view.set) (m.view.setOn_subset_set _)) $$ Hm
  iintro Hm
  rw [wp_ret]
  imodintro
  have hv : m.view.readAt (Elt F) r f = fun j => get s (r.idx j) := by rw [← hX]; rfl
  rw [hv]
  iapply Hk
  ihave H2 := Hc $$ %(get s) [Hm]
  · iexists f; isplitr
    · ipureintro; exact hX
    iexact Hm
  rw [hs]; iexact H2

/-- A store replaces the contents of its rectangle. -/
theorem Tr.store {S : Shape} {e : EltTy} {m : Memref sig .tc .vmem S e} {get : St F → Vec F S e} {set : St F → Vec F S e → St F}
    (hf : Foc c A m get set) (r : Rect S) (w : r.shape.Idx → Elt F e) (hx : (m.access r).Stores Finset.univ) (hm) (s : St F) {Q : PUnit → St F → Prop}
    (hQ : Q ⟨⟩ (set s (r.overlay (get s) w))) : Tr c A (Prog.lift (.store m r w Finset.univ hx hm)) s Q := by
  refine ⟨_, _, hQ, fun E K => ?_⟩
  show _ ⊢ wp frame _ E (Prog.op _ Prog.ret) K
  iintro ⟨H, Hk⟩
  ihave H' := (hf s) $$ H
  icases H' with ⟨Hm, Hc⟩
  unfold owns
  icases Hm with ⟨%f, %hX, Hm⟩
  iapply (wp_store (defs := defs₀ (F := F)) Variants.none (c : Thread nD τ) none E (m := m) (r := r) (w := w) (hx := hx) (hm := hm) (f := f) (S := m.view.set)
    ((View.setOn_subset_set _ _).trans (m.view.set_slice_subset r))) $$ Hm
  iintro Hm
  rw [wp_ret]
  imodintro
  iapply Hk
  iapply Hc
  iexists _; isplitr; swap
  · iexact Hm
  ipureintro
  funext j
  by_cases hj : j ∈ r.set
  · obtain ⟨i, rfl⟩ := r.exists_idx_of_mem hj
    rw [show r.idx i = r.emb i from rfl, Rect.overlay_emb]
    exact View.read_slice_write_emb (v := m.view) r f w (Finset.mem_univ i)
  · rw [Rect.overlay_of_not_mem _ _ _ hj, ← hX]
    exact View.read_slice_write_of_not_mem (v := m.view) r f w Finset.univ (by rwa [Rect.map_emb_univ])

theorem foc1 : Foc (F := F) c A A.a1 St.z (fun s X => { s with z := X }) := by
  intro s; unfold Own
  iintro ⟨H1, H2, H3, H4, H5, H6, H7, H8, H9, H10, H11⟩
  isplitl [H1]; · iexact H1
  iintro %X H1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc2 : Foc (F := F) c A A.a2 St.w (fun s X => { s with w := X }) := by
  intro s; unfold Own
  iintro ⟨H1, H2, H3, H4, H5, H6, H7, H8, H9, H10, H11⟩
  isplitl [H2]; · iexact H2
  iintro %X H2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc3 : Foc (F := F) c A A.a3 St.ws (fun s X => { s with ws := X }) := by
  intro s; unfold Own
  iintro ⟨H1, H2, H3, H4, H5, H6, H7, H8, H9, H10, H11⟩
  isplitl [H3]; · iexact H3
  iintro %X H3
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc4 : Foc (F := F) c A A.a4 St.out (fun s X => { s with out := X }) := by
  intro s; unfold Own
  iintro ⟨H1, H2, H3, H4, H5, H6, H7, H8, H9, H10, H11⟩
  isplitl [H4]; · iexact H4
  iintro %X H4
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc5 : Foc (F := F) c A A.a5 St.codes (fun s X => { s with codes := X }) := by
  intro s; unfold Own
  iintro ⟨H1, H2, H3, H4, H5, H6, H7, H8, H9, H10, H11⟩
  isplitl [H5]; · iexact H5
  iintro %X H5
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc6 : Foc (F := F) c A A.a6 St.xs (fun s X => { s with xs := X }) := by
  intro s; unfold Own
  iintro ⟨H1, H2, H3, H4, H5, H6, H7, H8, H9, H10, H11⟩
  isplitl [H6]; · iexact H6
  iintro %X H6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc7 : Foc (F := F) c A A.a7 St.ct (fun s X => { s with ct := X }) := by
  intro s; unfold Own
  iintro ⟨H1, H2, H3, H4, H5, H6, H7, H8, H9, H10, H11⟩
  isplitl [H7]; · iexact H7
  iintro %X H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc8 : Foc (F := F) c A A.a8 St.qt (fun s X => { s with qt := X }) := by
  intro s; unfold Own
  iintro ⟨H1, H2, H3, H4, H5, H6, H7, H8, H9, H10, H11⟩
  isplitl [H8]; · iexact H8
  iintro %X H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc9 : Foc (F := F) c A A.a9 St.xq (fun s X => { s with xq := X }) := by
  intro s; unfold Own
  iintro ⟨H1, H2, H3, H4, H5, H6, H7, H8, H9, H10, H11⟩
  isplitl [H9]; · iexact H9
  iintro %X H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc10 : Foc (F := F) c A A.a10 St.st (fun s X => { s with st := X }) := by
  intro s; unfold Own
  iintro ⟨H1, H2, H3, H4, H5, H6, H7, H8, H9, H10, H11⟩
  isplitl [H10]; · iexact H10
  iintro %X H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem foc11 : Foc (F := F) c A A.a11 St.acc (fun s X => { s with acc := X }) := by
  intro s; unfold Own
  iintro ⟨H1, H2, H3, H4, H5, H6, H7, H8, H9, H10, H11⟩
  isplitl [H11]; · iexact H11
  iintro %X H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- A loop keeps an invariant of the contents. -/
theorem Tr.loop {w : Nat} {σ : Type} (lb ub st : BitVec w) (hok : Scf.OK lb ub st) (init : σ) (body : Fin (Scf.trips lb ub st) → σ → TP F σ)
    (I : ℕ → St F → Prop) (hbody : ∀ k a s, I k.val s → Tr c A (body k a) s (fun _ s' => I (k.val + 1) s')) {s : St F} (h0 : I 0 s) :
    Tr c A (Scf.for lb ub st hok init body) s (fun _ s' => I (Scf.trips lb ub st) s') := by
  rw [Scf.for_eq]
  have key : ∀ (m k : ℕ) (_ : k + m = Scf.trips lb ub st) (a : σ) (s : St F), I k s →
      Tr c A (Scf.forFrom body ((List.finRange (Scf.trips lb ub st)).drop k) a) s (fun _ s' => I (Scf.trips lb ub st) s') := by
    intro m
    induction m with
    | zero =>
      intro k hk a s hI
      obtain rfl : k = Scf.trips lb ub st := by omega
      rw [List.drop_of_length_le (by simp), Scf.forFrom_nil]
      exact Tr.pure (a := a) hI
    | succ m ih =>
      intro k hk a s hI
      have hlt : k < Scf.trips lb ub st := by omega
      rw [List.drop_eq_getElem_cons (by simpa using hlt), Scf.forFrom_cons]
      refine Tr.bind (hbody _ a s (by simpa using hI)) fun a' s' hI' => ih (k + 1) (by omega) a' s' ?_
      simpa using hI'
  exact key (Scf.trips lb ub st) 0 (by omega) init s h0

/-- A fold over a list keeps an invariant of the value and the contents, along the prefixes of the list. -/
theorem Tr.fold {α β : Type} (f : α → β → TP F α) (I : List β → α → St F → Prop)
    (hf : ∀ pre b a s, I pre a s → Tr c A (f a b) s (fun a' s' => I (pre ++ [b]) a' s')) :
    ∀ (l pre : List β) (a : α) (s : St F), I pre a s → Tr c A (foldP f a l) s (fun a' s' => I (pre ++ l) a' s')
  | [], pre, a, s, h => Tr.pure (by simpa using h)
  | b :: l, pre, a, s, h => Tr.bind (hf pre b a s h) fun a' s' h' => by
      have := Tr.fold f I hf l (pre ++ [b]) a' s' h'
      simpa using this

/-- The same without a value, for a list whose elements satisfy `P`. -/
theorem Tr.each {β : Type} (f : β → TP F PUnit) (P : β → Prop) (I : List β → St F → Prop)
    (hf : ∀ pre b s, P b → I pre s → Tr c A (f b) s (fun _ s' => I (pre ++ [b]) s')) :
    ∀ (l pre : List β) (s : St F), (∀ b ∈ l, P b) → I pre s → Tr c A (eachP f l) s (fun _ s' => I (pre ++ l) s')
  | [], pre, s, _, h => Tr.pure (by simpa using h)
  | b :: l, pre, s, hl, h => Tr.bind (hf pre b s (hl b (by simp)) h) fun _ s' h' => by
      have := Tr.each f P I hf l (pre ++ [b]) s' (fun x hx => hl x (by simp [hx])) h'
      simpa using this

/-- Contents with a rectangle replaced, at an index of the rectangle, -/
theorem ov_hit {S : Shape} {α : Type} (r : Rect S) (X : S.Idx → α) (G : r.shape.Idx → α) (j : S.Idx) (i : r.shape.Idx)
    (h : ∀ a, (j a).val = r.off a + r.stride a * (i a).val) : r.overlay X G j = G i := by
  have e : j = r.emb i := funext fun a => Fin.ext (h a)
  rw [e, Rect.overlay_emb]

/-- and at one outside it. -/
theorem ov_miss {S : Shape} {α : Type} (r : Rect S) (X : S.Idx → α) (G : r.shape.Idx → α) (j : S.Idx) (a : Fin S.rank)
    (h : ∀ i, i < r.size a → (j a).val ≠ r.off a + r.stride a * i) : r.overlay X G j = X j := by
  refine Rect.overlay_of_not_mem _ _ _ fun hj => ?_
  obtain ⟨i, rfl⟩ := r.exists_idx_of_mem hj
  exact h (i a).val (i a).isLt rfl

end Cert.KernelIdeal.Compact

end
-- ==== Proof.KernelIdeal.Quant.lean ====
/-
  What one block of the body leaves behind: the scales of its eight groups of rows, their codes and their codes times
  scale, first in the scratch buffers and then in the output block and the operand of the product.  At any float operations.
-/
module

public import proofs.«01_k».proof.Proof.KernelIdeal.State
public import Idealize.ShloMosaic.Lib.Pipeline.Value
public import Idealize.ShloMosaic.Lib.ValueIdxCoords

@[expose] public section

set_option maxRecDepth 16384

noncomputable section

namespace Cert.KernelIdeal.Compact

open Cert.KernelIdeal Cert.KernelIdeal.Gen
open Idealize.ShloMosaic Idealize.ShloMosaic.TcCoe Idealize.ShloMosaic.ValueIdx

variable {F : FTy → Type} [FloatOps F]

/-! ## The values -/

/-- Eight rows of an input block. -/
def zv (z : Vec F S64x144x256 .f32) (row : ℕ) (hrow : row + 8 ≤ 144) (h : Fin 2) (p : Fin 64) : FVec F S8x128 .f32 :=
  shapeCast S8x128 (fun j => z ((Rect.unit (s := S64x144x256) ![p.val, row, 128 * h.val] S1x8x128.size (zInb p row hrow h)).toLoadRect.idx j)) shapeCasts_S1x8x128_S8x128

/-- The scaled maxima of the groups of a block. -/
def vV (z : Vec F S64x144x256 .f32) (row : ℕ) (hrow : row + 8 ≤ 144) (h : Fin 2) : FVec F S8x128 .f32 :=
  pairMax (order.foldl (fun a p => maximumf a (absf (zv z row hrow h p))) (all8 0#32))

/-- The codes of rows `4 i …` of a block. -/
def qV (z : Vec F S64x144x256 .f32) (row : ℕ) (hrow : row + 8 ≤ 144) (h : Fin 2) (i : Fin 16) : FVec F S32x128 .f32 :=
  codes4 (zv z row hrow h ⟨4 * i.val + 0, by omega⟩) (zv z row hrow h ⟨4 * i.val + 1, by omega⟩) (zv z row hrow h ⟨4 * i.val + 2, by omega⟩)
    (zv z row hrow h ⟨4 * i.val + 3, by omega⟩) (invOf (vV z row hrow h))

/-- The codes of row `p` of a block. -/
def pV (z : Vec F S64x144x256 .f32) (row : ℕ) (hrow : row + 8 ≤ 144) (h : Fin 2) (p : Fin 64) : FVec F S8x128 .f32 :=
  part4 (qV z row hrow h ⟨p.val / 4, by omega⟩) ⟨p.val % 4, by omega⟩

/-- The codes times scale of row `p` of a block. -/
def xV (z : Vec F S64x144x256 .f32) (row : ℕ) (hrow : row + 8 ≤ 144) (h : Fin 2) (p : Fin 64) : FVec F S8x128 .f32 :=
  xqOf (pV z row hrow h p) (scaleOf (vV z row hrow h))

/-- Half a group, as it lies in the scratch buffer: of the rows `f p`, the row `g`. -/
def colV (f : Fin 64 → FVec F S8x128 .f32) (g : Fin 8) : FVec F S64x128 .f32 := fun j => f (j 0) (ix2 g (j 1))

/-- The codes of group `g` of a block. -/
def tileC (z : Vec F S64x144x256 .f32) (row : ℕ) (hrow : row + 8 ≤ 144) (h : Fin 2) (g : Fin 4) : FVec F S128x128 .fp8e4m3 :=
  truncf .fp8e4m3 (turn (colV (pV z row hrow h) ⟨2 * g.val, by omega⟩) (colV (pV z row hrow h) ⟨2 * g.val + 1, by omega⟩)) bitsLt_fp8e4m3_f32

/-- The codes times scale of group `g` of a block. -/
def tileX (z : Vec F S64x144x256 .f32) (row : ℕ) (hrow : row + 8 ≤ 144) (h : Fin 2) (g : Fin 4) : FVec F S128x128 .bf16 :=
  shapeCast S128x128 (truncf .bf16 (turn (colV (xV z row hrow h) ⟨2 * g.val, by omega⟩) (colV (xV z row hrow h) ⟨2 * g.val + 1, by omega⟩)) bitsLt_bf16_f32) shapeCasts_S128x128_S128x128

/-! ## The runs -/

attribute [local irreducible] part4 xqOf codes4 pairMax scaleOf invOf turn

variable {c : Dev nD} {A : Refs}

theorem zld_tr (row : ℕ) (hrow : row + 8 ≤ 144) (h : Fin 2) (p : Fin 64) (s : St F) {Q : FVec F S8x128 .f32 → St F → Prop}
    (hQ : Q (zv s.z row hrow h p) s) : Tr c A (zld A.a1 row hrow h p) s Q :=
  Tr.bind (Tr.load (Q := fun a s' => a = _ ∧ s' = s) foc1 _ _ s rfl ⟨rfl, rfl⟩) fun a s' hR => by
    obtain ⟨rfl, rfl⟩ := hR; exact Tr.pure hQ

theorem amax_tr (row : ℕ) (hrow : row + 8 ≤ 144) (h : Fin 2) (s : St F) : ∀ (l : List (Fin 64)) (a : FVec F S8x128 .f32),
    Tr c A (foldP (fun a p => zld A.a1 row hrow h p >>= fun y => pure (maximumf a (absf y))) a l) s
      (fun b s' => b = l.foldl (fun a p => maximumf a (absf (zv s.z row hrow h p))) a ∧ s' = s)
  | [], a => Tr.pure ⟨rfl, rfl⟩
  | p :: l, a => by
    refine Tr.bind (R := fun b s' => b = maximumf a (absf (zv s.z row hrow h p)) ∧ s' = s) ?_ fun b s' hR => ?_
    · exact Tr.bind (zld_tr (Q := fun y s' => y = zv s.z row hrow h p ∧ s' = s) row hrow h p s ⟨rfl, rfl⟩) fun y s' hR => by
        obtain ⟨rfl, rfl⟩ := hR; exact Tr.pure ⟨rfl, rfl⟩
    · obtain ⟨rfl, rfl⟩ := hR; exact amax_tr row hrow h s' l _

/-- The scales of a block in the scratch buffer of the scales. -/
def stWith (row : ℕ) (hrow : row + 8 ≤ 144) (h : Fin 2) (X : Vec F S2x144x128 .f32) (v : FVec F S8x128 .f32) : Vec F S2x144x128 .f32 :=
  (Rect.unit (s := S2x144x128) ![h.val, row, 0] S1x8x128.size (stInb row hrow h)).overlay X (shapeCast S1x8x128 (scaleOf v) shapeCasts_S8x128_S1x8x128)

theorem finish_tr (row : ℕ) (hrow : row + 8 ≤ 144) (h : Fin 2) (s : St F) :
    Tr c A (finish A.a1 A.a10 row hrow h) s (fun v s' => v = vV s.z row hrow h ∧ s' = { s with st := stWith row hrow h s.st (vV s.z row hrow h) }) := by
  refine Tr.bind (amax_tr row hrow h s order _) fun a s' hR => ?_
  obtain ⟨rfl, rfl⟩ := hR
  refine Tr.bind (Tr.load (Q := fun a s'' => s'' = s') foc10 _ _ s' rfl rfl) fun a s'' hR => ?_
  subst hR
  refine Tr.bind (Tr.store (Q := fun _ s' => s' = _) foc10 _ _ _ _ s'' rfl) fun a s' hR => ?_
  subst hR
  exact Tr.pure ⟨rfl, rfl⟩

theorem quant4_tr (row : ℕ) (hrow : row + 8 ≤ 144) (h : Fin 2) (i : Fin 16) (s : St F) :
    Tr c A (quant4 A.a1 row hrow (invOf (vV s.z row hrow h)) h i) s (fun q s' => q = qV s.z row hrow h i ∧ s' = s) := by
  unfold quant4
  refine Tr.bind (zld_tr (Q := fun y s' => y = zv s.z row hrow h _ ∧ s' = s) row hrow h _ s ⟨rfl, rfl⟩) fun y s' hR => ?_
  obtain ⟨rfl, rfl⟩ := hR
  refine Tr.bind (zld_tr (Q := fun y s => y = zv s'.z row hrow h _ ∧ s = s') row hrow h _ s' ⟨rfl, rfl⟩) fun y s hR => ?_
  obtain ⟨rfl, rfl⟩ := hR
  refine Tr.bind (zld_tr (Q := fun y s' => y = zv s.z row hrow h _ ∧ s' = s) row hrow h _ s ⟨rfl, rfl⟩) fun y s' hR => ?_
  obtain ⟨rfl, rfl⟩ := hR
  refine Tr.bind (zld_tr (Q := fun y s => y = zv s'.z row hrow h _ ∧ s = s') row hrow h _ s' ⟨rfl, rfl⟩) fun y s hR => ?_
  obtain ⟨rfl, rfl⟩ := hR
  exact Tr.pure ⟨rfl, rfl⟩

/-- Rows `p`, `68 + p`, … of one half of a scratch buffer replaced. -/
def rowsWith (p : ℕ) (hp : p < 64) (h : Fin 2) (X : Vec F S2x544x128 .f32) (w : FVec F S8x128 .f32) : Vec F S2x544x128 .f32 :=
  (⟨ctRect p hp h, ctPos⟩ : Rect S2x544x128).overlay X (shapeCast S1x8x128 w shapeCasts_S8x128_S1x8x128)

theorem put7_tr (p : ℕ) (hp : p < 64) (h : Fin 2) (w : FVec F S8x128 .f32) (s : St F) :
    Tr c A (putRows A.a7 p hp h w) s (fun _ s' => s' = { s with ct := rowsWith p hp h s.ct w }) := by
  refine Tr.bind (Tr.load (Q := fun a s'' => s'' = s) foc7 _ _ s rfl rfl) fun a s'' hR => ?_
  subst hR
  exact Tr.store (Q := fun _ s' => s' = _) foc7 _ _ _ _ s'' rfl

theorem put8_tr (p : ℕ) (hp : p < 64) (h : Fin 2) (w : FVec F S8x128 .f32) (s : St F) :
    Tr c A (putRows A.a8 p hp h w) s (fun _ s' => s' = { s with qt := rowsWith p hp h s.qt w }) := by
  refine Tr.bind (Tr.load (Q := fun a s'' => s'' = s) foc8 _ _ s rfl rfl) fun a s'' hR => ?_
  subst hR
  exact Tr.store (Q := fun _ s' => s' = _) foc8 _ _ _ _ s'' rfl

attribute [local irreducible] rowsWith in
theorem put_tr (i : Fin 16) (q0 q1 : FVec F S32x128 .f32) (s0 s1 : FVec F S8x128 .f32) (r : Fin 4) (s : St F) :
    Tr c A (put A.a7 A.a8 i q0 q1 s0 s1 r) s (fun _ s' => s' = { s with
      ct := rowsWith (4 * i.val + r.val) (by omega) 1 (rowsWith (4 * i.val + r.val) (by omega) 0 s.ct (part4 q0 r)) (part4 q1 r)
      qt := rowsWith (4 * i.val + r.val) (by omega) 1 (rowsWith (4 * i.val + r.val) (by omega) 0 s.qt (xqOf (part4 q0 r) s0)) (xqOf (part4 q1 r) s1) }) := by
  unfold put
  refine Tr.bind (put7_tr _ _ _ _ s) fun _ s' hR => ?_
  subst hR
  refine Tr.bind (put8_tr _ _ _ _ _) fun _ s' hR => ?_
  subst hR
  refine Tr.bind (put7_tr _ _ _ _ _) fun _ s' hR => ?_
  subst hR
  exact put8_tr _ _ _ _ _

theorem rowsIx (g : Fin 8) (p : Fin 64) : 68 * g.val + p.val < 544 := by omega

theorem rowsWith_hit (p : Fin 64) (h : Fin 2) (X : Vec F S2x544x128 .f32) (w : FVec F S8x128 .f32) (g : Fin 8) (l : Fin 128) :
    rowsWith p.val p.2 h X w (ix3 h ⟨68 * g.val + p.val, rowsIx g p⟩ l) = w (ix2 g l) := by
  unfold rowsWith
  refine (ov_hit _ X _ _ (ix3 (0 : Fin 1) g l) fun a => ?_).trans ?_
  · fin_cases a
    · show h.val = h.val + 1 * 0; omega
    · show 68 * g.val + p.val = p.val + 68 * g.val; omega
    · show l.val = 0 + 1 * l.val; omega
  · exact (shapeCast_addUnit_apply ![8, 128] w _ (ix3 (0 : Fin 1) g l)).trans (congrArg w (funext fun a => by fin_cases a <;> rfl))

theorem rowsWith_miss (p p' : Fin 64) (h h' : Fin 2) (hne : ¬ (h' = h ∧ p' = p)) (X : Vec F S2x544x128 .f32) (w : FVec F S8x128 .f32) (g : Fin 8) (l : Fin 128) :
    rowsWith p.val p.2 h X w (ix3 h' ⟨68 * g.val + p'.val, rowsIx g p'⟩ l) = X (ix3 h' ⟨68 * g.val + p'.val, rowsIx g p'⟩ l) := by
  unfold rowsWith
  by_cases hh : h' = h
  · refine ov_miss _ X _ _ 1 fun i hi e => hne ⟨hh, Fin.ext ?_⟩
    have e' : 68 * g.val + p'.val = p.val + 68 * i := e
    omega
  · refine ov_miss _ X _ _ 0 fun i hi e => hh (Fin.ext ?_)
    have e' : h'.val = h.val + 1 * i := e
    have hi' : i < 1 := hi
    omega

attribute [local irreducible] rowsWith pV xV

/-- The scratch buffers hold the codes, and the codes times scale, of row `p` of the block. -/
def RowOk (z : Vec F S64x144x256 .f32) (row : ℕ) (hrow : row + 8 ≤ 144) (s : St F) (p : Fin 64) : Prop :=
  ∀ (h : Fin 2) (g : Fin 8) (l : Fin 128), s.ct (ix3 h ⟨68 * g.val + p.val, rowsIx g p⟩ l) = pV z row hrow h p (ix2 g l)
    ∧ s.qt (ix3 h ⟨68 * g.val + p.val, rowsIx g p⟩ l) = xV z row hrow h p (ix2 g l)

theorem pV_eq (z : Vec F S64x144x256 .f32) (row : ℕ) (hrow : row + 8 ≤ 144) (h : Fin 2) (i : Fin 16) (r : Fin 4) (p : Fin 64) (hp : p.val = 4 * i.val + r.val) :
    pV z row hrow h p = part4 (qV z row hrow h i) r := by
  unfold pV
  congr 1
  · congr 1; exact Fin.ext (by show p.val / 4 = i.val; omega)
  · exact Fin.ext (by show p.val % 4 = r.val; omega)

/-- One row stored. -/
theorem rowOk_put (row : ℕ) (hrow : row + 8 ≤ 144) (i : Fin 16) (r : Fin 4) (z : Vec F S64x144x256 .f32) (s s' : St F) (p : Fin 64) (hlt : 4 * i.val + r.val < 64)
    (hct : s'.ct = rowsWith (4 * i.val + r.val) hlt 1 (rowsWith (4 * i.val + r.val) hlt 0 s.ct (part4 (qV z row hrow 0 i) r)) (part4 (qV z row hrow 1 i) r))
    (hqt : s'.qt = rowsWith (4 * i.val + r.val) hlt 1 (rowsWith (4 * i.val + r.val) hlt 0 s.qt (xqOf (part4 (qV z row hrow 0 i) r) (scaleOf (vV z row hrow 0))))
      (xqOf (part4 (qV z row hrow 1 i) r) (scaleOf (vV z row hrow 1))))
    (hp : p.val ≠ 4 * i.val + r.val → RowOk z row hrow s p) : RowOk z row hrow s' p := by
  have hi := i.2
  have hr := r.2
  by_cases he : p.val = 4 * i.val + r.val
  · obtain ⟨pv, hpv⟩ := p
    obtain rfl : pv = 4 * i.val + r.val := he
    have e0 : ∀ h : Fin 2, pV z row hrow h ⟨4 * i.val + r.val, hpv⟩ = part4 (qV z row hrow h i) r := fun h => pV_eq z row hrow h i r _ rfl
    have e1 : ∀ h : Fin 2, xV z row hrow h ⟨4 * i.val + r.val, hpv⟩ = xqOf (part4 (qV z row hrow h i) r) (scaleOf (vV z row hrow h)) := fun h => by
      unfold xV; rw [e0 h]
    intro h g l
    rw [e0, e1, hct, hqt]
    obtain rfl | rfl : h = 0 ∨ h = 1 := by omega
    · exact ⟨(rowsWith_miss ⟨_, hpv⟩ ⟨_, hpv⟩ 1 0 (by simp) _ _ g l).trans (rowsWith_hit ⟨_, hpv⟩ 0 _ _ g l),
        (rowsWith_miss ⟨_, hpv⟩ ⟨_, hpv⟩ 1 0 (by simp) _ _ g l).trans (rowsWith_hit ⟨_, hpv⟩ 0 _ _ g l)⟩
    · exact ⟨rowsWith_hit ⟨_, hpv⟩ 1 _ _ g l, rowsWith_hit ⟨_, hpv⟩ 1 _ _ g l⟩
  · have hne : ∀ h h' : Fin 2, ¬ (h' = h ∧ p = (⟨4 * i.val + r.val, hlt⟩ : Fin 64)) := fun h h' hh => he (by rw [hh.2])
    intro h g l
    rw [hct, hqt]
    have hold := hp he h g l
    exact ⟨((rowsWith_miss ⟨_, hlt⟩ p 1 h (hne _ _) _ _ g l).trans (rowsWith_miss ⟨_, hlt⟩ p 0 h (hne _ _) _ _ g l)).trans hold.1,
      ((rowsWith_miss ⟨_, hlt⟩ p 1 h (hne _ _) _ _ g l).trans (rowsWith_miss ⟨_, hlt⟩ p 0 h (hne _ _) _ _ g l)).trans hold.2⟩

theorem quantise_tr (row : ℕ) (hrow : row + 8 ≤ 144) (i : Fin 16) (s : St F) :
    Tr c A (quantise A.a1 A.a7 A.a8 row hrow (vV s.z row hrow 0) (vV s.z row hrow 1) i) s
      (fun _ s' => (∃ ct qt, s' = { s with ct := ct, qt := qt }) ∧ ∀ p : Fin 64, (p.val / 4 = i.val ∨ RowOk s.z row hrow s p) → RowOk s.z row hrow s' p) := by
  unfold quantise
  refine Tr.bind (quant4_tr row hrow 0 i s) fun q s' hR => ?_
  obtain ⟨rfl, rfl⟩ := hR
  refine Tr.bind (quant4_tr row hrow 1 i s') fun q s hR => ?_
  obtain ⟨rfl, rfl⟩ := hR
  refine (Tr.each _ (fun _ => True) (fun pre s' => (∃ ct qt, s' = { s with ct := ct, qt := qt })
    ∧ ∀ p : Fin 64, ((p.val / 4 = i.val ∧ ∃ r ∈ pre, p.val % 4 = (r : Fin 4).val) ∨ RowOk s.z row hrow s p) → RowOk s.z row hrow s' p) ?_ [0, 1, 2, 3] [] s (by simp) ?_).mono ?_
  · rintro pre r s' - ⟨⟨ct, qt, rfl⟩, hp⟩
    refine (put_tr i _ _ _ _ r _).mono fun _ s' hs' => ?_
    subst hs'
    refine ⟨⟨_, _, rfl⟩, fun p hc => ?_⟩
    refine rowOk_put row hrow i r s.z { s with ct := ct, qt := qt } _ p (by omega) rfl rfl fun he => hp p ?_
    rcases hc with ⟨h1, r', hr', h2⟩ | h
    · refine .inl ⟨h1, r', ?_, h2⟩
      rcases List.mem_append.mp hr' with h | h
      · exact h
      · obtain rfl : r' = r := by simpa using h
        omega
    · exact .inr h
  · exact ⟨⟨_, _, rfl⟩, fun p hc => by
      rcases hc with ⟨-, r, hr, -⟩ | h
      · simp at hr
      · exact h⟩
  · rintro _ s' ⟨h1, h2⟩
    refine ⟨h1, fun p hc => h2 p ?_⟩
    rcases hc with h | h
    · exact .inl ⟨h, ⟨p.val % 4, by omega⟩, by
        have : ∀ r : Fin 4, r ∈ ([] ++ [0, 1, 2, 3] : List (Fin 4)) := by decide
        exact this _, rfl⟩
    · exact .inr h

/-- The whole block quantised into the scratch buffers. -/
theorem rows_tr (row : ℕ) (hrow : row + 8 ≤ 144) (s : St F) :
    Tr c A (eachP (quantise A.a1 A.a7 A.a8 row hrow (vV s.z row hrow 0) (vV s.z row hrow 1)) sixteen) s
      (fun _ s' => (∃ ct qt, s' = { s with ct := ct, qt := qt }) ∧ ∀ p : Fin 64, RowOk s.z row hrow s' p) := by
  refine (Tr.each _ (fun _ => True) (fun pre s' => (∃ ct qt, s' = { s with ct := ct, qt := qt })
    ∧ ∀ p : Fin 64, (∃ i ∈ pre, p.val / 4 = (i : Fin 16).val) → RowOk s.z row hrow s' p) ?_ sixteen [] s (by simp) ?_).mono ?_
  · rintro pre i s' - ⟨⟨ct, qt, rfl⟩, hp⟩
    refine (quantise_tr row hrow i { s with ct := ct, qt := qt }).mono ?_
    rintro _ s' ⟨⟨ct', qt', rfl⟩, h⟩
    refine ⟨⟨ct', qt', rfl⟩, fun p ⟨i', hi', he⟩ => h p ?_⟩
    rcases List.mem_append.mp hi' with hm | hm
    · exact .inr (hp p ⟨i', hm, he⟩)
    · obtain rfl : i' = i := by simpa using hm
      exact .inl he
  · exact ⟨⟨_, _, rfl⟩, fun p ⟨i, hi, _⟩ => by simp at hi⟩
  · rintro _ s' ⟨h1, h2⟩
    refine ⟨h1, fun p => h2 p ⟨⟨p.val / 4, by omega⟩, ?_, rfl⟩⟩
    have : ∀ r : Fin 16, r ∈ ([] ++ sixteen : List (Fin 16)) := by decide
    exact this _

end Cert.KernelIdeal.Compact

end
-- ==== Proof.KernelIdeal.Emit.lean ====
/-
  What one block of the body writes out: the codes of its groups to the output block, the codes times scale to the operand
  of the product.  At any float operations.
-/
module

public import proofs.«01_k».proof.Proof.KernelIdeal.Quant

@[expose] public section

set_option maxRecDepth 16384

noncomputable section

namespace Cert.KernelIdeal.Compact

open Cert.KernelIdeal Cert.KernelIdeal.Gen
open Idealize.ShloMosaic Idealize.ShloMosaic.TcCoe Idealize.ShloMosaic.ValueIdx

variable {F : FTy → Type} [FloatOps F] {c : Dev nD} {A : Refs}

attribute [local irreducible] part4 xqOf codes4 pairMax scaleOf invOf turn rowsWith pV xV vV

theorem get7_tr (row : ℕ) (hrow : row + 8 ≤ 144) (g : Fin 8) (h : Fin 2) (r : ℕ) (hr : r + 64 ≤ 544) (er : r = 68 * g.val) (z : Vec F S64x144x256 .f32) (s : St F)
    (hok : ∀ p, RowOk z row hrow s p) :
    Tr c A (get64 A.a7 r hr h) s (fun v s' => v = colV (pV z row hrow h) g ∧ s' = s) := by
  subst er
  refine Tr.bind (Tr.load (Q := fun a s' => a = _ ∧ s' = s) foc7 _ _ s rfl ⟨rfl, rfl⟩) fun a s' hR => ?_
  obtain ⟨rfl, rfl⟩ := hR
  refine Tr.pure ⟨funext fun j => ?_, rfl⟩
  obtain ⟨p, l, rfl⟩ : ∃ (p : Fin 64) (l : Fin 128), j = ix2 p l := ⟨j 0, j 1, eq_ix2 j⟩
  refine (shapeCast_dropUnit_apply ![64, 128] _ _ (ix2 p l)).trans ?_
  refine Eq.trans ?_ (hok p h g l).1
  refine congrArg s'.ct (funext fun a => Fin.ext ?_)
  fin_cases a
  · show h.val + 1 * 0 = h.val; omega
  · show 68 * g.val + 1 * p.val = 68 * g.val + p.val; omega
  · show 0 + 1 * l.val = l.val; omega

theorem get8_tr (row : ℕ) (hrow : row + 8 ≤ 144) (g : Fin 8) (h : Fin 2) (r : ℕ) (hr : r + 64 ≤ 544) (er : r = 68 * g.val) (z : Vec F S64x144x256 .f32) (s : St F)
    (hok : ∀ p, RowOk z row hrow s p) :
    Tr c A (get64 A.a8 r hr h) s (fun v s' => v = colV (xV z row hrow h) g ∧ s' = s) := by
  subst er
  refine Tr.bind (Tr.load (Q := fun a s' => a = _ ∧ s' = s) foc8 _ _ s rfl ⟨rfl, rfl⟩) fun a s' hR => ?_
  obtain ⟨rfl, rfl⟩ := hR
  refine Tr.pure ⟨funext fun j => ?_, rfl⟩
  obtain ⟨p, l, rfl⟩ : ∃ (p : Fin 64) (l : Fin 128), j = ix2 p l := ⟨j 0, j 1, eq_ix2 j⟩
  refine (shapeCast_dropUnit_apply ![64, 128] _ _ (ix2 p l)).trans ?_
  refine Eq.trans ?_ (hok p h g l).2
  refine congrArg s'.qt (funext fun a => Fin.ext ?_)
  fin_cases a
  · show h.val + 1 * 0 = h.val; omega
  · show 68 * g.val + 1 * p.val = 68 * g.val + p.val; omega
  · show 0 + 1 * l.val = l.val; omega

/-- One tile of codes replaced in the output block. -/
def coWith (col : ℕ) (hcol : col + 128 ≤ 8960) (h : Fin 2) (X : Vec F S256x8960 .fp8e4m3) (w : FVec F S128x128 .fp8e4m3) : Vec F S256x8960 .fp8e4m3 :=
  (Rect.unit (s := S256x8960) ![128 * h.val, col] S128x128.size (coInb col hcol h)).overlay X w

/-- One tile replaced in the operand of the product. -/
def xqWith (g : Fin 4) (h : Fin 2) (X : Vec F S256x512 .bf16) (w : FVec F S128x128 .bf16) : Vec F S256x512 .bf16 :=
  (Rect.unit (s := S256x512) ![128 * h.val, 128 * g.val] S128x128.size (xqInb g h)).overlay X w

theorem rowIx (h : Fin 2) (r : Fin 128) : 128 * h.val + r.val < 256 := by omega
theorem colIx (g : Fin 4) (l : Fin 128) : 128 * g.val + l.val < 512 := by omega

theorem coWith_hit (col : ℕ) (hcol : col + 128 ≤ 8960) (h : Fin 2) (X : Vec F S256x8960 .fp8e4m3) (w : FVec F S128x128 .fp8e4m3) (r l : Fin 128) :
    coWith col hcol h X w (ix2 ⟨128 * h.val + r.val, rowIx h r⟩ ⟨col + l.val, by omega⟩) = w (ix2 r l) := by
  unfold coWith
  refine ov_hit (Rect.unit (s := S256x8960) ![128 * h.val, col] S128x128.size (coInb col hcol h)) X w _ (ix2 r l) fun a => ?_
  fin_cases a
  · show 128 * h.val + r.val = 128 * h.val + 1 * r.val; omega
  · show col + l.val = col + 1 * l.val; omega

theorem coWith_miss (col : ℕ) (hcol : col + 128 ≤ 8960) (h : Fin 2) (X : Vec F S256x8960 .fp8e4m3) (w : FVec F S128x128 .fp8e4m3) (R : Fin 256) (C : Fin 8960)
    (hm : R.val / 128 ≠ h.val ∨ C.val < col ∨ col + 128 ≤ C.val) : coWith col hcol h X w (ix2 R C) = X (ix2 R C) := by
  unfold coWith
  rcases hm with hm | hm
  · refine ov_miss _ X _ _ 0 fun i hi e => ?_
    have e' : R.val = 128 * h.val + 1 * i := e
    have hi' : i < 128 := hi
    omega
  · refine ov_miss _ X _ _ 1 fun i hi e => ?_
    have e' : C.val = col + 1 * i := e
    have hi' : i < 128 := hi
    omega

theorem xqWith_hit (g : Fin 4) (h : Fin 2) (X : Vec F S256x512 .bf16) (w : FVec F S128x128 .bf16) (r l : Fin 128) :
    xqWith g h X w (ix2 ⟨128 * h.val + r.val, rowIx h r⟩ ⟨128 * g.val + l.val, colIx g l⟩) = w (ix2 r l) := by
  unfold xqWith
  refine ov_hit (Rect.unit (s := S256x512) ![128 * h.val, 128 * g.val] S128x128.size (xqInb g h)) X w _ (ix2 r l) fun a => ?_
  fin_cases a
  · show 128 * h.val + r.val = 128 * h.val + 1 * r.val; omega
  · show 128 * g.val + l.val = 128 * g.val + 1 * l.val; omega

theorem xqWith_miss (g : Fin 4) (h : Fin 2) (X : Vec F S256x512 .bf16) (w : FVec F S128x128 .bf16) (R : Fin 256) (C : Fin 512)
    (hm : R.val / 128 ≠ h.val ∨ C.val / 128 ≠ g.val) : xqWith g h X w (ix2 R C) = X (ix2 R C) := by
  unfold xqWith
  rcases hm with hm | hm
  · refine ov_miss _ X _ _ 0 fun i hi e => ?_
    have e' : R.val = 128 * h.val + 1 * i := e
    have hi' : i < 128 := hi
    omega
  · refine ov_miss _ X _ _ 1 fun i hi e => ?_
    have e' : C.val = 128 * g.val + 1 * i := e
    have hi' : i < 128 := hi
    omega

attribute [local irreducible] coWith xqWith tileC tileX

theorem emitHalf_tr (row : ℕ) (hrow : row + 8 ≤ 144) (z : Vec F S64x144x256 .f32) (col : Fin 4 → ℕ) (hcol : ∀ g, col g + 128 ≤ 8960) (g : Fin 4) (h : Fin 2) (s : St F)
    (hok : ∀ p, RowOk z row hrow s p) :
    Tr c A (emitHalf A.a5 A.h5 A.a7 A.a8 A.a9 A.h9 col hcol g h) s (fun _ s' => s' = { s with
      codes := coWith (col g) (hcol g) h s.codes (tileC z row hrow h g)
      xq := xqWith g h s.xq (tileX z row hrow h g) }) := by
  unfold emitHalf tileC tileX coWith xqWith
  refine Tr.bind (get7_tr row hrow ⟨2 * g.val, by omega⟩ h _ _ rfl z s hok) fun a s' hR => ?_
  obtain ⟨rfl, rfl⟩ := hR
  refine Tr.bind (get7_tr row hrow ⟨2 * g.val + 1, by omega⟩ h _ _ rfl z s' hok) fun a s hR => ?_
  obtain ⟨rfl, rfl⟩ := hR
  refine Tr.bind (Tr.load (Q := fun a s'' => s'' = s) foc5 _ _ s rfl rfl) fun a s'' hR => ?_
  subst hR
  refine Tr.bind (Tr.store (Q := fun _ s' => s' = _) foc5 _ _ _ _ s'' rfl) fun a s' hR => ?_
  subst hR
  refine Tr.bind (get8_tr row hrow ⟨2 * g.val, by omega⟩ h _ _ rfl z _ hok) fun a s' hR => ?_
  obtain ⟨rfl, rfl⟩ := hR
  refine Tr.bind (get8_tr row hrow ⟨2 * g.val + 1, by omega⟩ h _ _ rfl z _ hok) fun a s hR => ?_
  obtain ⟨rfl, rfl⟩ := hR
  refine Tr.bind (Tr.load (Q := fun a s' => s' = _) foc9 _ _ _ rfl rfl) fun a s' hR => ?_
  subst hR
  exact (Tr.store (Q := fun _ s' => s' = _) foc9 _ _ _ _ _ rfl)

/-- What has been written out of a block, of the pairs of group and half in `D`; `gs` are the groups that are written. -/
def Out (z : Vec F S64x144x256 .f32) (row : ℕ) (hrow : row + 8 ≤ 144) (col : Fin 4 → ℕ) (hcol : ∀ g, col g + 128 ≤ 8960) (gs : List (Fin 4)) (s0 : St F)
    (D : Fin 4 → Fin 2 → Prop) (s : St F) : Prop :=
  (∃ codes xq, s = { s0 with codes := codes, xq := xq })
  ∧ (∀ g h, D g h → ∀ r l : Fin 128, s.codes (ix2 ⟨128 * h.val + r.val, rowIx h r⟩ ⟨col g + l.val, by have := hcol g; omega⟩) = tileC z row hrow h g (ix2 r l)
      ∧ s.xq (ix2 ⟨128 * h.val + r.val, rowIx h r⟩ ⟨128 * g.val + l.val, colIx g l⟩) = tileX z row hrow h g (ix2 r l))
  ∧ ∀ (R : Fin 256) (C : Fin 8960), (∀ g ∈ gs, C.val < col g ∨ col g + 128 ≤ C.val) → s.codes (ix2 R C) = s0.codes (ix2 R C)

theorem Out.half {row : ℕ} {hrow : row + 8 ≤ 144} {z : Vec F S64x144x256 .f32} {col : Fin 4 → ℕ} {hcol : ∀ g, col g + 128 ≤ 8960} {gs : List (Fin 4)} {s0 : St F}
    (hdis : ∀ g ∈ gs, ∀ g' ∈ gs, g ≠ g' → col g + 128 ≤ col g' ∨ col g' + 128 ≤ col g)
    (hok : ∀ p, RowOk z row hrow s0 p) {D : Fin 4 → Fin 2 → Prop} (hD : ∀ g h, D g h → g ∈ gs) (g : Fin 4) (hg : g ∈ gs) (h : Fin 2) {s : St F}
    (ho : Out z row hrow col hcol gs s0 D s) :
    Tr c A (emitHalf A.a5 A.h5 A.a7 A.a8 A.a9 A.h9 col hcol g h) s (fun _ s' => Out z row hrow col hcol gs s0 (fun g' h' => (g' = g ∧ h' = h) ∨ D g' h') s') := by
  obtain ⟨⟨co, xq, rfl⟩, ho, hm⟩ := ho
  refine (emitHalf_tr row hrow z col hcol g h { s0 with codes := co, xq := xq } hok).mono fun _ s' hs' => ?_
  subst hs'
  refine ⟨⟨_, _, rfl⟩, fun g' h' hd r l => ?_, fun R C hC => ?_⟩
  · by_cases he : g' = g ∧ h' = h
    · obtain ⟨rfl, rfl⟩ := he
      exact ⟨coWith_hit _ _ _ _ _ r l, xqWith_hit _ _ _ _ r l⟩
    · have hd' : D g' h' := hd.resolve_left he
      refine ⟨(coWith_miss _ _ _ _ _ _ _ ?_).trans (ho g' h' hd' r l).1, (xqWith_miss _ _ _ _ _ _ ?_).trans (ho g' h' hd' r l).2⟩
      · by_cases hh : h' = h
        · have := hdis g hg g' (hD _ _ hd') (fun e => he ⟨e.symm, hh⟩)
          right
          show col g' + l.val < col g ∨ col g + 128 ≤ col g' + l.val
          omega
        · left
          have : h'.val ≠ h.val := fun e => hh (Fin.ext e)
          show (128 * h'.val + r.val) / 128 ≠ h.val
          omega
      · by_cases hh : h' = h
        · right
          have : g'.val ≠ g.val := fun e => he ⟨Fin.ext e, hh⟩
          show (128 * g'.val + l.val) / 128 ≠ g.val
          omega
        · left
          have : h'.val ≠ h.val := fun e => hh (Fin.ext e)
          show (128 * h'.val + r.val) / 128 ≠ h.val
          omega
  · exact (coWith_miss _ _ _ _ _ _ _ (.inr (hC g hg))).trans (hm R C hC)

theorem Out.imp {row : ℕ} {hrow : row + 8 ≤ 144} {z : Vec F S64x144x256 .f32} {col : Fin 4 → ℕ} {hcol : ∀ g, col g + 128 ≤ 8960} {gs : List (Fin 4)} {s0 s : St F}
    {D D' : Fin 4 → Fin 2 → Prop} (ho : Out z row hrow col hcol gs s0 D s) (h : ∀ g h, D' g h → D g h) : Out z row hrow col hcol gs s0 D' s :=
  ⟨ho.1, fun g' h' hd => ho.2.1 g' h' (h _ _ hd), ho.2.2⟩

theorem emits_tr {row : ℕ} {hrow : row + 8 ≤ 144} {z : Vec F S64x144x256 .f32} {col : Fin 4 → ℕ} {hcol : ∀ g, col g + 128 ≤ 8960} (gs : List (Fin 4)) (s0 : St F)
    (hdis : ∀ g ∈ gs, ∀ g' ∈ gs, g ≠ g' → col g + 128 ≤ col g' ∨ col g' + 128 ≤ col g) (hok : ∀ p, RowOk z row hrow s0 p) :
    Tr c A (eachP (emit A.a5 A.h5 A.a7 A.a8 A.a9 A.h9 col hcol) gs) s0 (fun _ s' => Out z row hrow col hcol gs s0 (fun g _ => g ∈ gs) s') := by
  refine (Tr.each _ (fun g => g ∈ gs) (fun pre s' => (∀ g ∈ pre, g ∈ gs) ∧ Out z row hrow col hcol gs s0 (fun g _ => g ∈ pre) s') ?_ gs [] s0 (fun _ h => h) ?_).mono ?_
  · rintro pre g s' hg ⟨hpre, ho⟩
    refine Tr.bind (Out.half hdis hok (fun g _ h => hpre g h) g hg 0 ho) fun _ s' ho => ?_
    refine (Out.half hdis hok (fun g' h' h => ?_) g hg 1 ho).mono fun _ s' ho => ⟨fun g' hg' => ?_, ho.imp fun g' h' hg' => ?_⟩
    · rcases h with h | h
      · rw [h.1]; exact hg
      · exact hpre _ h
    · rcases List.mem_append.mp hg' with h | h
      · exact hpre _ h
      · obtain rfl : g' = g := by simpa using h
        exact hg
    · rcases List.mem_append.mp hg' with h | h
      · exact .inr (.inr h)
      · obtain rfl : g' = g := by simpa using h
        obtain rfl | rfl : h' = 0 ∨ h' = 1 := by omega
        · exact .inr (.inl ⟨rfl, rfl⟩)
        · exact .inl ⟨rfl, rfl⟩
  · exact ⟨fun g h => by simp at h, ⟨_, _, rfl⟩, fun g h hg => by simp at hg, fun _ _ _ => rfl⟩
  · rintro _ s' ⟨-, ho⟩
    exact ho.imp fun g h hg => by simpa using hg

theorem stIx (row : ℕ) (hrow : row + 8 ≤ 144) (g : Fin 8) : row + g.val < 144 := by omega

theorem stWith_hit (row : ℕ) (hrow : row + 8 ≤ 144) (h : Fin 2) (X : Vec F S2x144x128 .f32) (v : FVec F S8x128 .f32) (g : Fin 8) (l : Fin 128) :
    stWith row hrow h X v (ix3 h ⟨row + g.val, stIx row hrow g⟩ l) = scaleOf v (ix2 g l) := by
  unfold stWith
  refine (ov_hit _ X _ _ (ix3 (0 : Fin 1) g l) fun a => ?_).trans ?_
  · fin_cases a
    · show h.val = h.val + 1 * 0; omega
    · show row + g.val = row + 1 * g.val; omega
    · show l.val = 0 + 1 * l.val; omega
  · exact (shapeCast_addUnit_apply ![8, 128] _ _ (ix3 (0 : Fin 1) g l)).trans (congrArg (scaleOf v) (funext fun a => by fin_cases a <;> rfl))

theorem stWith_miss (row : ℕ) (hrow : row + 8 ≤ 144) (h h' : Fin 2) (X : Vec F S2x144x128 .f32) (v : FVec F S8x128 .f32) (a : Fin 144) (l : Fin 128)
    (hm : h' ≠ h ∨ a.val < row ∨ row + 8 ≤ a.val) : stWith row hrow h X v (ix3 h' a l) = X (ix3 h' a l) := by
  unfold stWith
  rcases hm with hm | hm
  · refine ov_miss _ X _ _ 0 fun i hi e => hm (Fin.ext ?_)
    have e' : h'.val = h.val + 1 * i := e
    have hi' : i < 1 := hi
    omega
  · refine ov_miss _ X _ _ 1 fun i hi e => ?_
    have e' : a.val = row + 1 * i := e
    have hi' : i < 8 := hi
    omega

attribute [local irreducible] stWith

/-- What a block does to the state: its scales, and what is written out of it. -/
def BlockOk (row : ℕ) (hrow : row + 8 ≤ 144) (col : Fin 4 → ℕ) (hcol : ∀ g, col g + 128 ≤ 8960) (gs : List (Fin 4)) (s s' : St F) : Prop :=
  ∃ ct qt, Out s.z row hrow col hcol gs { s with st := stWith row hrow 1 (stWith row hrow 0 s.st (vV s.z row hrow 0)) (vV s.z row hrow 1), ct := ct, qt := qt } (fun g _ => g ∈ gs) s'

theorem block_tr (row : ℕ) (hrow : row + 8 ≤ 144) (col : Fin 4 → ℕ) (hcol : ∀ g, col g + 128 ≤ 8960) (gs : List (Fin 4)) (s : St F)
    (hdis : ∀ g ∈ gs, ∀ g' ∈ gs, g ≠ g' → col g + 128 ≤ col g' ∨ col g' + 128 ≤ col g) :
    Tr c A (block A.a1 A.a5 A.h5 A.a7 A.a8 A.a9 A.h9 A.a10 row hrow col hcol gs) s (fun _ s' => BlockOk row hrow col hcol gs s s') := by
  unfold block
  refine Tr.bind (finish_tr row hrow 0 s) fun a s' hR => ?_
  obtain ⟨rfl, rfl⟩ := hR
  refine Tr.bind (finish_tr row hrow 1 _) fun a s' hR => ?_
  obtain ⟨rfl, rfl⟩ := hR
  refine Tr.bind (rows_tr row hrow _) fun _ s' hR => ?_
  obtain ⟨⟨ct, qt, rfl⟩, hok⟩ := hR
  exact (emits_tr gs _ hdis hok).mono fun _ s' h => ⟨ct, qt, h⟩

end Cert.KernelIdeal.Compact

end
-- ==== Proof.KernelIdeal.Body.lean ====
/-
  What the body of the kernel leaves in its three output blocks, as values of its three input blocks: at any float operations.
-/
module

public import proofs.«01_k».proof.Proof.KernelIdeal.Emit

@[expose] public section

set_option maxRecDepth 16384

noncomputable section

namespace Cert.KernelIdeal.Compact

open Cert.KernelIdeal Cert.KernelIdeal.Gen
open Idealize.ShloMosaic Idealize.ShloMosaic.TcCoe Idealize.ShloMosaic.ValueIdx

variable {F : FTy → Type} [FloatOps F] {c : Dev nD} {A : Refs}

attribute [local irreducible] part4 xqOf codes4 pairMax scaleOf invOf turn rowsWith pV xV vV coWith xqWith tileC tileX stWith

theorem trips_eq : k0_t1_loop.trips = 17 := by decide +kernel

theorem rowW_eq : ∀ k, rowW k = 8 * k.val := by decide +kernel

theorem colW_eq : ∀ k g, colW k g = 512 * k.val + 128 * g.val := by decide +kernel

theorem off133_eq : ∀ k, k0_off133 k = ![512 * k.val, 0] := by
  have : ∀ k, k0_off133 k 0 = 512 * k.val := by decide +kernel
  intro k; funext a; fin_cases a
  · exact this k
  · rfl

/-! ## The values -/

theorem rowB {b : ℕ} (hb : b < 18) : 8 * b + 8 ≤ 144 := by omega

/-- The code of row `R` of the block at column `C`. -/
def codesAt (z : Vec F S64x144x256 .f32) (R : Fin 256) (C : Fin 8960) : F .fp8e4m3 :=
  tileC z (8 * (C.val / 512)) (rowB (by omega)) ⟨R.val / 128, by omega⟩ ⟨C.val % 512 / 128, by omega⟩ (ix2 ⟨R.val % 128, by omega⟩ ⟨C.val % 128, by omega⟩)

/-- The codes of a block. -/
def codesF (z : Vec F S64x144x256 .f32) : Vec F S256x8960 .fp8e4m3 := fun j => codesAt z (j 0) (j 1)

/-- Code times scale, of row `R` of the block at column `512 b + C`. -/
def xqAt (z : Vec F S64x144x256 .f32) (b : ℕ) (hb : b < 18) (R : Fin 256) (C : Fin 512) : F .bf16 :=
  tileX z (8 * b) (rowB hb) ⟨R.val / 128, by omega⟩ ⟨C.val / 128, by omega⟩ (ix2 ⟨R.val % 128, by omega⟩ ⟨C.val % 128, by omega⟩)

/-- One block of codes times scale. -/
def xqF (z : Vec F S64x144x256 .f32) (b : ℕ) (hb : b < 18) : FVec F S256x512 .bf16 := fun j => xqAt z b hb (j 0) (j 1)

/-- The first two groups of the last one. -/
def xqT (z : Vec F S64x144x256 .f32) : FVec F S256x256 .bf16 := fun j => xqAt z 17 (by omega) (j 0) ((j 1).castLE (by decide))

theorem wInb (b : ℕ) (hb : b < 17) : ∀ a, (![512 * b, 0] : Fin 2 → ℕ) a + S512x1536.size a ≤ S8960x1536.size a := by
  intro a; fin_cases a <;> simp [S512x1536, S8960x1536]; omega

/-- One block of the weights. -/
def wF (w : Vec F S8960x1536 .fp8e4m3) (b : ℕ) (hb : b < 17) : Vec F S512x1536 .fp8e4m3 :=
  fun j => w ((Rect.unit (s := S8960x1536) ![512 * b, 0] S512x1536.size (wInb b hb)).toLoadRect.idx j)

/-- The last rows of the weights. -/
def wT (w : Vec F S8960x1536 .fp8e4m3) : Vec F S256x1536 .fp8e4m3 :=
  fun j => w ((Rect.unit (s := S8960x1536) ![8704, 0] S256x1536.size inb_S8960x1536_S256x1536_8704_0).toLoadRect.idx j)

/-- The accumulator after `k` blocks. -/
def accN (z : Vec F S64x144x256 .f32) (w : Vec F S8960x1536 .fp8e4m3) : ℕ → FVec F S256x1536 .f32
  | 0 => shapeCast S256x1536 (broadcast S256x1536 (Scalar.ofBits .f32 0x00000000#32)) shapeCasts_S256x1536_S256x1536
  | k + 1 => if hk : k < 17 then
      shapeCast S256x1536 (addf (accN z w k) (matmul dot_S256x512_S512x1536_S256x1536_1_0_0_1_n_n none (xqF z k (by omega)) (wF w k hk) (constant S256x1536 .f32 0x00000000#32))) shapeCasts_S256x1536_S256x1536
    else accN z w k

/-- The accumulator after all blocks. -/
def accT (z : Vec F S64x144x256 .f32) (w : Vec F S8960x1536 .fp8e4m3) : FVec F S256x1536 .f32 :=
  shapeCast S256x1536 (addf (accN z w 17) (matmul dot_S256x256_S256x1536_S256x1536_1_0_0_1_n_n none (xqT z) (wT w) (constant S256x1536 .f32 0x00000000#32))) shapeCasts_S256x1536_S256x1536

/-- The output block. -/
def outF (z : Vec F S64x144x256 .f32) (w : Vec F S8960x1536 .fp8e4m3) (ws : Vec F S1x1536 .f32) : FVec F S256x1536 .bf16 :=
  truncf .bf16 (mulf (accT z w) (broadcastTo S256x1536 (shapeCast S1x1536 ws shapeCasts_S1x1536_S1x1536) broadcasts_S1x1536_S256x1536)) bitsLt_bf16_f32

/-- The scales in the scratch buffer. -/
def stAt (z : Vec F S64x144x256 .f32) (h : Fin 2) (a : Fin 144) (l : Fin 128) : F .f32 :=
  scaleOf (vV z (8 * (a.val / 8)) (rowB (by omega)) h) (ix2 ⟨a.val % 8, by omega⟩ l)

/-- The scales of a block. -/
def xsF (z : Vec F S64x144x256 .f32) : Vec F S256x70 .f32 := fun j =>
  stAt z ⟨(j 0).val / 128, by have : (j 0).val < 256 := (j 0).isLt; omega⟩ ⟨2 * (j 1).val, by have : (j 1).val < 70 := (j 1).isLt; omega⟩ ⟨(j 0).val % 128, by omega⟩

/-! ## The runs -/

theorem off2 {S : Shape} (r : Rect S) (j : r.shape.Idx) (k : S.Idx) (h : ∀ a, r.off a + r.stride a * (j a).val = (k a).val) : r.toLoadRect.idx j = k :=
  funext fun a => Fin.ext (h a)

/-- What a block leaves: scales, tiles and columns, by the number of the block. -/
theorem BlockOk.st {b : ℕ} {hb : b < 18} {row : ℕ} {hrow : row + 8 ≤ 144} (er : row = 8 * b) {col : Fin 4 → ℕ} {hcol : ∀ g, col g + 128 ≤ 8960} {gs : List (Fin 4)} {s s' : St F}
    (h : BlockOk row hrow col hcol gs s s') (hst : ∀ h (a : Fin 144) l, a.val < 8 * b → s.st (ix3 h a l) = stAt s.z h a l) :
    ∀ h (a : Fin 144) l, a.val < 8 * (b + 1) → s'.st (ix3 h a l) = stAt s.z h a l := by
  subst er
  obtain ⟨ct, qt, ⟨co, xq, rfl⟩, -, -⟩ := h
  intro h a l ha
  by_cases hlt : a.val < 8 * b
  · exact ((stWith_miss _ _ _ _ _ _ _ _ (.inr (.inl hlt))).trans (stWith_miss _ _ _ _ _ _ _ _ (.inr (.inl hlt)))).trans (hst h a l hlt)
  · obtain ⟨g, rfl⟩ : ∃ g : Fin 8, a = ⟨8 * b + g.val, stIx _ hrow g⟩ := ⟨⟨a.val - 8 * b, by omega⟩, Fin.ext (by show a.val = 8 * b + (a.val - 8 * b); omega)⟩
    have e : stAt s.z h ⟨8 * b + g.val, stIx _ hrow g⟩ l = scaleOf (vV s.z (8 * b) hrow h) (ix2 g l) := by
      have e1 : (8 * b + g.val) / 8 = b := by omega
      have e2 : (⟨(8 * b + g.val) % 8, by omega⟩ : Fin 8) = g := Fin.ext (by show (8 * b + g.val) % 8 = g.val; omega)
      have e3 : ∀ row (h1 : row + 8 ≤ 144), row = 8 * b → vV s.z row h1 h = vV s.z (8 * b) hrow h := by rintro _ _ rfl; rfl
      unfold stAt
      simp only [e2]
      rw [e3 _ _ (by show 8 * ((8 * b + g.val) / 8) = 8 * b; rw [e1])]
    rw [e]
    obtain rfl | rfl : h = 0 ∨ h = 1 := by omega
    · exact (stWith_miss _ _ _ _ _ _ _ _ (.inl (by decide))).trans (stWith_hit _ hrow 0 _ _ g l)
    · exact stWith_hit _ hrow 1 _ _ g l

theorem BlockOk.xq {b : ℕ} (hb : b < 18) {row : ℕ} {hrow : row + 8 ≤ 144} (er : row = 8 * b) {col : Fin 4 → ℕ} {hcol : ∀ g, col g + 128 ≤ 8960} {gs : List (Fin 4)} {s s' : St F}
    (h : BlockOk row hrow col hcol gs s s') (R : Fin 256) (C : Fin 512) (hg : (⟨C.val / 128, by omega⟩ : Fin 4) ∈ gs) : s'.xq (ix2 R C) = xqAt s.z b hb R C := by
  subst er
  obtain ⟨ct, qt, -, ht, -⟩ := h
  have := (ht _ ⟨R.val / 128, by omega⟩ hg ⟨R.val % 128, by omega⟩ ⟨C.val % 128, by omega⟩).2
  refine Eq.trans (congrArg s'.xq ?_) this
  congr 1 <;> refine Fin.ext ?_
  · show R.val = 128 * (R.val / 128) + R.val % 128; omega
  · show C.val = 128 * (C.val / 128) + C.val % 128; omega

theorem BlockOk.codes {b : ℕ} (hb : b < 18) {row : ℕ} {hrow : row + 8 ≤ 144} (er : row = 8 * b) {col : Fin 4 → ℕ} {hcol : ∀ g, col g + 128 ≤ 8960} {gs : List (Fin 4)}
    (ec : ∀ g ∈ gs, col g = 512 * b + 128 * g.val) {s s' : St F}
    (h : BlockOk row hrow col hcol gs s s') (hco : ∀ R (C : Fin 8960), C.val < 512 * b → s.codes (ix2 R C) = codesAt s.z R C) (R : Fin 256) (C : Fin 8960)
    (hC : C.val < 512 * b ∨ C.val / 512 = b ∧ (⟨C.val % 512 / 128, by omega⟩ : Fin 4) ∈ gs) : s'.codes (ix2 R C) = codesAt s.z R C := by
  subst er
  obtain ⟨ct, qt, -, ht, hm⟩ := h
  rcases hC with hC | ⟨rfl, hg⟩
  · exact (hm R C fun g hg => .inl (by rw [ec g hg]; omega)).trans (hco R C hC)
  · have := (ht _ ⟨R.val / 128, by omega⟩ hg ⟨R.val % 128, by omega⟩ ⟨C.val % 128, by omega⟩).1
    refine Eq.trans (congrArg s'.codes ?_) this
    have e := ec _ hg
    congr 1 <;> refine Fin.ext ?_
    · show R.val = 128 * (R.val / 128) + R.val % 128; omega
    · show C.val = col ⟨C.val % 512 / 128, by omega⟩ + C.val % 128
      rw [e]
      show C.val = 512 * (C.val / 512) + 128 * (C.val % 512 / 128) + C.val % 128
      omega

theorem BlockOk.keep {row : ℕ} {hrow : row + 8 ≤ 144} {col : Fin 4 → ℕ} {hcol : ∀ g, col g + 128 ≤ 8960} {gs : List (Fin 4)} {s s' : St F}
    (h : BlockOk row hrow col hcol gs s s') : s'.z = s.z ∧ s'.w = s.w ∧ s'.ws = s.ws ∧ s'.acc = s.acc := by
  obtain ⟨ct, qt, ⟨co, xq, rfl⟩, -, -⟩ := h
  exact ⟨rfl, rfl, rfl, rfl⟩

/-- The state before block `k`. -/
structure Inv (s0 : St F) (k : ℕ) (s : St F) : Prop where
  z : s.z = s0.z
  w : s.w = s0.w
  ws : s.ws = s0.ws
  acc : s.acc = accN s0.z s0.w k
  st : ∀ h (a : Fin 144) l, a.val < 8 * k → s.st (ix3 h a l) = stAt s0.z h a l
  codes : ∀ R (C : Fin 8960), C.val < 512 * k → s.codes (ix2 R C) = codesAt s0.z R C

theorem nat01 (n : ℕ) : 0 + 1 * n = n := by omega

theorem accLd (X : Vec F S256x1536 .f32) :
    (fun j => X ((Rect.unit (s := S256x1536) ![0, 0] S256x1536.size inb_S256x1536_S256x1536_0_0).toLoadRect.idx j)) = X :=
  funext fun j => congrArg X (off2 _ _ _ fun a => by fin_cases a <;> exact nat01 _)

theorem wsLd (X : Vec F S1x1536 .f32) :
    (fun j => X ((Rect.unit (s := S1x1536) ![0, 0] S1x1536.size inb_S1x1536_S1x1536_0_0).toLoadRect.idx j)) = X :=
  funext fun j => congrArg X (off2 _ _ _ fun a => by fin_cases a <;> exact nat01 _)

theorem accSt {t : EltTy} (X w : Vec F S256x1536 t) : (Rect.unit (s := S256x1536) ![0, 0] S256x1536.size inb_S256x1536_S256x1536_0_0).overlay X w = w :=
  funext fun j => ov_hit (Rect.unit (s := S256x1536) ![0, 0] S256x1536.size inb_S256x1536_S256x1536_0_0) X w j j fun a => by fin_cases a <;> exact (nat01 _).symm

theorem trip_tr (s0 : St F) (k : Fin k0_t1_loop.trips) (s : St F) (hI : Inv s0 k.val s) :
    Tr c A (trip A.a1 A.a2 A.a5 A.h5 A.a7 A.a8 A.a9 A.h9 A.a10 A.a11 k) s (fun _ s' => Inv s0 (k.val + 1) s') := by
  have hk : k.val < 17 := trips_eq ▸ k.2
  unfold trip
  refine Tr.bind (block_tr _ _ _ _ _ s fun g _ g' _ hne => ?_) fun _ s1 hB => ?_
  · have : g.val ≠ g'.val := fun e => hne (Fin.ext e)
    rw [colW_eq, colW_eq]; omega
  obtain ⟨kz, kw, kws, kacc⟩ := hB.keep
  have hst := hB.st (hb := by omega) (rowW_eq k) (fun h a l ha => (hI.st h a l ha).trans (by rw [hI.z]))
  have hxq := hB.xq (b := k.val) (by omega) (rowW_eq k)
  have hco := hB.codes (b := k.val) (by omega) (rowW_eq k) (fun g _ => colW_eq k g) (fun R C hC => (hI.codes R C hC).trans (by rw [hI.z]))
  rw [hI.z] at hst hxq hco
  refine Tr.bind (Tr.load (Q := fun a s' => a = wF s0.w k.val hk ∧ s' = s1) foc2 _ _ s1 rfl ⟨funext fun j => ?_, rfl⟩) fun a s' hR => ?_
  · show s1.w _ = s0.w _
    rw [kw, hI.w]
    refine congrArg s0.w (funext fun a => Fin.ext ?_)
    exact congrArg (· + 1 * (j a).val) (congrFun (off133_eq k) a)
  obtain ⟨rfl, rfl⟩ := hR
  refine Tr.bind (Tr.load (Q := fun a s'' => a = accN s0.z s0.w k.val ∧ s'' = s') foc11 _ _ s' rfl ⟨(accLd s'.acc).trans (kacc.trans hI.acc), rfl⟩) fun a s1 hR => ?_
  obtain ⟨rfl, rfl⟩ := hR
  refine Tr.bind (Tr.load (Q := fun a s'' => a = xqF s0.z k.val (by omega) ∧ s'' = s1) foc9 _ _ s1 rfl ⟨funext fun j => ?_, rfl⟩) fun a s' hR => ?_
  · obtain ⟨R, C, rfl⟩ : ∃ (R : Fin 256) (C : Fin 512), j = ix2 R C := ⟨j 0, j 1, eq_ix2 j⟩
    refine Eq.trans (congrArg s1.xq (off2 _ _ (ix2 R C) fun a => by fin_cases a <;> exact nat01 _)) (hxq R C ?_)
    have : ∀ g : Fin 4, g ∈ ([0, 1, 2, 3] : List (Fin 4)) := by decide
    exact this _
  obtain ⟨rfl, rfl⟩ := hR
  refine Tr.bind (Tr.load (Q := fun a s'' => s'' = s') foc11 _ _ s' rfl rfl) fun a s1 hR => ?_
  subst hR
  refine Tr.store foc11 _ _ _ _ s1 ?_
  refine ⟨kz.trans hI.z, kw.trans hI.w, kws.trans hI.ws, ?_, hst, fun R C hC => hco R C ?_⟩
  · refine (accSt _ _).trans ?_
    rw [accN, dif_pos hk]
  · have : ∀ g : Fin 4, g ∈ ([0, 1, 2, 3] : List (Fin 4)) := by decide
    by_cases h : C.val < 512 * k.val
    · exact .inl h
    · exact .inr ⟨by omega, this _⟩

theorem loop_tr (s0 : St F) (s : St F) (hI : Inv s0 0 s) :
    Tr c A (Scf.Loop.for k0_t1_loop k0_t1_ok ⟨⟩ (fun k (_ : Unit) => trip (F := F) A.a1 A.a2 A.a5 A.h5 A.a7 A.a8 A.a9 A.h9 A.a10 A.a11 k)) s (fun _ s' => Inv s0 17 s') := by
  have := Tr.loop (c := c) (A := A) _ _ _ k0_t1_ok (⟨⟩ : Unit) (fun k (_ : Unit) => trip (F := F) A.a1 A.a2 A.a5 A.h5 A.a7 A.a8 A.a9 A.h9 A.a10 A.a11 k) (Inv s0)
    (fun k _ s hI => trip_tr s0 k s hI) hI
  exact this.mono fun _ s' h => by rw [← trips_eq]; exact h

/-- The state after the last block. -/
structure Fin' (s0 : St F) (s : St F) : Prop where
  z : s.z = s0.z
  w : s.w = s0.w
  ws : s.ws = s0.ws
  st : ∀ h (a : Fin 144) l, s.st (ix3 h a l) = stAt s0.z h a l
  codes : s.codes = codesF s0.z

theorem tail_tr (s0 : St F) (s : St F) (hI : Inv s0 17 s) :
    Tr c A (block A.a1 A.a5 A.h5 A.a7 A.a8 A.a9 A.h9 A.a10 136 (by omega) colT colT_le [0, 1]) s
      (fun _ s' => Fin' s0 s' ∧ s'.acc = accN s0.z s0.w 17 ∧ ∀ (R : Fin 256) (C : Fin 512), C.val < 256 → s'.xq (ix2 R C) = xqAt s0.z 17 (by omega) R C) := by
  have e2 : ∀ g ∈ ([0, 1] : List (Fin 4)), colT g = 512 * 17 + 128 * g.val := by decide
  have m2 : ∀ g : Fin 4, g.val < 2 → g ∈ ([0, 1] : List (Fin 4)) := by decide
  refine (block_tr _ _ _ _ _ s fun g hg g' hg' hne => ?_).mono fun _ s1 hB => ?_
  · have : g.val ≠ g'.val := fun e => hne (Fin.ext e)
    rw [e2 g hg, e2 g' hg']; omega
  obtain ⟨kz, kw, kws, kacc⟩ := hB.keep
  have hst := hB.st (b := 17) (hb := by omega) rfl (fun h a l ha => (hI.st h a l ha).trans (by rw [hI.z]))
  have hxq := hB.xq (b := 17) (by omega) rfl
  have hco := hB.codes (b := 17) (by omega) rfl e2 (fun R C hC => (hI.codes R C hC).trans (by rw [hI.z]))
  rw [hI.z] at hst hxq hco
  refine ⟨⟨kz.trans hI.z, kw.trans hI.w, kws.trans hI.ws, fun h a l => hst h a l a.2, funext fun j => ?_⟩, kacc.trans hI.acc, fun R C hC => hxq R C (m2 _ ?_)⟩
  · obtain ⟨R, C, rfl⟩ : ∃ (R : Fin 256) (C : Fin 8960), j = ix2 R C := ⟨j 0, j 1, eq_ix2 j⟩
    refine hco R C ?_
    by_cases h : C.val < 512 * 17
    · exact .inl h
    · exact .inr ⟨by omega, m2 _ (by show C.val % 512 / 128 < 2; omega)⟩
  · show C.val / 128 < 2; omega

theorem finale_tr (s0 : St F) (s : St F) (hI : Fin' s0 s) (hacc : s.acc = accN s0.z s0.w 17)
    (hxq : ∀ (R : Fin 256) (C : Fin 512), C.val < 256 → s.xq (ix2 R C) = xqAt s0.z 17 (by omega) R C) :
    Tr c A (finale A.a2 A.a3 A.a4 A.h4 A.a9 A.a11) s (fun _ s' => Fin' s0 s' ∧ s'.out = outF s0.z s0.w s0.ws) := by
  unfold finale
  refine Tr.bind (Tr.load (Q := fun a s' => a = wT s0.w ∧ s' = s) foc2 _ _ s rfl ⟨funext fun j => congrFun hI.w _, rfl⟩) fun a s' hR => ?_
  obtain ⟨rfl, rfl⟩ := hR
  refine Tr.bind (Tr.load (Q := fun a s'' => a = accN s0.z s0.w 17 ∧ s'' = s') foc11 _ _ s' rfl ⟨(accLd s'.acc).trans hacc, rfl⟩) fun a s1 hR => ?_
  obtain ⟨rfl, rfl⟩ := hR
  refine Tr.bind (Tr.load (Q := fun a s'' => a = xqT s0.z ∧ s'' = s1) foc9 _ _ s1 rfl ⟨funext fun j => ?_, rfl⟩) fun a s' hR => ?_
  · obtain ⟨R, C, rfl⟩ : ∃ (R : Fin 256) (C : Fin 256), j = ix2 R C := ⟨j 0, j 1, eq_ix2 j⟩
    exact Eq.trans (congrArg s1.xq (off2 _ _ (ix2 R (C.castLE (by decide))) fun a => by fin_cases a <;> exact nat01 _)) (hxq R _ C.2)
  obtain ⟨rfl, rfl⟩ := hR
  refine Tr.bind (Tr.load (Q := fun a s'' => s'' = s') foc11 _ _ s' rfl rfl) fun a s1 hR => ?_
  subst hR
  refine Tr.bind (Tr.store (Q := fun _ s'' => s'' = { s1 with acc := accT s0.z s0.w }) foc11 _ _ _ _ s1 ?_) fun _ s' hR => ?_
  · show ({ s1 with acc := _ } : St F) = _
    rw [accSt]; rfl
  subst hR
  refine Tr.bind (Tr.load (Q := fun a s'' => a = accT s0.z s0.w ∧ s'' = { s1 with acc := accT s0.z s0.w }) foc11 _ _ _ rfl ⟨accLd _, rfl⟩) fun a s2 hR => ?_
  obtain ⟨rfl, rfl⟩ := hR
  refine Tr.bind (Tr.load (Q := fun a s'' => a = s0.ws ∧ s'' = { s1 with acc := accT s0.z s0.w }) foc3 _ _ _ rfl ⟨(wsLd s1.ws).trans hI.ws, rfl⟩) fun a s2 hR => ?_
  obtain ⟨rfl, rfl⟩ := hR
  refine Tr.bind (Tr.load (Q := fun a s'' => s'' = { s1 with acc := accT s0.z s0.w }) foc4 _ _ _ rfl rfl) fun a s2 hR => ?_
  subst hR
  refine Tr.store foc4 _ _ _ _ _ ?_
  exact ⟨⟨hI.z, hI.w, hI.ws, hI.st, hI.codes⟩, accSt _ _⟩

theorem xsWith_hit (h : Fin 2) (X : Vec F S256x70 .f32) (w : FVec F S128x70 .f32) (r : Fin 128) (t : Fin 70) :
    (Rect.unit (s := S256x70) ![128 * h.val, 0] S128x70.size (xsInb h)).overlay X w (ix2 ⟨128 * h.val + r.val, rowIx h r⟩ t) = w (ix2 r t) := by
  refine ov_hit (Rect.unit (s := S256x70) ![128 * h.val, 0] S128x70.size (xsInb h)) X w _ (ix2 r t) fun a => ?_
  fin_cases a
  · show 128 * h.val + r.val = 128 * h.val + 1 * r.val; omega
  · show t.val = 0 + 1 * t.val; omega

theorem xsWith_miss (h h' : Fin 2) (hne : h' ≠ h) (X : Vec F S256x70 .f32) (w : FVec F S128x70 .f32) (r : Fin 128) (t : Fin 70) :
    (Rect.unit (s := S256x70) ![128 * h.val, 0] S128x70.size (xsInb h)).overlay X w (ix2 ⟨128 * h'.val + r.val, rowIx h' r⟩ t) = X (ix2 ⟨128 * h'.val + r.val, rowIx h' r⟩ t) := by
  refine ov_miss _ X _ _ 0 fun i hi e => hne (Fin.ext ?_)
  have e' : 128 * h'.val + r.val = 128 * h.val + 1 * i := e
  have hi' : i < 128 := hi
  omega

theorem scalesOf_apply (s : FVec F S72x128 .f32) (r : Fin 128) (t : Fin 70) : scalesOf s (ix2 r t) = s (ix2 (t.castLE (by decide)) r) := by
  unfold scalesOf
  refine (extractStridedSlice_apply _ _ _ _ (ix2 r (t.castLE (by decide) : Fin 128)) (fun a => by fin_cases a <;> exact (Nat.zero_add _).symm)).trans ?_
  refine (transpose_apply _ _ _ _ (ix2 (t.castLE (by decide) : Fin 128) r) (fun a => by fin_cases a <;> rfl)).trans ?_
  exact concatenate_pair_apply_left (t := S128x128) (s₁ := S72x128) (s₂ := S56x128) 0 s _ _ (ix2 (t.castLE (by decide) : Fin 128) r) rfl (ix2 (t.castLE (by decide) : Fin 72) r) (fun b => by fin_cases b <;> rfl)

theorem scalesHalf_tr (s0 : St F) (h : Fin 2) (s : St F) (hI : Fin' s0 s) :
    Tr c A (scalesHalf A.a6 A.a10 h) s (fun _ s' => Fin' s0 s' ∧ s'.out = s.out
      ∧ (∀ (r : Fin 128) (t : Fin 70), s'.xs (ix2 ⟨128 * h.val + r.val, rowIx h r⟩ t) = stAt s0.z h ⟨2 * t.val, by omega⟩ r)
      ∧ ∀ h', h' ≠ h → ∀ (r : Fin 128) (t : Fin 70), s'.xs (ix2 ⟨128 * h'.val + r.val, rowIx h' r⟩ t) = s.xs (ix2 ⟨128 * h'.val + r.val, rowIx h' r⟩ t)) := by
  unfold scalesHalf
  refine Tr.bind (Tr.load (Q := fun a s' => a = (fun j => s.st ((evRect h).idx j)) ∧ s' = s) foc10 _ _ s rfl ⟨rfl, rfl⟩) fun a s' hR => ?_
  obtain ⟨rfl, rfl⟩ := hR
  refine Tr.bind (Tr.load (Q := fun a s'' => s'' = s') foc6 _ _ s' rfl rfl) fun a s hR => ?_
  subst hR
  refine Tr.store foc6 _ _ _ _ s ?_
  refine ⟨⟨hI.z, hI.w, hI.ws, hI.st, hI.codes⟩, rfl, fun r t => (xsWith_hit h _ _ r t).trans ?_, fun h' hne r t => xsWith_miss h h' hne _ _ r t⟩
  rw [scalesOf_apply]
  refine (shapeCast_dropUnit_apply ![72, 128] _ _ (ix2 (t.castLE (by decide) : Fin 72) r)).trans ?_
  refine Eq.trans (congrArg s.st (funext fun a => Fin.ext ?_)) (hI.st h ⟨2 * t.val, by omega⟩ r)
  fin_cases a
  · show h.val + 1 * 0 = h.val; omega
  · show 0 + 2 * t.val = 2 * t.val; omega
  · show 0 + 1 * r.val = r.val; omega

/-- The body: the three output blocks are those values of the input blocks. -/
theorem body_tr (s0 : St F) :
    Tr c A (body A.a1 A.a2 A.a3 A.a4 A.h4 A.a5 A.h5 A.a6 A.a7 A.a8 A.a9 A.h9 A.a10 A.a11) s0 (fun _ s => s.z = s0.z ∧ s.w = s0.w ∧ s.ws = s0.ws
      ∧ s.out = outF s0.z s0.w s0.ws ∧ s.codes = codesF s0.z ∧ s.xs = xsF s0.z) := by
  unfold body
  refine Tr.bind (Tr.load (Q := fun a s' => s' = s0) foc11 _ _ s0 rfl rfl) fun a s hR => ?_
  subst hR
  refine Tr.bind (Tr.store (Q := fun _ s' => Inv s 0 s') foc11 _ _ _ _ s ⟨rfl, rfl, rfl, accSt _ _, fun _ _ _ h => by omega, fun _ _ h => by omega⟩) fun _ s1 hI => ?_
  refine Tr.bind (loop_tr s s1 hI) fun _ s2 hI => ?_
  refine Tr.bind (tail_tr s s2 hI) fun _ s3 hI => ?_
  obtain ⟨hI, hacc, hxq⟩ := hI
  refine Tr.bind (finale_tr s s3 hI hacc hxq) fun _ s4 hI => ?_
  obtain ⟨hI, hout⟩ := hI
  refine Tr.bind (scalesHalf_tr s 0 s4 hI) fun _ s5 hI => ?_
  obtain ⟨hI, ho, h0, -⟩ := hI
  refine (scalesHalf_tr s 1 s5 hI).mono fun _ s6 hI => ?_
  obtain ⟨hI, ho', h1, hk⟩ := hI
  refine ⟨hI.z, hI.w, hI.ws, ho'.trans (ho.trans hout), hI.codes, funext fun j => ?_⟩
  obtain ⟨R, t, rfl⟩ : ∃ (R : Fin 256) (t : Fin 70), j = ix2 R t := ⟨j 0, j 1, eq_ix2 j⟩
  have key : ∀ (h : Fin 2) (r : Fin 128), s6.xs (ix2 ⟨128 * h.val + r.val, rowIx h r⟩ t) = stAt s.z h ⟨2 * t.val, by omega⟩ r := by
    intro h r
    obtain rfl | rfl : h = 0 ∨ h = 1 := by omega
    · exact (hk 0 (by decide) r t).trans (h0 r t)
    · exact h1 r t
  have e : R = (⟨128 * (R.val / 128) + R.val % 128, by omega⟩ : Fin 256) := Fin.ext (by show R.val = 128 * (R.val / 128) + R.val % 128; omega)
  refine Eq.trans (congrArg (fun R => s6.xs (ix2 R t)) e) (key ⟨R.val / 128, by omega⟩ ⟨R.val % 128, by omega⟩)

end Cert.KernelIdeal.Compact

end
-- ==== Proof.KernelIdeal.Run.lean ====
/-
  The run of the kernel's body on whole buffers: the three output blocks end at the values of `Body.lean`.
-/
module

public import proofs.«01_k».proof.Proof.KernelIdeal.Body

@[expose] public section

noncomputable section

namespace Cert.KernelIdeal.Compact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .vmem S64x144x256 .f32) (harg1 : arg1.IsWhole) (arg2 : Memref sig .tc .vmem S8960x1536 .fp8e4m3) (harg2 : arg2.IsWhole) (arg3 : Memref sig .tc .vmem S1x1536 .f32) (harg3 : arg3.IsWhole) (arg4 : Memref sig .tc .vmem S256x1536 .bf16) (harg4 : arg4.IsWhole) (arg5 : Memref sig .tc .vmem S256x8960 .fp8e4m3) (harg5 : arg5.IsWhole) (arg6 : Memref sig .tc .vmem S256x70 .f32) (harg6 : arg6.IsWhole) (arg7 : Memref sig .tc .vmem S2x544x128 .f32) (harg7 : arg7.IsWhole) (arg8 : Memref sig .tc .vmem S2x544x128 .f32) (harg8 : arg8.IsWhole) (arg9 : Memref sig .tc .vmem S256x512 .bf16) (harg9 : arg9.IsWhole) (arg10 : Memref sig .tc .vmem S2x144x128 .f32) (harg10 : arg10.IsWhole) (arg11 : Memref sig .tc .vmem S256x1536 .f32) (harg11 : arg11.IsWhole)

/-- THE BODY: on whole buffers holding `x0` (the rotated activations), `x1` (weight codes) and `x2` (column scales), with
    the output blocks and the scratch buffers at any contents, the body ends with the output blocks at `outF`, `codesF`
    and `xsF` and the inputs as they were. -/
theorem run (x0 : Vec F S64x144x256 .f32) (x1 : Vec F S8960x1536 .fp8e4m3) (x2 : Vec F S1x1536 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outF x0 x1 x2) ∗ owns (c : Thread nD τ) arg5 fullShare (codesF x0) ∗ owns (c : Thread nD τ) arg6 fullShare (xsF x0)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_hadamard_fp8_down_proj i arg1 harg1 arg2 harg2 arg3 harg3 arg4 harg4 arg5 harg5 arg6 harg6 arg7 harg7 arg8 harg8 arg9 harg9 arg10 harg10 arg11 harg11) K := by
  rw [body_eq]
  iintro ⟨H1, H2, H3, ⟨%d4, H4⟩, ⟨%d5, H5⟩, ⟨%d6, H6⟩, ⟨%d7, H7⟩, ⟨%d8, H8⟩, ⟨%d9, H9⟩, ⟨%d10, H10⟩, ⟨%d11, H11⟩, Hk⟩
  obtain ⟨⟨⟩, s', ⟨hz, hw, hws, hout, hcodes, hxs⟩, hE⟩ := body_tr (c := c) (A := ⟨arg1, arg2, arg3, arg4, arg5, arg6, arg7, arg8, arg9, arg10, arg11, harg4, harg5, harg9⟩)
    ⟨x0, x1, x2, d4, d5, d6, d7, d8, d9, d10, d11⟩
  iapply (hE E K)
  unfold Own
  isplitr [Hk]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  rw [hz, hw, hws, hout, hcodes, hxs]
  iintro ⟨H1, H2, H3, H4, H5, H6, H7, H8, H9, H10, H11⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

end Cert.KernelIdeal.Compact

end
-- ==== Proof.KernelIdeal.Frame.lean ====
/-
  The frame of `KernelIdeal`: the pipeline's proof data with the output blocks at `outF`, `codesF` and `xsF` of the point's input blocks, the
  body obligation from `Compact.run`, and so the run of the whole program. The text follows the generated frames.
-/
module

public import proofs.«01_k».proof.Proof.KernelIdeal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## What the outputs hold after each point -/

/-- The scratch buffers as memrefs, and the region's invariant with them owned at some contents. -/
abbrev scM0_0 : Memref sig .tc .vmem S2x544x128 .f32 := Memref.whole cc0_scratch0
abbrev scM0_1 : Memref sig .tc .vmem S2x544x128 .f32 := Memref.whole cc0_scratch1
abbrev scM0_2 : Memref sig .tc .vmem S256x512 .bf16 := Memref.whole cc0_scratch2
abbrev scM0_3 : Memref sig .tc .vmem S2x144x128 .f32 := Memref.whole cc0_scratch3
abbrev scM0_4 : Memref sig .tc .vmem S256x1536 .f32 := Memref.whole cc0_scratch4

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What the outputs' staging buffers hold after the body at point `t`. -/
def out0At (c : Dev nD) (t : Fin cfg0.N) : Vec F S256x1536 .bf16 := Compact.outF (iblk m c 0 t) (iblk m c 1 t) (iblk m c 2 t)
def out1At (c : Dev nD) (t : Fin cfg0.N) : Vec F S256x8960 .fp8e4m3 := Compact.codesF (iblk m c 0 t)
def out2At (c : Dev nD) (t : Fin cfg0.N) : Vec F S256x70 .f32 := Compact.xsF (iblk m c 0 t)

/-! ## The pipeline's proof data -/

/-- The proof data of the one pipeline on core `c`: the arrays as the region finds them (`V`); after the body at
    point `t` each input's buffer at its block and the outputs' at `out0At`, `out1At` and `out2At`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0At m c t
    | ⟨4, _⟩ => out1At m c t
    | ⟨5, _⟩ => out2At m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0At m c t := by dsimp only [dats]
theorem after0_4 (c : Dev nD) (t : Fin cfg0.N) : (dats m 0 c).after 4 t = out1At m c t := by dsimp only [dats]
theorem after0_5 (c : Dev nD) (t : Fin cfg0.N) : (dats m 0 c).after 5 t = out2At m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold out0At out1At out2At
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (Compact.run c (grid0.coords t) _ _ _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KernelIdeal.Blocks.lean ====
/-
  The result arrays of `KernelIdeal`, block by block: what each grid point writes back, and the run of the whole program
  with the result arrays named.
-/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.out0At`), read through the window's block. -/
theorem flushed3 (c : Dev nD) (t : Fin cfg0.N) :
    (dats m 0 c).flushed 3 t = (cfg0.win 3).cut (grid0.coords t) (out0At m c t) := by
  show (cfg0.win 3).cut (grid0.coords t) ((dats m 0 c).after 3 t) = _
  rw [after0_3]

/-- The index map sends distinct grid points to distinct block indices (decided over the 24 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v4_0) = (dats m 0 c).arrAt 3 cfg0.N :=
  (h c).1 3

/-- WHAT POINT `t` WRITES BACK to output window 4's array: the run's contents for that window after the body (`Gen.out1At`), read through the window's block. -/
theorem flushed4 (c : Dev nD) (t : Fin cfg0.N) :
    (dats m 0 c).flushed 4 t = (cfg0.win 4).cut (grid0.coords t) (out1At m c t) := by
  show (cfg0.win 4).cut (grid0.coords t) ((dats m 0 c).after 4 t) = _
  rw [after0_4]

/-- The index map sends distinct grid points to distinct block indices (decided over the 24 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v4_1) = (dats m 0 c).arrAt 4 cfg0.N :=
  (h c).1 4

/-- WHAT POINT `t` WRITES BACK to output window 5's array: the run's contents for that window after the body (`Gen.out2At`), read through the window's block. -/
theorem flushed5 (c : Dev nD) (t : Fin cfg0.N) :
    (dats m 0 c).flushed 5 t = (cfg0.win 5).cut (grid0.coords t) (out2At m c t) := by
  show (cfg0.win 5).cut (grid0.coords t) ((dats m 0 c).after 5 t) = _
  rw [after0_5]

/-- The index map sends distinct grid points to distinct block indices (decided over the 24 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_2) = (dats m 0 c).arrAt 5 cfg0.N :=
  (h c).1 5

/-- After the frame run, argument `main_arg0` is as launched: no window stages it. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED, the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 3 cfg0.N
      ∧ r.2.mem ((c : Thread nD τ).loc main_v4_1) = (dats m 0 c).arrAt 4 cfg0.N
      ∧ r.2.mem ((c : Thread nD τ).loc main_v4_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c, post4 m r h c, post5 m r h c,
      kept_main_arg0 m r h c, kept_main_arg1 m r h c, kept_main_arg2 m r h c⟩)
    (run_main m ρ)

end Cert.KernelIdeal.Value

end
-- ==== Proof.Spec.lean ====
/-
  The mathematics of the quantiser and the down-projection over the extended reals, as functions of one array of
  activations, 6144 rows by 8960 columns. It mentions no tiles and no grid.
-/
module

public import Idealize.ShloMosaic.PureOps.Ideal
public import Idealize.ShloMosaic.Lib.ValueIdxCore
public import Idealize.ShloMosaic.Lib.Pipeline.Value
public import Idealize.ShloMosaic.Lib.MatmulPlain
public import Idealize.ShloMosaic.Lib.Pipeline.ValueKit.Tiles

@[expose] public section

noncomputable section

namespace Cert.Spec

open Idealize.ShloMosaic Idealize.ShloMosaic.ValueIdx
open scoped BigOperators

/-- The power of two `2 ^ k`. -/
abbrev p2 (k : ℤ) : EReal := (((2 : ℝ) ^ k : ℝ) : EReal)

/-- The exponent of a group's scale from its scaled maximum `v`: how many of the powers `2 ^ -126 … 2 ^ 127` are at most
    `v`, less 126; and 0 where `v` is not between `2 ^ -126` and `2 ^ 128`. -/
def expo (v : EReal) : EReal :=
  if p2 (-126) ≤ v ∧ v * p2 (-1) < p2 127 then (∑ j : Fin 254, if p2 ((j.val : ℤ) - 126) ≤ v then (1 : EReal) else 0) - (126 : ℝ) else 0

/-- The scale of a group. -/
def scale (v : EReal) : EReal := Ideal.pow 2 (expo v)

/-- The reciprocal of the scale of a group. -/
def inv (v : EReal) : EReal := Ideal.pow 2 (-expo v)

/-- Absolute value. -/
def absE (x : EReal) : EReal := max x (-x)

/-- The activations as 6144 rows. -/
def rows (y : Vec Ideal ⟨3, ![12, 512, 8960]⟩ .f32) : Vec Ideal ⟨2, ![6144, 8960]⟩ .f32 := fun i =>
  y (ix3 (⟨(i 0).val / 512, by have : (i 0).val < 6144 := (i 0).isLt; omega⟩ : Fin 12) (⟨(i 0).val % 512, by omega⟩ : Fin 512) (i 1))

/-- The largest absolute value in the 128 columns of group `g` of row `r`. -/
def amax (y : Vec Ideal ⟨2, ![6144, 8960]⟩ .f32) (r : Fin 6144) (g : Fin 70) : EReal :=
  Finset.univ.sup fun l : Fin 128 => absE (y (ix2 r (⟨128 * g.val + l.val, by have := g.2; have := l.2; omega⟩ : Fin 8960)))

/-- The scaled maximum: the maximum times the constant nearest 1/448. -/
def gmax (y : Vec Ideal ⟨2, ![6144, 8960]⟩ .f32) (r : Fin 6144) (g : Fin 70) : EReal := amax y r g * Ideal.ofBits .f32 0x3B124925#32

/-- The group of a column. -/
def grp (k : Fin 8960) : Fin 70 := ⟨k.val / 128, by have := k.2; omega⟩

/-- `x` clipped to ±448. -/
def clip (x : EReal) : EReal := min (Ideal.ofBits .f32 0x43E00000#32) (max (Ideal.ofBits .f32 0xC3E00000#32) x)

/-- The codes: each activation over its group's scale, clipped. -/
def codes (y : Vec Ideal ⟨2, ![6144, 8960]⟩ .f32) : Vec Ideal ⟨2, ![6144, 8960]⟩ .fp8e4m3 := fun i =>
  clip (y i * inv (gmax y (i 0) (grp (i 1))))

/-- The scales, one per row and group. -/
def scales (y : Vec Ideal ⟨2, ![6144, 8960]⟩ .f32) : Vec Ideal ⟨2, ![6144, 70]⟩ .f32 := fun i => scale (gmax y (i 0) (i 1))

/-- The product: element `(r, n)` is the sum over the columns `k` of code times scale times `w[k,n]`, times `ws[n]`. -/
def out (y : Vec Ideal ⟨2, ![6144, 8960]⟩ .f32) (w : Vec Ideal ⟨2, ![8960, 1536]⟩ .fp8e4m3) (ws : Vec Ideal ⟨2, ![1, 1536]⟩ .f32) :
    Vec Ideal ⟨2, ![6144, 1536]⟩ .bf16 := fun i =>
  (∑ k : Fin 8960, ((codes y (ix2 (i 0) k) : EReal) * scale (gmax y (i 0) (grp k))) * w (ix2 k (i 1))) * ws (ix2 (0 : Fin 1) (i 1))

theorem absE_nonneg (x : EReal) : 0 ≤ absE x := by
  unfold absE
  rcases le_total 0 x with h | h
  · exact h.trans (le_max_left _ _)
  · exact (EReal.neg_nonneg.mpr h).trans (le_max_right _ _)

/-! ## Powers of two -/

theorem p2_mul (a b : ℤ) : p2 a * p2 b = p2 (a + b) := by
  rw [← EReal.coe_mul]
  exact congrArg _ (zpow_add₀ (by norm_num : (2 : ℝ) ≠ 0) a b).symm

theorem p2_le_iff {n : ℤ} {v : EReal} (h0 : p2 n ≤ v) (h1 : v < p2 (n + 1)) (a : ℤ) : p2 a ≤ v ↔ a ≤ n := by
  constructor
  · intro h
    have h2 : (2 : ℝ) ^ a < (2 : ℝ) ^ (n + 1) := EReal.coe_lt_coe_iff.mp (h.trans_lt h1)
    have := (zpow_lt_zpow_iff_right₀ (one_lt_two : (1 : ℝ) < 2)).mp h2
    omega
  · intro h
    refine le_trans ?_ h0
    exact EReal.coe_le_coe_iff.mpr ((zpow_le_zpow_iff_right₀ (one_lt_two : (1 : ℝ) < 2)).mpr h)

/-- Between `2 ^ -126` and `2 ^ 128` a value lies between two neighbouring powers. -/
theorem exists_n {v : EReal} (h0 : p2 (-126) ≤ v) (h1 : v * p2 (-1) < p2 127) :
    ∃ n : ℤ, p2 n ≤ v ∧ v < p2 (n + 1) ∧ -126 ≤ n ∧ n ≤ 127 := by
  have hpos : ∀ k : ℤ, (0 : ℝ) < (2 : ℝ) ^ k := fun k => zpow_pos (by norm_num) k
  induction v using EReal.rec with
  | bot => exact absurd h0 (not_le.mpr (EReal.bot_lt_coe _))
  | top =>
    rw [EReal.top_mul_coe_of_pos (hpos _)] at h1
    exact absurd h1 not_top_lt
  | coe x =>
    have hx0 : (2 : ℝ) ^ (-126 : ℤ) ≤ x := EReal.coe_le_coe_iff.mp h0
    have hx : 0 < x := (hpos _).trans_le hx0
    obtain ⟨n, hn0, hn1⟩ := exists_mem_Ico_zpow hx (one_lt_two : (1 : ℝ) < 2)
    rw [← EReal.coe_mul] at h1
    have h1' : x * (2 : ℝ) ^ (-1 : ℤ) < (2 : ℝ) ^ (127 : ℤ) := EReal.coe_lt_coe_iff.mp h1
    have h1'' : x < (2 : ℝ) ^ (128 : ℤ) := by
      have e : (2 : ℝ) ^ (128 : ℤ) = (2 : ℝ) ^ (127 : ℤ) * 2 := by norm_num
      have e1 : (2 : ℝ) ^ (-1 : ℤ) = 1 / 2 := by norm_num
      rw [e1] at h1'
      rw [e]
      linarith
    refine ⟨n, EReal.coe_le_coe_iff.mpr hn0, EReal.coe_lt_coe_iff.mpr hn1, ?_, ?_⟩
    · have := (zpow_lt_zpow_iff_right₀ (one_lt_two : (1 : ℝ) < 2)).mp (hx0.trans_lt hn1)
      omega
    · have := (zpow_lt_zpow_iff_right₀ (one_lt_two : (1 : ℝ) < 2)).mp (hn0.trans_lt h1'')
      omega

theorem pow_two (x : ℤ) : Ideal.pow 2 (((x : ℤ) : ℝ) : EReal) = p2 x := by
  have h : Ideal.pow (((2 : ℝ) : ℝ) : EReal) (((x : ℤ) : ℝ) : EReal) = ((Real.rpow 2 (x : ℝ) : ℝ) : EReal) := rfl
  have h2 : (2 : EReal) = ((2 : ℝ) : EReal) := rfl
  rw [h2, h]
  exact congrArg _ (Real.rpow_intCast 2 x)

/-- How many powers are at most `v`. -/
theorem expo_eq {v : EReal} {n : ℤ} (h0 : p2 n ≤ v) (h1 : v < p2 (n + 1)) (hl : -126 ≤ n) (hu : n ≤ 127)
    (hp : p2 (-126) ≤ v ∧ v * p2 (-1) < p2 127) : expo v = (((n + 1 : ℤ) : ℝ) : EReal) := by
  unfold expo
  rw [if_pos hp]
  have hc : (∑ j : Fin 254, if p2 ((j.val : ℤ) - 126) ≤ v then (1 : EReal) else 0) = (((n + 127 : ℤ) : ℝ) : EReal) := by
    obtain ⟨k, hk⟩ : ∃ k : ℕ, n + 127 = k := ⟨(n + 127).toNat, by omega⟩
    have e : ∀ j : Fin 254, (if p2 ((j.val : ℤ) - 126) ≤ v then (1 : EReal) else 0) = (fun j : ℕ => if j < k then (1 : EReal) else 0) j.val := by
      intro j
      have : p2 ((j.val : ℤ) - 126) ≤ v ↔ j.val < k := by rw [p2_le_iff h0 h1]; omega
      simp only [this]
    rw [Finset.sum_congr rfl fun j _ => e j, ← Finset.sum_range (n := 254) (f := fun j : ℕ => if j < k then (1 : EReal) else 0),
      Finset.sum_boole, hk]
    have : (Finset.range 254).filter (fun j => j < k) = Finset.range k := by
      ext j
      simp only [Finset.mem_filter, Finset.mem_range]
      omega
    rw [this, Finset.card_range]
    rfl
  rw [hc, ← EReal.coe_sub]
  refine congrArg _ ?_
  push_cast
  ring

theorem scale_eq {v : EReal} {n : ℤ} (h0 : p2 n ≤ v) (h1 : v < p2 (n + 1)) (hl : -126 ≤ n) (hu : n ≤ 127)
    (hp : p2 (-126) ≤ v ∧ v * p2 (-1) < p2 127) : scale v = p2 (n + 1) := by
  unfold scale; rw [expo_eq h0 h1 hl hu hp, pow_two]

theorem inv_eq {v : EReal} {n : ℤ} (h0 : p2 n ≤ v) (h1 : v < p2 (n + 1)) (hl : -126 ≤ n) (hu : n ≤ 127)
    (hp : p2 (-126) ≤ v ∧ v * p2 (-1) < p2 127) : inv v = p2 (-1 - n) := by
  unfold inv
  rw [expo_eq h0 h1 hl hu hp, ← EReal.coe_neg, ← Int.cast_neg, pow_two]
  congr 2; omega

theorem scale_else {v : EReal} (hp : ¬(p2 (-126) ≤ v ∧ v * p2 (-1) < p2 127)) : scale v = p2 0 := by
  unfold scale expo
  rw [if_neg hp]
  have := pow_two 0
  simpa using this

theorem inv_else {v : EReal} (hp : ¬(p2 (-126) ≤ v ∧ v * p2 (-1) < p2 127)) : inv v = p2 0 := by
  unfold inv expo
  rw [if_neg hp, neg_zero]
  have := pow_two 0
  simpa using this

/-- A pattern with a zero fraction is a power of two. -/
theorem ofBits_p2 (b : BitVec 32) (k : ℤ) (hs : b.extractLsb' 31 1 = 0#1) (hf : (b.extractLsb' 0 23).toNat = 0)
    (h0 : (b.extractLsb' 23 8).toNat ≠ 0) (h255 : (b.extractLsb' 23 8).toNat ≠ 255) (hk : ((b.extractLsb' 23 8).toNat : ℤ) = k + 127) :
    Ideal.ofBits .f32 b = p2 k := by
  have e : Ideal.ofBits .f32 b = Ideal.ieee 8 23 b := rfl
  rw [e]
  unfold Ideal.ieee
  dsimp only
  rw [if_neg (by simpa using h255), if_neg h0, hf, hk, show ((b.extractLsb' (8 + 23) 1 == 1#1) : Bool) = false by rw [show 8 + 23 = 31 from rfl, hs]; rfl]
  refine congrArg _ ?_
  have e2 : (k : ℤ) + 127 - (2 ^ (8 - 1) - 1) - (23 : ℕ) = k - 23 := by norm_num
  rw [e2, zpow_sub₀ (by norm_num : (2 : ℝ) ≠ 0)]
  norm_num
  ring

end Cert.Spec
end
-- ==== Proof.KernelIdeal.Search.lean ====
/-
  Over the reals the search finds the power of two: the kernel's scale of a group and its reciprocal are `Spec.scale` and
  `Spec.inv` of the group's scaled maximum, at every value.
-/
module

public import proofs.«01_k».proof.Proof.KernelIdeal.Compact
public import proofs.«01_k».proof.Proof.Spec

@[expose] public section

noncomputable section

namespace Cert.KernelIdeal.Search

open Cert.KernelIdeal Cert.KernelIdeal.Gen Cert.KernelIdeal.Compact Idealize.ShloMosaic
open Cert.Spec (p2)

/-- One step of the search at one element. -/
def lowS (v low : EReal) (s : BitVec 32) : EReal := if low * Ideal.ofBits .f32 s ≤ v then low * Ideal.ofBits .f32 s else low

/-- One step on the reciprocal at one element. -/
def invS (v low inv : EReal) (s t : BitVec 32) : EReal := if low * Ideal.ofBits .f32 s ≤ v then inv * Ideal.ofBits .f32 t else inv

theorem lowStep_apply (v low : FVec Ideal S8x128 .f32) (s : BitVec 32) (i : S8x128.Idx) : lowStep v low s i = lowS (v i) (low i) s := by
  unfold lowStep lowS
  show Scalar.select (BitVec.ofBool (decide (low i * Ideal.ofBits .f32 s ≤ v i))) (low i * Ideal.ofBits .f32 s) (low i) = _
  unfold Scalar.select
  by_cases h : low i * Ideal.ofBits .f32 s ≤ v i <;> simp [h]

theorem invStep_apply (v low inv : FVec Ideal S8x128 .f32) (s t : BitVec 32) (i : S8x128.Idx) :
    invStep v low inv s t i = invS (v i) (low i) (inv i) s t := by
  unfold invStep invS
  show Scalar.select (BitVec.ofBool (decide (low i * Ideal.ofBits .f32 s ≤ v i))) (inv i * Ideal.ofBits .f32 t) (inv i) = _
  unfold Scalar.select
  by_cases h : low i * Ideal.ofBits .f32 s ≤ v i <;> simp [h]

/-- What holds between two steps: `low` is a power of two, `inv` the power that goes with it, and the exponent sought is
    fewer than `r` above `low`'s. -/
def Mid (n : ℤ) (r : ℤ) (low inv : EReal) : Prop := ∃ a : ℤ, low = p2 a ∧ inv = p2 (-1 - a) ∧ a ≤ n ∧ n < a + r

/-- One step, by `2 ^ b`. -/
theorem step {n : ℤ} {v : EReal} (h0 : p2 n ≤ v) (h1 : v < p2 (n + 1)) {r r' : ℤ} (b : ℤ) {s t : BitVec 32} {low inv low' inv' : EReal}
    (hm : Mid n r low inv) (hs : Ideal.ofBits .f32 s = p2 b) (ht : Ideal.ofBits .f32 t = p2 (-b)) (hr : r ≤ b + r') (hb : b ≤ r')
    (hlow : low' = lowS v low s) (hinv : inv' = invS v low inv s t) : Mid n r' low' inv' := by
  obtain ⟨a, rfl, rfl, ha, hn⟩ := hm
  subst hlow hinv
  unfold lowS invS
  rw [hs, ht, Spec.p2_mul, Spec.p2_mul]
  by_cases h : a + b ≤ n
  · rw [if_pos ((Spec.p2_le_iff h0 h1 _).mpr h), if_pos ((Spec.p2_le_iff h0 h1 _).mpr h)]
    exact ⟨a + b, rfl, congrArg p2 (by omega), h, by omega⟩
  · rw [if_neg (fun h' => h ((Spec.p2_le_iff h0 h1 _).mp h')), if_neg (fun h' => h ((Spec.p2_le_iff h0 h1 _).mp h'))]
    exact ⟨a, rfl, rfl, ha, by omega⟩

/-- After the last step. -/
theorem last (v : FVec Ideal S8x128 .f32) (i : S8x128.Idx) {n : ℤ} (h0 : p2 n ≤ v i) (h1 : v i < p2 (n + 1)) (hl : -126 ≤ n) (hu : n ≤ 127) :
    low8 v i = p2 n ∧ inv8 v i = p2 (-1 - n) := by
  have m0 : Mid n 254 (low0 (F := Ideal) i) (inv0 (F := Ideal) i) :=
    ⟨-126, Spec.ofBits_p2 0x00800000#32 _ (by decide) (by decide) (by decide) (by decide) (by decide),
      Spec.ofBits_p2 0x7E000000#32 _ (by decide) (by decide) (by decide) (by decide) (by decide), hl, by omega⟩
  have m1 : Mid n 128 (low1 v i) (inv1 v i) := step h0 h1 126 m0
    (Spec.ofBits_p2 0x7E800000#32 _ (by decide) (by decide) (by decide) (by decide) (by decide))
    (Spec.ofBits_p2 0x00800000#32 _ (by decide) (by decide) (by decide) (by decide) (by decide)) (by omega) (by omega)
    (lowStep_apply ..) (invStep_apply ..)
  have m2 : Mid n 64 (low2 v i) (inv2 v i) := step h0 h1 64 m1
    (Spec.ofBits_p2 0x5F800000#32 _ (by decide) (by decide) (by decide) (by decide) (by decide))
    (Spec.ofBits_p2 0x1F800000#32 _ (by decide) (by decide) (by decide) (by decide) (by decide)) (by omega) (by omega)
    (lowStep_apply ..) (invStep_apply ..)
  have m3 : Mid n 32 (low3 v i) (inv3 v i) := step h0 h1 32 m2
    (Spec.ofBits_p2 0x4F800000#32 _ (by decide) (by decide) (by decide) (by decide) (by decide))
    (Spec.ofBits_p2 0x2F800000#32 _ (by decide) (by decide) (by decide) (by decide) (by decide)) (by omega) (by omega)
    (lowStep_apply ..) (invStep_apply ..)
  have m4 : Mid n 16 (low4 v i) (inv4 v i) := step h0 h1 16 m3
    (Spec.ofBits_p2 0x47800000#32 _ (by decide) (by decide) (by decide) (by decide) (by decide))
    (Spec.ofBits_p2 0x37800000#32 _ (by decide) (by decide) (by decide) (by decide) (by decide)) (by omega) (by omega)
    (lowStep_apply ..) (invStep_apply ..)
  have m5 : Mid n 8 (low5 v i) (inv5 v i) := step h0 h1 8 m4
    (Spec.ofBits_p2 0x43800000#32 _ (by decide) (by decide) (by decide) (by decide) (by decide))
    (Spec.ofBits_p2 0x3B800000#32 _ (by decide) (by decide) (by decide) (by decide) (by decide)) (by omega) (by omega)
    (lowStep_apply ..) (invStep_apply ..)
  have m6 : Mid n 4 (low6 v i) (inv6 v i) := step h0 h1 4 m5
    (Spec.ofBits_p2 0x41800000#32 _ (by decide) (by decide) (by decide) (by decide) (by decide))
    (Spec.ofBits_p2 0x3D800000#32 _ (by decide) (by decide) (by decide) (by decide) (by decide)) (by omega) (by omega)
    (lowStep_apply ..) (invStep_apply ..)
  have m7 : Mid n 2 (low7 v i) (inv7 v i) := step h0 h1 2 m6
    (Spec.ofBits_p2 0x40800000#32 _ (by decide) (by decide) (by decide) (by decide) (by decide))
    (Spec.ofBits_p2 0x3E800000#32 _ (by decide) (by decide) (by decide) (by decide) (by decide)) (by omega) (by omega)
    (lowStep_apply ..) (invStep_apply ..)
  have m8 : Mid n 1 (low8 v i) (inv8 v i) := step h0 h1 1 m7
    (Spec.ofBits_p2 0x40000000#32 _ (by decide) (by decide) (by decide) (by decide) (by decide))
    (Spec.ofBits_p2 0x3F000000#32 _ (by decide) (by decide) (by decide) (by decide) (by decide)) (by omega) (by omega)
    (lowStep_apply ..) (invStep_apply ..)
  obtain ⟨a, e1, e2, ha, hn⟩ := m8
  have : a = n := by omega
  subst this
  exact ⟨e1, e2⟩

theorem plain_apply (v : FVec Ideal S8x128 .f32) (i : S8x128.Idx) :
    plain v i = BitVec.ofBool (decide (p2 (-126) ≤ v i ∧ v i * p2 (-1) < p2 127)) := by
  have e0 : Ideal.ofBits .f32 0x00800000#32 = p2 (-126) := Spec.ofBits_p2 _ _ (by decide) (by decide) (by decide) (by decide) (by decide)
  have e1 : Ideal.ofBits .f32 0x3F000000#32 = p2 (-1) := Spec.ofBits_p2 _ _ (by decide) (by decide) (by decide) (by decide) (by decide)
  have e2 : Ideal.ofBits .f32 0x7F000000#32 = p2 127 := Spec.ofBits_p2 _ _ (by decide) (by decide) (by decide) (by decide) (by decide)
  show IntOp.andi (BitVec.ofBool (decide (Ideal.ofBits .f32 0x00800000#32 ≤ v i)))
    (BitVec.ofBool (decide (v i * Ideal.ofBits .f32 0x3F000000#32 < Ideal.ofBits .f32 0x7F000000#32))) = _
  rw [e0, e1, e2]
  unfold IntOp.andi
  by_cases h : p2 (-126) ≤ v i <;> by_cases h' : v i * p2 (-1) < p2 127 <;> simp [h, h']

theorem one : Ideal.ofBits .f32 0x3F800000#32 = p2 0 := Spec.ofBits_p2 _ _ (by decide) (by decide) (by decide) (by decide) (by decide)

/-- The kernel's scale. -/
theorem scaleOf_apply (v : FVec Ideal S8x128 .f32) (i : S8x128.Idx) : scaleOf v i = Spec.scale (v i) := by
  unfold scaleOf
  show Scalar.select (plain v i) (low8 v i * Ideal.ofBits .f32 0x40000000#32) (Ideal.ofBits .f32 0x3F800000#32) = _
  rw [plain_apply, one, Spec.ofBits_p2 0x40000000#32 1 (by decide) (by decide) (by decide) (by decide) (by decide)]
  unfold Scalar.select
  by_cases h : p2 (-126) ≤ v i ∧ v i * p2 (-1) < p2 127
  · obtain ⟨n, h0, h1, hl, hu⟩ := Spec.exists_n h.1 h.2
    rw [Spec.scale_eq h0 h1 hl hu h, (last v i h0 h1 hl hu).1, Spec.p2_mul]
    simp [h]
  · rw [Spec.scale_else h]
    simp [h]

/-- The kernel's reciprocal of the scale. -/
theorem invOf_apply (v : FVec Ideal S8x128 .f32) (i : S8x128.Idx) : invOf v i = Spec.inv (v i) := by
  unfold invOf
  show Scalar.select (plain v i) (inv8 v i) (Ideal.ofBits .f32 0x3F800000#32) = _
  rw [plain_apply, one]
  unfold Scalar.select
  by_cases h : p2 (-126) ≤ v i ∧ v i * p2 (-1) < p2 127
  · obtain ⟨n, h0, h1, hl, hu⟩ := Spec.exists_n h.1 h.2
    rw [Spec.inv_eq h0 h1 hl hu h, (last v i h0 h1 hl hu).2]
    simp [h]
  · rw [Spec.inv_else h]
    simp [h]

end Cert.KernelIdeal.Search
end
-- ==== Proof.KernelIdeal.Vals.lean ====
/-
  The values of one block of the kernel over the reals, element by element: the scaled maximum of a group, its scale, the
  codes, and codes times scale, as functions of the block's activations.
-/
module

public import proofs.«01_k».proof.Proof.KernelIdeal.Body
public import proofs.«01_k».proof.Proof.KernelIdeal.Search
public import Idealize.ShloMosaic.Lib.KernelVsHost
public import Idealize.ShloMosaic.Lib.Pipeline.ValueKit.Tiles

@[expose] public section

set_option maxRecDepth 16384

noncomputable section

namespace Cert.KernelIdeal.Vals

open Cert.KernelIdeal Cert.KernelIdeal.Gen Cert.KernelIdeal.Compact Cert.KernelIdeal.Search Idealize.ShloMosaic
open Idealize.ShloMosaic.ValueIdx
open Cert.Spec (absE)

variable (z : Vec Ideal S64x144x256 .f32)

/-- The activation of row `R` of the block at column `C`. -/
def act (R : Fin 256) (C : Fin 8960) : EReal := z (ix3 (⟨C.val % 64, by omega⟩ : Fin 64) (⟨C.val / 64, by omega⟩ : Fin 144) R)

/-- The scaled maximum of group `G` of row `R` of the block. -/
def bmax (R : Fin 256) (G : Fin 70) : EReal :=
  (Finset.univ.sup fun l : Fin 128 => absE (act z R ⟨128 * G.val + l.val, by have := G.2; have := l.2; omega⟩)) * Ideal.ofBits .f32 0x3B124925#32

theorem ofBits_zero : Ideal.ofBits .f32 0x00000000#32 = 0 := by simp [Ideal.ofBits, Ideal.ieee]

theorem zv_apply (row : ℕ) (hrow : row + 8 ≤ 144) (h : Fin 2) (p : Fin 64) (g : Fin 8) (l : Fin 128) :
    zv z row hrow h p (ix2 g l) = z (ix3 p (⟨row + g.val, by omega⟩ : Fin 144) (⟨128 * h.val + l.val, by omega⟩ : Fin 256)) := by
  unfold zv
  rw [shapeCast_dropUnit_apply (d := ![8, 128])]
  refine congrArg z (funext fun a => Fin.ext ?_)
  match a with
  | ⟨0, _⟩ => show p.val + 1 * 0 = p.val; omega
  | ⟨1, _⟩ => show row + 1 * g.val = row + g.val; omega
  | ⟨2, _⟩ => show 128 * h.val + 1 * l.val = 128 * h.val + l.val; omega

theorem ix3_val {a b c : ℕ} {p p' : Fin a} {q q' : Fin b} {r r' : Fin c} (hp : p.val = p'.val) (hq : q.val = q'.val) (hr : r.val = r'.val) :
    ix3 p q r = ix3 p' q' r' := by
  rw [Fin.ext hp, Fin.ext hq, Fin.ext hr]

/-! ## The scaled maximum -/

theorem mem_order : ∀ p : Fin 64, p ∈ order := by decide

/-- The running maximum is at most `u` when zero and every absolute value are. -/
theorem foldl_le (f : Fin 64 → FVec Ideal S8x128 .f32) (i : S8x128.Idx) (u : EReal) : ∀ (ps : List (Fin 64)) (a : FVec Ideal S8x128 .f32),
    (ps.foldl (fun a p => maximumf a (absf (f p))) a i : EReal) ≤ u ↔ (a i : EReal) ≤ u ∧ ∀ p ∈ ps, absE (f p i) ≤ u
  | [], a => by simp
  | p :: ps, a => by
    rw [List.foldl_cons, foldl_le f i u ps]
    show max (a i : EReal) (absE (f p i)) ≤ u ∧ _ ↔ _
    rw [max_le_iff, List.forall_mem_cons, and_assoc]

/-- The neighbour of a row: rows go in pairs. -/
def nb (g : Fin 8) : Fin 8 := if g.val % 2 = 0 then ⟨(g.val + 1) % 8, by omega⟩ else ⟨g.val - 1, by omega⟩

theorem even_apply : ∀ (g : Fin 8) (l : Fin 128), even (ix2 g l) = BitVec.ofBool (decide (g.val % 2 = 0)) := by
  intro g l
  show IntOp.cmpi .eq (IntOp.remsi .vector (BitVec.ofNat 32 (0 * 8 + g.val)) 2#32) 0#32 = _
  have key : ∀ g : Fin 8, ¬IntOp.SDivCorner (BitVec.ofNat 32 (0 * 8 + g.val)) 2#32 := by decide
  unfold IntOp.remsi
  rw [if_neg (key g)]
  fin_cases g <;> decide

theorem pairMax_apply (a : FVec Ideal S8x128 .f32) (g : Fin 8) (l : Fin 128) :
    pairMax a (ix2 g l) = max (a (ix2 g l) : EReal) (a (ix2 (nb g) l)) * Ideal.ofBits .f32 0x3B124925#32 := by
  unfold pairMax
  show max (a (ix2 g l) : EReal) (Scalar.select (even (ix2 g l)) (dynamicRotate 0 7#32 none a rotates_S8x128_d0 (ix2 g l))
    (dynamicRotate 0 1#32 none a rotates_S8x128_d0 (ix2 g l))) * Ideal.ofBits .f32 0x3B124925#32 = _
  refine congrArg (fun x => max (a (ix2 g l) : EReal) x * Ideal.ofBits .f32 0x3B124925#32) ?_
  rw [even_apply]
  unfold Scalar.select
  by_cases hg : g.val % 2 = 0
  · rw [if_pos (by simp [hg])]
    refine dynamicRotate_apply _ _ _ _ _ (ix2 (nb g) l) fun b => ?_
    match b with
    | ⟨0, _⟩ =>
      show (nb g).val = ((g.val) + 8 - 7 % 8) % 8
      unfold nb; rw [if_pos hg]; show (g.val + 1) % 8 = _; omega
    | ⟨1, _⟩ => rfl
  · rw [if_neg (by simp [hg])]
    refine dynamicRotate_apply _ _ _ _ _ (ix2 (nb g) l) fun b => ?_
    match b with
    | ⟨0, _⟩ =>
      show (nb g).val = ((g.val) + 8 - 1 % 8) % 8
      unfold nb; rw [if_neg hg]; show g.val - 1 = _; omega
    | ⟨1, _⟩ => rfl

/-- The scaled maximum of a row and its neighbour is the scaled maximum of their group. -/
theorem vV_apply (row : ℕ) (hrow : row + 8 ≤ 144) (hr : row % 8 = 0) (h : Fin 2) (g : Fin 8) (l : Fin 128) (R : Fin 256) (G : Fin 70)
    (hR : R.val = 128 * h.val + l.val) (hG : G.val = (row + g.val) / 2) : vV z row hrow h (ix2 g l) = bmax z R G := by
  have hg := g.2
  unfold vV bmax
  rw [pairMax_apply]
  refine congrArg (· * Ideal.ofBits .f32 0x3B124925#32) (eq_of_forall_ge_iff fun u => ?_)
  rw [max_le_iff, foldl_le, foldl_le, Finset.sup_le_iff]
  have h0 : ∀ i, ((all8 0#32 : FVec Ideal S8x128 .f32) i : EReal) = 0 := fun i => ofBits_zero
  rw [h0, h0]
  constructor
  · rintro ⟨⟨_, ha⟩, _, hb⟩ c _
    have hc := c.2
    unfold act
    by_cases hp : (2 * G.val + c.val / 64) = row + g.val
    · have := ha ⟨c.val % 64, by omega⟩ (mem_order _)
      rw [zv_apply] at this
      refine le_of_eq_of_le (congrArg absE (congrArg z (ix3_val ?_ ?_ hR))) this
      · show (128 * G.val + c.val) % 64 = c.val % 64; omega
      · show (128 * G.val + c.val) / 64 = row + g.val; omega
    · have := hb ⟨c.val % 64, by omega⟩ (mem_order _)
      rw [zv_apply] at this
      refine le_of_eq_of_le (congrArg absE (congrArg z (ix3_val ?_ ?_ hR))) this
      · show (128 * G.val + c.val) % 64 = c.val % 64; omega
      · show (128 * G.val + c.val) / 64 = row + (nb g).val
        unfold nb
        split <;> simp only <;> omega
  · intro hall
    have hz : (0 : EReal) ≤ u := (Spec.absE_nonneg _).trans (hall 0 (Finset.mem_univ _))
    have key : ∀ (g' : Fin 8) (hg' : (row + g'.val) / 2 = G.val) (p : Fin 64), absE (zv z row hrow h p (ix2 g' l)) ≤ u := by
      intro g' hg' p
      have hp := p.2
      refine le_of_eq_of_le ?_ (hall (⟨64 * ((row + g'.val) % 2) + p.val, by omega⟩ : Fin 128) (Finset.mem_univ _))
      rw [zv_apply]
      unfold act
      refine congrArg absE (congrArg z (ix3_val ?_ ?_ hR.symm))
      · show p.val = (128 * G.val + (64 * ((row + g'.val) % 2) + p.val)) % 64; omega
      · show row + g'.val = (128 * G.val + (64 * ((row + g'.val) % 2) + p.val)) / 64; omega
    refine ⟨⟨hz, fun p _ => key g hG.symm p⟩, hz, fun p _ => key (nb g) ?_ p⟩
    unfold nb
    split <;> simp only <;> omega

/-! ## Codes -/

/-- The code of row `R` of the block at column `C`. -/
def code (R : Fin 256) (C : Fin 8960) : EReal := Spec.clip (act z R C * Spec.inv (bmax z R (Spec.grp C)))

theorem codes4_apply (y : Fin 4 → FVec Ideal S8x128 .f32) (v : FVec Ideal S8x128 .f32) (s : Fin 4) (g : Fin 8) (l : Fin 128) :
    part4 (codes4 (y 0) (y 1) (y 2) (y 3) v) s (ix2 g l) = Spec.clip ((y s (ix2 g l) : EReal) * v (ix2 g l)) := by
  have hs := s.2
  have hg := g.2
  unfold part4
  rw [extractStridedSlice_apply (t := S8x128) ![8 * s.val, 0] _ _ (ix2 g l) (ix2 (⟨8 * s.val + g.val, by omega⟩ : Fin 32) l) (fun a => by
    match a with
    | ⟨0, _⟩ => rfl
    | ⟨1, _⟩ => show l.val = 0 + l.val; omega)]
  unfold codes4
  show Spec.clip (concatenate S32x128 0 _ _ (ix2 (⟨8 * s.val + g.val, by omega⟩ : Fin 32) l)) = _
  refine congrArg Spec.clip ?_
  fin_cases s
  · exact concatenate_apply_piece (t := S32x128) 0 [⟨S8x128, mulf (y 0) v⟩, ⟨S8x128, mulf (y 1) v⟩, ⟨S8x128, mulf (y 2) v⟩, ⟨S8x128, mulf (y 3) v⟩] _ _ 0 (by show 0 < 4; decide) S8x128 (mulf (y 0) v) rfl rfl 0 rfl (ix2 g l)
      (fun b hb => by match b with | ⟨0, _⟩ => exact absurd rfl hb | ⟨1, _⟩ => rfl) rfl
  · exact concatenate_apply_piece (t := S32x128) 0 [⟨S8x128, mulf (y 0) v⟩, ⟨S8x128, mulf (y 1) v⟩, ⟨S8x128, mulf (y 2) v⟩, ⟨S8x128, mulf (y 3) v⟩] _ _ 1 (by show 1 < 4; decide) S8x128 (mulf (y 1) v) rfl rfl 8 rfl (ix2 g l)
      (fun b hb => by match b with | ⟨0, _⟩ => exact absurd rfl hb | ⟨1, _⟩ => rfl) rfl
  · exact concatenate_apply_piece (t := S32x128) 0 [⟨S8x128, mulf (y 0) v⟩, ⟨S8x128, mulf (y 1) v⟩, ⟨S8x128, mulf (y 2) v⟩, ⟨S8x128, mulf (y 3) v⟩] _ _ 2 (by show 2 < 4; decide) S8x128 (mulf (y 2) v) rfl rfl 16 rfl (ix2 g l)
      (fun b hb => by match b with | ⟨0, _⟩ => exact absurd rfl hb | ⟨1, _⟩ => rfl) rfl
  · exact concatenate_apply_piece (t := S32x128) 0 [⟨S8x128, mulf (y 0) v⟩, ⟨S8x128, mulf (y 1) v⟩, ⟨S8x128, mulf (y 2) v⟩, ⟨S8x128, mulf (y 3) v⟩] _ _ 3 (by show 3 < 4; decide) S8x128 (mulf (y 3) v) rfl rfl 24 rfl (ix2 g l)
      (fun b hb => by match b with | ⟨0, _⟩ => exact absurd rfl hb | ⟨1, _⟩ => rfl) rfl

theorem pV_apply (row : ℕ) (hrow : row + 8 ≤ 144) (hr : row % 8 = 0) (h : Fin 2) (p : Fin 64) (g : Fin 8) (l : Fin 128) (R : Fin 256) (C : Fin 8960)
    (hR : R.val = 128 * h.val + l.val) (hC : C.val = 64 * (row + g.val) + p.val) : pV z row hrow h p (ix2 g l) = code z R C := by
  have hp := p.2
  have hCl := C.2
  unfold pV qV
  refine (codes4_apply (fun s => zv z row hrow h ⟨4 * (p.val / 4) + s.val, by omega⟩) (invOf (vV z row hrow h)) ⟨p.val % 4, by omega⟩ g l).trans ?_
  unfold code
  rw [invOf_apply, vV_apply z row hrow hr h g l R (Spec.grp C) hR (by show C.val / 128 = _; omega), zv_apply]
  refine congrArg Spec.clip (congrArg (· * _) (congrArg z (ix3_val ?_ ?_ hR.symm)))
  · show 4 * (p.val / 4) + p.val % 4 = C.val % 64; omega
  · show row + g.val = C.val / 64; omega

theorem xV_apply (row : ℕ) (hrow : row + 8 ≤ 144) (hr : row % 8 = 0) (h : Fin 2) (p : Fin 64) (g : Fin 8) (l : Fin 128) (R : Fin 256) (C : Fin 8960)
    (hR : R.val = 128 * h.val + l.val) (hC : C.val = 64 * (row + g.val) + p.val) :
    xV z row hrow h p (ix2 g l) = code z R C * Spec.scale (bmax z R (Spec.grp C)) := by
  have hp := p.2
  have hCl := C.2
  unfold xV xqOf
  show (pV z row hrow h p (ix2 g l) : EReal) * scaleOf (vV z row hrow h) (ix2 g l) = _
  rw [pV_apply z row hrow hr h p g l R C hR hC, scaleOf_apply,
    vV_apply z row hrow hr h g l R (Spec.grp C) hR (by show C.val / 128 = _; omega)]

theorem turn_apply (f : Fin 64 → FVec Ideal S8x128 .f32) (g : Fin 4) (r l : Fin 128) :
    turn (colV f ⟨2 * g.val, by omega⟩) (colV f ⟨2 * g.val + 1, by omega⟩) (ix2 r l)
      = f ⟨l.val % 64, by omega⟩ (ix2 (⟨2 * g.val + l.val / 64, by omega⟩ : Fin 8) r) := by
  have hl := l.2
  unfold turn
  rw [transpose_apply _ _ _ _ (ix2 l r) (fun b => by match b with | ⟨0, _⟩ => rfl | ⟨1, _⟩ => rfl)]
  by_cases h : l.val < 64
  · refine (concatenate_pair_apply_left (t := S128x128) (s₁ := S64x128) (s₂ := S64x128) 0 _ _ _ _ rfl (ix2 (⟨l.val, h⟩ : Fin 64) r)
      (fun b => by match b with | ⟨0, _⟩ => rfl | ⟨1, _⟩ => rfl)).trans ?_
    unfold colV
    refine congrArg₂ (fun p q => f p (ix2 q r)) (Fin.ext ?_) (Fin.ext ?_)
    · show l.val = l.val % 64; omega
    · show 2 * g.val = 2 * g.val + l.val / 64; omega
  · refine (concatenate_pair_apply_right (t := S128x128) (s₁ := S64x128) (s₂ := S64x128) 0 _ _ _ _ rfl rfl (ix2 (⟨l.val - 64, by omega⟩ : Fin 64) r)
      (fun b hb => by match b with | ⟨0, _⟩ => exact absurd rfl hb | ⟨1, _⟩ => rfl) (by show l.val - 64 + 64 = l.val; omega)).trans ?_
    unfold colV
    refine congrArg₂ (fun p q => f p (ix2 q r)) (Fin.ext ?_) (Fin.ext ?_)
    · show l.val - 64 = l.val % 64; omega
    · show 2 * g.val + 1 = 2 * g.val + l.val / 64; omega

/-- The codes of a block. -/
theorem codesF_apply (R : Fin 256) (C : Fin 8960) : codesF z (ix2 R C) = code z R C := by
  have hR := R.2
  have hC := C.2
  unfold codesF codesAt tileC
  show turn _ _ (ix2 (⟨R.val % 128, by omega⟩ : Fin 128) (⟨C.val % 128, by omega⟩ : Fin 128)) = _
  refine (turn_apply _ (⟨C.val % 512 / 128, by omega⟩ : Fin 4) _ _).trans ?_
  refine pV_apply z _ _ (by omega) _ _ _ _ R C ?_ ?_
  · show R.val = 128 * (R.val / 128) + R.val % 128; omega
  · show C.val = 64 * (8 * (C.val / 512) + (2 * (C.val % 512 / 128) + C.val % 128 / 64)) + C.val % 128 % 64; omega

/-- Codes times scale of a block. -/
theorem xqAt_apply (b : ℕ) (hb : b < 18) (R : Fin 256) (C : Fin 512) (K : Fin 8960) (hK : K.val = 512 * b + C.val) :
    xqAt z b hb R C = code z R K * Spec.scale (bmax z R (Spec.grp K)) := by
  have hR := R.2
  have hC := C.2
  unfold xqAt tileX
  rw [shapeCast_self]
  show turn _ _ (ix2 (⟨R.val % 128, by omega⟩ : Fin 128) (⟨C.val % 128, by omega⟩ : Fin 128)) = _
  refine (turn_apply _ (⟨C.val / 128, by omega⟩ : Fin 4) _ _).trans ?_
  refine xV_apply z _ _ (by omega) _ _ _ _ R K ?_ ?_
  · show R.val = 128 * (R.val / 128) + R.val % 128; omega
  · show K.val = 64 * (8 * b + (2 * (C.val / 128) + C.val % 128 / 64)) + C.val % 128 % 64; omega

/-- The scales of a block. -/
theorem xsF_apply (R : Fin 256) (G : Fin 70) : xsF z (ix2 R G) = Spec.scale (bmax z R G) := by
  have hR := R.2
  have hG := G.2
  unfold xsF stAt
  rw [scaleOf_apply]
  refine congrArg Spec.scale (vV_apply z _ _ (by omega) _ _ _ R G ?_ ?_)
  · show R.val = 128 * (R.val / 128) + R.val % 128; omega
  · show G.val = (8 * (2 * G.val / 8) + 2 * G.val % 8) / 2; omega

end Cert.KernelIdeal.Vals
end
-- ==== Proof.KernelIdeal.Sum.lean ====
/-
  The kernel's output block over the reals: every element is the sum over all 8960 columns of code times scale times
  weight code, times the column's scale.
-/
module

public import proofs.«01_k».proof.Proof.KernelIdeal.Vals
public import Idealize.ShloMosaic.Lib.MatmulPlain

@[expose] public section

noncomputable section

namespace Cert.KernelIdeal.Vals

open Cert.KernelIdeal Cert.KernelIdeal.Gen Cert.KernelIdeal.Compact Idealize.ShloMosaic
open Idealize.ShloMosaic.ValueIdx
open scoped BigOperators

/-- Column `k`'s term of output element `(r, n)`: code times scale times weight code (zero past the last column). -/
def term (z : Vec Ideal S64x144x256 .f32) (w : Vec Ideal S8960x1536 .fp8e4m3) (r : Fin 256) (n : Fin 1536) (k : ℕ) : EReal :=
  if h : k < 8960 then (code z r ⟨k, h⟩ * Spec.scale (bmax z r (Spec.grp ⟨k, h⟩))) * (w (ix2 ⟨k, h⟩ n) : EReal) else 0

theorem wF_apply (w : Vec Ideal S8960x1536 .fp8e4m3) (b : ℕ) (hb : b < 17) (k : Fin 512) (n : Fin 1536) (h : 512 * b + k.val < 8960) :
    wF w b hb (ix2 k n) = w (ix2 ⟨512 * b + k.val, h⟩ n) := by
  unfold wF
  refine congrArg w (funext fun a => Fin.ext ?_)
  match a with
  | ⟨0, _⟩ => show 512 * b + 1 * k.val = 512 * b + k.val; omega
  | ⟨1, _⟩ => show 0 + 1 * n.val = n.val; omega

theorem wT_apply (w : Vec Ideal S8960x1536 .fp8e4m3) (k : Fin 256) (n : Fin 1536) (h : 512 * 17 + k.val < 8960) :
    wT w (ix2 k n) = w (ix2 ⟨512 * 17 + k.val, h⟩ n) := by
  unfold wT
  refine congrArg w (funext fun a => Fin.ext ?_)
  match a with
  | ⟨0, _⟩ => show 8704 + 1 * k.val = 512 * 17 + k.val; omega
  | ⟨1, _⟩ => show 0 + 1 * n.val = n.val; omega

/-- After `t` blocks the accumulator holds the terms of the first `512 t` columns. -/
theorem accN_apply (z : Vec Ideal S64x144x256 .f32) (w : Vec Ideal S8960x1536 .fp8e4m3) (r : Fin 256) (n : Fin 1536) :
    ∀ t, t ≤ 17 → accN z w t (ix2 r n) = ∑ k ∈ Finset.range (512 * t), term z w r n k
  | 0, _ => by
    unfold accN
    rw [shapeCast_self]
    show Ideal.ofBits .f32 0x00000000#32 = _
    rw [ofBits_zero]
    simp
  | t + 1, ht => by
    have ht' : t < 17 := ht
    rw [accN, dif_pos ht', shapeCast_self]
    unfold addf matmul
    rw [show dot_S256x512_S512x1536_S256x1536_1_0_0_1_n_n = DotDims.plain 256 512 1536 from rfl, Ideal.matmul_plain_apply]
    simp only [constant, Scalar.ofBits, Ideal.addf_def, Ideal.ofBits_def, ofBits_zero, zero_add]
    rw [accN_apply z w r n t (Nat.le_of_succ_le ht), Nat.mul_succ, Finset.sum_range_add, ← Fin.sum_univ_eq_sum_range (n := 512) (fun k => term z w r n (512 * t + k))]
    refine congrArg (_ + ·) (Finset.sum_congr rfl fun k _ => ?_)
    have hk : 512 * t + k.val < 8960 := by have := k.isLt; omega
    unfold term
    rw [dif_pos hk]
    exact congrArg₂ (· * ·) (xqAt_apply z t (by omega) r k ⟨512 * t + k.val, hk⟩ rfl) (wF_apply w t ht' k n hk)

/-- THE OUTPUT BLOCK over the reals. -/
theorem outF_apply (z : Vec Ideal S64x144x256 .f32) (w : Vec Ideal S8960x1536 .fp8e4m3) (ws : Vec Ideal S1x1536 .f32) (r : Fin 256) (n : Fin 1536) :
    outF z w ws (ix2 r n)
      = (∑ k : Fin 8960, (code z r k * Spec.scale (bmax z r (Spec.grp k))) * (w (ix2 k n) : EReal)) * ws (ix2 (0 : Fin 1) n) := by
  have hs : (∑ k : Fin 8960, (code z r k * Spec.scale (bmax z r (Spec.grp k))) * (w (ix2 k n) : EReal))
      = ∑ k ∈ Finset.range (512 * 17), term z w r n k + ∑ k : Fin 256, term z w r n (512 * 17 + k.val) := by
    rw [← Finset.sum_range (n := 256) (f := fun k => term z w r n (512 * 17 + k)), ← Finset.sum_range_add,
      show 512 * 17 + 256 = 8960 from rfl, Finset.sum_range]
    exact Finset.sum_congr rfl fun k _ => by unfold term; rw [dif_pos k.isLt]
  rw [hs]
  unfold outF accT
  simp only [shapeCast_self]
  unfold truncf mulf addf matmul
  rw [show dot_S256x256_S256x1536_S256x1536_1_0_0_1_n_n = DotDims.plain 256 256 1536 from rfl, Ideal.matmul_plain_apply,
    accN_apply z w r n 17 le_rfl]
  simp only [constant, Scalar.ofBits, Ideal.addf_def, Ideal.ofBits_def, ofBits_zero, zero_add, Ideal.mulf_def, Ideal.truncf_def]
  refine congrArg₂ (· * ·) ?_ ?_
  · refine congrArg (_ + ·) (Finset.sum_congr rfl fun k _ => ?_)
    have hk : 512 * 17 + k.val < 8960 := by have := k.isLt; omega
    unfold term
    rw [dif_pos hk]
    exact congrArg₂ (· * ·) (xqAt_apply z 17 (by omega) r (k.castLE (by decide)) ⟨512 * 17 + k.val, hk⟩ rfl) (wT_apply w k n hk)
  · rw [broadcastTo_apply ws _ _ (ix2 (0 : Fin 1) n) (fun a => by match a with | ⟨0, _⟩ => rfl | ⟨1, _⟩ => rfl)]

end Cert.KernelIdeal.Vals
end
-- ==== Proof.KernelIdeal.Array.lean ====
/-
  The three result arrays of `KernelIdeal` over the reals: `Spec.out`, `Spec.codes` and `Spec.scales` of the activations as
  rows. Each of the 24 grid points writes 256 rows of each.
-/
module

public import proofs.«01_k».proof.Proof.KernelIdeal.Blocks
public import proofs.«01_k».proof.Proof.KernelIdeal.Sum
public import proofs.«01_k».proof.Proof.Spec

@[expose] public section

noncomputable section

namespace Cert.KernelIdeal.Array

open Cert.KernelIdeal Cert.KernelIdeal.Gen Cert.KernelIdeal.Value Cert.KernelIdeal.Vals Idealize.ShloMosaic Idealize.ShloMosaic.TcCoe Idealize.SL.Sem
open Idealize.ShloMosaic.ValueIdx
open Cert.KernelIdeal.Compact (outF codesF xsF)
open scoped BigOperators

variable (m : (ℓ : Loc nD τ sig) → Buf (Elt Ideal) ℓ) (ρ : Dev nD → PrngReg)

/-- Which block each window reads or writes at point `t`. -/
theorem idx (t : Fin cfg0.N) : win0_0.index t = ![0, 0, t.val] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, win0_0.index t = ![0, 0, t.val] ∧ win0_1.index t = ![0, 0] ∧ win0_2.index t = ![0, 0]
    ∧ win0_3.index t = ![t.val, 0] ∧ win0_4.index t = ![t.val, 0] ∧ win0_5.index t = ![t.val, 0]) t

theorem row_lt (t : Fin cfg0.N) (r : Fin 256) : 256 * t.val + r.val < 6144 := by
  have hN : cfg0.N = 24 := N_0
  have := t.isLt; have := r.isLt; omega

/-- The activations as rows. -/
abbrev Y (c : Dev nD) : Vec Ideal S6144x8960 .f32 := Spec.rows (m ((c : Thread nD τ).loc main_arg0) : Vec Ideal S12x512x8960 .f32)

/-- What the host code hands over as the activations: their rows cut into 140 pieces of 64, transposed and padded. -/
theorem V_z (c : Dev nD) : (V m c main_v2 : Vec Ideal S64x144x6144 .f32)
    = pad S64x144x6144 ![0, 0, 0] ![0, 4, 0] ![0, 0, 0] (transpose S64x140x6144 [2, 1, 0]
        (shapeCast S6144x140x64 (m ((c : Thread nD τ).loc main_arg0) : Vec Ideal S12x512x8960 .f32) shapeCasts_S12x512x8960_S6144x140x64)
        transposes_S6144x140x64_S64x140x6144_2_1_0) (sitofp .f32 (constantI S_ 32 0#32) : FVec Ideal S_ .f32) pads_S64x140x6144_S64x144x6144_000_040_000 h_S_ := by
  simp only [V, hostOps0, hostOps0_1, hostOps0_2, List.flatten_cons, List.flatten_nil, List.append_nil, List.cons_append, List.nil_append]
  after_results
  rfl

/-- What the host code hands over as the weight scales: the argument as one row. -/
theorem V_wscales (c : Dev nD) : (V m c main_v3 : Vec Ideal S1x1536 .f32)
    = shapeCast S1x1536 (m ((c : Thread nD τ).loc main_arg2) : Vec Ideal S1536 .f32) shapeCasts_S1536_S1x1536 := by
  simp only [V, hostOps0, hostOps0_1, hostOps0_2, List.flatten_cons, List.flatten_nil, List.append_nil, List.cons_append, List.nil_append]
  after_results
  rfl

theorem V_z_apply (c : Dev nD) (R : Fin 6144) (C : Fin 8960) :
    (V m c main_v2 : Vec Ideal S64x144x6144 .f32) (ix3 (⟨C.val % 64, by omega⟩ : Fin 64) (⟨C.val / 64, by omega⟩ : Fin 144) R) = Y m c (ix2 R C) := by
  have hR := R.2
  have hC := C.2
  rw [V_z, pad_apply_of_inside _ _ _ _ _ _ _ _ (ix3 (⟨C.val % 64, by omega⟩ : Fin 64) (⟨C.val / 64, by omega⟩ : Fin 140) R) (fun a => by
      match a with
      | ⟨0, _⟩ => show C.val % 64 = 0 + C.val % 64 * (0 + 1); omega
      | ⟨1, _⟩ => show C.val / 64 = 0 + C.val / 64 * (0 + 1); omega
      | ⟨2, _⟩ => show R.val = 0 + R.val * (0 + 1); omega),
    transpose_apply _ _ _ _ (ix3 R (⟨C.val / 64, by omega⟩ : Fin 140) (⟨C.val % 64, by omega⟩ : Fin 64)) (fun b => by
      match b with | ⟨0, _⟩ => rfl | ⟨1, _⟩ => rfl | ⟨2, _⟩ => rfl)]
  refine shapeCast_apply _ _ _ _ ?_
  refine (Shape.rowMajor_val_three (d := ![12, 512, 8960]) _).trans (Eq.trans ?_ (Shape.rowMajor_val_three (d := ![6144, 140, 64]) _).symm)
  show (R.val / 512 * 512 + R.val % 512) * 8960 + C.val = (R.val * 140 + C.val / 64) * 64 + C.val % 64
  omega

/-- The activations' block at point `t` is rows `256 t …`. -/
theorem iblk0 (c : Dev nD) (t : Fin cfg0.N) (r : Fin 256) (k : Fin 8960) :
    act (iblk m c 0 t : Vec Ideal S64x144x256 .f32) r k = Y m c (ix2 ⟨256 * t.val + r.val, row_lt t r⟩ k) := by
  unfold act iblk
  rw [View.read_apply, ← V_z_apply]
  show (V m c main_v2 : Vec Ideal S64x144x6144 .f32) _ = _
  refine congrArg (V m c main_v2 : Vec Ideal S64x144x6144 .f32) (funext fun a => Fin.ext ?_)
  match a with
  | ⟨0, _⟩ => show win0_0.index t 0 * 64 + 1 * (k.val % 64) = k.val % 64; rw [(idx t).1]; show 0 * 64 + _ = _; omega
  | ⟨1, _⟩ => show win0_0.index t 1 * 144 + 1 * (k.val / 64) = k.val / 64; rw [(idx t).1]; show 0 * 144 + _ = _; omega
  | ⟨2, _⟩ => show win0_0.index t 2 * 256 + 1 * r.val = 256 * t.val + r.val; rw [(idx t).1]; show t.val * 256 + _ = _; omega

/-- The weights' block is the whole array at every point. -/
theorem iblk1 (c : Dev nD) (t : Fin cfg0.N) (k : Fin 8960) (n : Fin 1536) :
    (iblk m c 1 t : Vec Ideal S8960x1536 .fp8e4m3) (ix2 k n) = (V m c main_arg1 : Vec Ideal S8960x1536 .fp8e4m3) (ix2 k n) := by
  unfold iblk
  rw [View.read_apply]
  show (V m c main_arg1 : Vec Ideal S8960x1536 .fp8e4m3) _ = _
  refine congrArg (V m c main_arg1 : Vec Ideal S8960x1536 .fp8e4m3) (funext fun a => Fin.ext ?_)
  match a with
  | ⟨0, _⟩ => show win0_1.index t 0 * 8960 + 1 * k.val = k.val; rw [(idx t).2.1]; show 0 * 8960 + _ = _; omega
  | ⟨1, _⟩ => show win0_1.index t 1 * 1536 + 1 * n.val = n.val; rw [(idx t).2.1]; show 0 * 1536 + _ = _; omega

/-- The weight scales' block is the whole row at every point. -/
theorem iblk2 (c : Dev nD) (t : Fin cfg0.N) (n : Fin 1536) :
    (iblk m c 2 t : Vec Ideal S1x1536 .f32) (ix2 (0 : Fin 1) n) = (V m c main_v3 : Vec Ideal S1x1536 .f32) (ix2 (0 : Fin 1) n) := by
  unfold iblk
  rw [View.read_apply]
  show (V m c main_v3 : Vec Ideal S1x1536 .f32) _ = _
  refine congrArg (V m c main_v3 : Vec Ideal S1x1536 .f32) (funext fun a => Fin.ext ?_)
  match a with
  | ⟨0, _⟩ => show win0_2.index t 0 * 1 + 1 * 0 = 0; rw [(idx t).2.2.1]; rfl
  | ⟨1, _⟩ => show win0_2.index t 1 * 1536 + 1 * n.val = n.val; rw [(idx t).2.2.1]; show 0 * 1536 + _ = _; omega

/-- The scaled maximum of a group of a block is that of the group of the row. -/
theorem bmax_eq (c : Dev nD) (t : Fin cfg0.N) (r : Fin 256) (g : Fin 70) :
    bmax (iblk m c 0 t : Vec Ideal S64x144x256 .f32) r g = Spec.gmax (Y m c) ⟨256 * t.val + r.val, row_lt t r⟩ g := by
  unfold bmax Spec.gmax Spec.amax
  refine congrArg (· * _) (Finset.sup_congr rfl fun l _ => ?_)
  rw [iblk0]

/-- The code of a block is that of the row. -/
theorem code_eq (c : Dev nD) (t : Fin cfg0.N) (r : Fin 256) (k : Fin 8960) :
    code (iblk m c 0 t : Vec Ideal S64x144x256 .f32) r k = Spec.codes (Y m c) (ix2 ⟨256 * t.val + r.val, row_lt t r⟩ k) := by
  unfold code Spec.codes
  rw [iblk0, bmax_eq]

/-- The product. -/
abbrev out (c : Dev nD) : Vec Ideal S6144x1536 .bf16 := Spec.out (Y m c) (V m c main_arg1) (V m c main_v3)

/-- The codes. -/
abbrev codes (c : Dev nD) : Vec Ideal S6144x8960 .fp8e4m3 := Spec.codes (Y m c)

/-- The scales. -/
abbrev scales (c : Dev nD) : Vec Ideal S6144x70 .f32 := Spec.scales (Y m c)

/-- What point `t` writes back of the product is its 256 rows. -/
theorem flushed_eq3 (c : Dev nD) (t : Fin cfg0.N) (hf : (cfg0.win 3).flush t = true) :
    (dats m 0 c).flushed 3 t = ((cfg0.win 3).blk t).view.read (Elt Ideal) (out m c) := by
  rw [flushed3]
  refine funext fun (j : S256x1536.Idx) => ?_
  obtain ⟨r, n, rfl⟩ : ∃ (r : Fin 256) (n : Fin 1536), j = ix2 r n := ⟨j 0, j 1, by funext a; match a with | ⟨0, _⟩ => rfl | ⟨1, _⟩ => rfl⟩
  have h : ((cfg0.win 3).blk t).view.emb (ix2 r n : S256x1536.Idx) = (ix2 (⟨256 * t.val + r.val, row_lt t r⟩ : Fin 6144) n : S6144x1536.Idx) := by
    funext a
    apply Fin.ext
    match a with
    | ⟨0, _⟩ => show win0_3.index t 0 * 256 + 1 * r.val = 256 * t.val + r.val; rw [(idx t).2.2.2.1]; show t.val * 256 + _ = _; omega
    | ⟨1, _⟩ => show win0_3.index t 1 * 1536 + 1 * n.val = n.val; rw [(idx t).2.2.2.1]; show 0 * 1536 + _ = _; omega
  refine (outF_apply (iblk m c 0 t) (iblk m c 1 t) (iblk m c 2 t) r n).trans ?_
  rw [View.read_apply]
  rw [h]
  unfold out Spec.out
  exact congrArg₂ (· * ·) (Finset.sum_congr rfl fun k _ => congrArg₂ (· * ·) (congrArg₂ (· * ·) (code_eq m c t r k)
    (congrArg Spec.scale (bmax_eq m c t r (Spec.grp k)))) (iblk1 m c t k n)) (iblk2 m c t n)

/-- The 24 row blocks cover the array of the product. -/
theorem final3 (c : Dev nD) : (dats m 0 c).arrAt 3 cfg0.N = out m c :=
  (dats m 0 c).arrAt_eq_of_cover 3 (out m c) (flushed_eq3 m c) fun (i : S6144x1536.Idx) => by
    have hN : cfg0.N = 24 := N_0
    have h0 : (i 0 : Nat) < 6144 := (i 0).isLt
    have h1 : (i 1 : Nat) < 1536 := (i 1).isLt
    have ht : (i 0 : Nat) / 256 < cfg0.N := by omega
    refine ⟨⟨(i 0 : Nat) / 256, ht⟩, flush0_3 _, ?_⟩
    show i ∈ ((View.whole main_v4_0).slice (win0_3.rect ⟨(i 0 : Nat) / 256, ht⟩)).set
    rw [View.set_slice_whole, Rect.mem_set_unit]
    intro a
    match a with
    | ⟨0, _⟩ =>
      show win0_3.index ⟨(i 0 : Nat) / 256, ht⟩ 0 * 256 ≤ (i 0 : Nat) ∧ (i 0 : Nat) < win0_3.index ⟨(i 0 : Nat) / 256, ht⟩ 0 * 256 + 256
      rw [(idx _).2.2.2.1]
      show (i 0 : Nat) / 256 * 256 ≤ _ ∧ _ < (i 0 : Nat) / 256 * 256 + 256
      omega
    | ⟨1, _⟩ =>
      show win0_3.index ⟨(i 0 : Nat) / 256, ht⟩ 1 * 1536 ≤ (i 1 : Nat) ∧ (i 1 : Nat) < win0_3.index ⟨(i 0 : Nat) / 256, ht⟩ 1 * 1536 + 1536
      rw [(idx _).2.2.2.1]
      show 0 * 1536 ≤ _ ∧ _ < 0 * 1536 + 1536
      omega

/-- What point `t` writes back of the codes is its 256 rows. -/
theorem flushed_eq4 (c : Dev nD) (t : Fin cfg0.N) (hf : (cfg0.win 4).flush t = true) :
    (dats m 0 c).flushed 4 t = ((cfg0.win 4).blk t).view.read (Elt Ideal) (codes m c) := by
  rw [flushed4]
  refine funext fun (j : S256x8960.Idx) => ?_
  obtain ⟨r, n, rfl⟩ : ∃ (r : Fin 256) (n : Fin 8960), j = ix2 r n := ⟨j 0, j 1, by funext a; match a with | ⟨0, _⟩ => rfl | ⟨1, _⟩ => rfl⟩
  have h : ((cfg0.win 4).blk t).view.emb (ix2 r n : S256x8960.Idx) = (ix2 (⟨256 * t.val + r.val, row_lt t r⟩ : Fin 6144) n : S6144x8960.Idx) := by
    funext a
    apply Fin.ext
    match a with
    | ⟨0, _⟩ => show win0_4.index t 0 * 256 + 1 * r.val = 256 * t.val + r.val; rw [(idx t).2.2.2.2.1]; show t.val * 256 + _ = _; omega
    | ⟨1, _⟩ => show win0_4.index t 1 * 8960 + 1 * n.val = n.val; rw [(idx t).2.2.2.2.1]; show 0 * 8960 + _ = _; omega
  refine (codesF_apply (iblk m c 0 t) r n).trans ?_
  rw [View.read_apply]
  rw [h]
  exact code_eq m c t r n

/-- The 24 row blocks cover the array of the codes. -/
theorem final4 (c : Dev nD) : (dats m 0 c).arrAt 4 cfg0.N = codes m c :=
  (dats m 0 c).arrAt_eq_of_cover 4 (codes m c) (flushed_eq4 m c) fun (i : S6144x8960.Idx) => by
    have hN : cfg0.N = 24 := N_0
    have h0 : (i 0 : Nat) < 6144 := (i 0).isLt
    have h1 : (i 1 : Nat) < 8960 := (i 1).isLt
    have ht : (i 0 : Nat) / 256 < cfg0.N := by omega
    refine ⟨⟨(i 0 : Nat) / 256, ht⟩, flush0_4 _, ?_⟩
    show i ∈ ((View.whole main_v4_1).slice (win0_4.rect ⟨(i 0 : Nat) / 256, ht⟩)).set
    rw [View.set_slice_whole, Rect.mem_set_unit]
    intro a
    match a with
    | ⟨0, _⟩ =>
      show win0_4.index ⟨(i 0 : Nat) / 256, ht⟩ 0 * 256 ≤ (i 0 : Nat) ∧ (i 0 : Nat) < win0_4.index ⟨(i 0 : Nat) / 256, ht⟩ 0 * 256 + 256
      rw [(idx _).2.2.2.2.1]
      show (i 0 : Nat) / 256 * 256 ≤ _ ∧ _ < (i 0 : Nat) / 256 * 256 + 256
      omega
    | ⟨1, _⟩ =>
      show win0_4.index ⟨(i 0 : Nat) / 256, ht⟩ 1 * 8960 ≤ (i 1 : Nat) ∧ (i 1 : Nat) < win0_4.index ⟨(i 0 : Nat) / 256, ht⟩ 1 * 8960 + 8960
      rw [(idx _).2.2.2.2.1]
      show 0 * 8960 ≤ _ ∧ _ < 0 * 8960 + 8960
      omega

/-- What point `t` writes back of the scales is its 256 rows. -/
theorem flushed_eq5 (c : Dev nD) (t : Fin cfg0.N) (hf : (cfg0.win 5).flush t = true) :
    (dats m 0 c).flushed 5 t = ((cfg0.win 5).blk t).view.read (Elt Ideal) (scales m c) := by
  rw [flushed5]
  refine funext fun (j : S256x70.Idx) => ?_
  obtain ⟨r, n, rfl⟩ : ∃ (r : Fin 256) (n : Fin 70), j = ix2 r n := ⟨j 0, j 1, by funext a; match a with | ⟨0, _⟩ => rfl | ⟨1, _⟩ => rfl⟩
  have h : ((cfg0.win 5).blk t).view.emb (ix2 r n : S256x70.Idx) = (ix2 (⟨256 * t.val + r.val, row_lt t r⟩ : Fin 6144) n : S6144x70.Idx) := by
    funext a
    apply Fin.ext
    match a with
    | ⟨0, _⟩ => show win0_5.index t 0 * 256 + 1 * r.val = 256 * t.val + r.val; rw [(idx t).2.2.2.2.2]; show t.val * 256 + _ = _; omega
    | ⟨1, _⟩ => show win0_5.index t 1 * 70 + 1 * n.val = n.val; rw [(idx t).2.2.2.2.2]; show 0 * 70 + _ = _; omega
  refine (xsF_apply (iblk m c 0 t) r n).trans ?_
  rw [View.read_apply]
  rw [h]
  exact congrArg Spec.scale (bmax_eq m c t r n)

/-- The 24 row blocks cover the array of the scales. -/
theorem final5 (c : Dev nD) : (dats m 0 c).arrAt 5 cfg0.N = scales m c :=
  (dats m 0 c).arrAt_eq_of_cover 5 (scales m c) (flushed_eq5 m c) fun (i : S6144x70.Idx) => by
    have hN : cfg0.N = 24 := N_0
    have h0 : (i 0 : Nat) < 6144 := (i 0).isLt
    have h1 : (i 1 : Nat) < 70 := (i 1).isLt
    have ht : (i 0 : Nat) / 256 < cfg0.N := by omega
    refine ⟨⟨(i 0 : Nat) / 256, ht⟩, flush0_5 _, ?_⟩
    show i ∈ ((View.whole main_v4_2).slice (win0_5.rect ⟨(i 0 : Nat) / 256, ht⟩)).set
    rw [View.set_slice_whole, Rect.mem_set_unit]
    intro a
    match a with
    | ⟨0, _⟩ =>
      show win0_5.index ⟨(i 0 : Nat) / 256, ht⟩ 0 * 256 ≤ (i 0 : Nat) ∧ (i 0 : Nat) < win0_5.index ⟨(i 0 : Nat) / 256, ht⟩ 0 * 256 + 256
      rw [(idx _).2.2.2.2.2]
      show (i 0 : Nat) / 256 * 256 ≤ _ ∧ _ < (i 0 : Nat) / 256 * 256 + 256
      omega
    | ⟨1, _⟩ =>
      show win0_5.index ⟨(i 0 : Nat) / 256, ht⟩ 1 * 70 ≤ (i 1 : Nat) ∧ (i 1 : Nat) < win0_5.index ⟨(i 0 : Nat) / 256, ht⟩ 1 * 70 + 70
      rw [(idx _).2.2.2.2.2]
      show 0 * 70 ≤ _ ∧ _ < 0 * 70 + 70
      omega

/-- The run of the whole program: the result arrays end at the product, the codes and the scales; the arguments are
    unchanged. -/
theorem run : θ_run defs (onTc (τ := τ) (main (F := Ideal))) ⟨m, fun _ => 0, ρ⟩ fun r => ∀ c : Dev nD,
      r.2.mem ((c : Thread nD τ).loc main_v4_0) = out m c
      ∧ r.2.mem ((c : Thread nD τ).loc main_v4_1) = codes m c
      ∧ r.2.mem ((c : Thread nD τ).loc main_v4_2) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c), (h c).2.2.2⟩) (run_blocks m ρ)

end Cert.KernelIdeal.Array
end
-- ==== Proof.ReferenceIdeal.Host.lean ====
/-
  What the reference's host code hands over, over the reals: the activations as rows, each group's scale and reciprocal scale
  (`Spec.scale`, `Spec.inv` of the group's scaled maximum) and these repeated over the group's 128 columns.
-/
module

public import proofs.«01_k».proof.Proof.Gen.ReferenceIdeal.Value
public import proofs.«01_k».proof.Proof.Spec
public import Idealize.ShloMosaic.Lib.IdealHost
public import Idealize.ShloMosaic.Lib.Pointwise.Reduce
public import Idealize.ShloMosaic.Lib.KernelVsHost

@[expose] public section

noncomputable section

namespace Cert.ReferenceIdeal.Host

open Cert.ReferenceIdeal Cert.ReferenceIdeal.Gen Idealize.ShloMosaic.TcCoe Idealize.SL.Sem
open Idealize.ShloMosaic hiding ix1 ix2 ix3
open Idealize.ShloMosaic.ValueIdx
open Cert.Spec (p2)
open scoped BigOperators

/-! ## The host code as functions -/

/-- Each group's largest absolute value. -/
def amaxH (y : Vec Ideal S12x512x8960 .f32) : FVec Ideal S6144x70 .f32 :=
  Idealize.ShloMosaic.Host.reduce FloatOps.maximumf
    (Idealize.ShloMosaic.Host.absf (shapeCast S6144x70x128 y shapeCasts_S12x512x8960_S6144x70x128 : FVec Ideal S6144x70x128 .f32))
    (constant S_ .f32 0xFF800000#32 : FVec Ideal S_ .f32) reducesTo_S6144x70x128_S6144x70_d2 h_S_

/-- A constant at every group. -/
def cst (b : BitVec 32) : FVec Ideal S6144x70 .f32 := broadcastInDim S6144x70 ![] bcast_S_S6144x70 (constant S_ .f32 b : FVec Ideal S_ .f32)

/-- Each group's scaled maximum. -/
def gmaxH (y : Vec Ideal S12x512x8960 .f32) : FVec Ideal S6144x70 .f32 := mulf (amaxH y) (cst 0x3B124925#32)

/-- The powers `2 ^ -126 … 2 ^ 127`. -/
def powsH : FVec Ideal S254 .f32 :=
  Idealize.ShloMosaic.Host.powf (broadcastInDim S254 ![] bcast_S_S254 (constant S_ .f32 0x40000000#32 : FVec Ideal S_ .f32))
    (subf (sitofp .f32 (iotaInDim S254 32 0)) (broadcastInDim S254 ![] bcast_S_S254 (constant S_ .f32 0x42FC0000#32 : FVec Ideal S_ .f32)))

/-- Which powers are at most the scaled maximum. -/
def geH (v : FVec Ideal S6144x70 .f32) : FVec Ideal S6144x70x254 .f32 :=
  uitofp .f32 (cmpf .oge
    (broadcastInDim S6144x70x254 ![0, 1, 2] bcast_S6144x70x1_S6144x70x254_0_1_2 (broadcastInDim S6144x70x1 ![0, 1] bcast_S6144x70_S6144x70x1_0_1 v))
    (broadcastInDim S6144x70x254 ![0, 1, 2] bcast_S1x1x254_S6144x70x254_0_1_2 (broadcastInDim S1x1x254 ![2] bcast_S254_S1x1x254_2 powsH)))

/-- How many they are. -/
def countH (v : FVec Ideal S6144x70 .f32) : FVec Ideal S6144x70 .f32 :=
  Idealize.ShloMosaic.Host.reduceAdd (geH v) (constant S_ .f32 0x00000000#32 : FVec Ideal S_ .f32) reducesTo_S6144x70x254_S6144x70_d2 h_S_

/-- The exponent of the scale. -/
def expoH (v : FVec Ideal S6144x70 .f32) : FVec Ideal S6144x70 .f32 :=
  select (andi (cmpf .oge v (cst 0x00800000#32)) (cmpf .olt (mulf v (cst 0x3F000000#32)) (cst 0x7F000000#32)))
    (subf (countH v) (cst 0x42FC0000#32)) (cst 0x00000000#32)

/-- The scale. -/
def scaleH (v : FVec Ideal S6144x70 .f32) : FVec Ideal S6144x70 .f32 := Idealize.ShloMosaic.Host.powf (cst 0x40000000#32) (expoH v)

/-- The reciprocal of the scale. -/
def invH (v : FVec Ideal S6144x70 .f32) : FVec Ideal S6144x70 .f32 :=
  Idealize.ShloMosaic.Host.powf (cst 0x40000000#32) (Idealize.ShloMosaic.Host.negf (expoH v))

/-- One value per group repeated over the group's 128 columns. -/
def rep {α : Type} (v : S6144x70.Idx → α) : S6144x8960.Idx → α :=
  shapeCast S6144x8960 (broadcastInDim S6144x70x128 ![0, 1, 2] bcast_S6144x70x1_S6144x70x128_0_1_2
    (broadcastInDim S6144x70x1 ![0, 1] bcast_S6144x70_S6144x70x1_0_1 v)) shapeCasts_S6144x70x128_S6144x8960

/-! ## Their values -/

theorem ofBits_zero : Ideal.ofBits .f32 0x00000000#32 = 0 := by simp [Ideal.ofBits, Ideal.ieee]

theorem ofBits_bot : Ideal.ofBits .f32 0xFF800000#32 = ⊥ := by simp [Ideal.ofBits, Ideal.ieee]

theorem ofBits_two : Ideal.ofBits .f32 0x40000000#32 = 2 := by
  rw [Spec.ofBits_p2 _ 1 (by decide) (by decide) (by decide) (by decide) (by decide)]
  unfold p2
  rw [zpow_one]
  rfl

theorem ofBits_126 : Ideal.ofBits .f32 0x42FC0000#32 = ((126 : ℝ) : EReal) := by
  simp [Ideal.ofBits, Ideal.ieee]
  rw [← EReal.coe_mul]
  norm_num

theorem cst_apply (b : BitVec 32) (i : S6144x70.Idx) : cst b i = Ideal.ofBits .f32 b := rfl

theorem mulc_apply (a : FVec Ideal S6144x70 .f32) (b : BitVec 32) (i : S6144x70.Idx) : mulf a (cst b) i = a i * Ideal.ofBits .f32 b := rfl

theorem pow_apply (a : FVec Ideal S6144x70 .f32) (i : S6144x70.Idx) :
    Idealize.ShloMosaic.Host.powf (cst 0x40000000#32) a i = Ideal.pow (Ideal.ofBits .f32 0x40000000#32) (a i) := rfl

theorem neg_apply (a : FVec Ideal S6144x70 .f32) (i : S6144x70.Idx) : Idealize.ShloMosaic.Host.negf a i = -(a i) := rfl

theorem select_apply (a b : FVec Ideal S6144x70 .f32) (i : S6144x70.Idx) :
    select (andi (cmpf .oge a (cst 0x00800000#32)) (cmpf .olt (mulf a (cst 0x3F000000#32)) (cst 0x7F000000#32)))
      (subf b (cst 0x42FC0000#32)) (cst 0x00000000#32) i
    = Scalar.select (IntOp.andi (BitVec.ofBool (decide (Ideal.ofBits .f32 0x00800000#32 ≤ a i)))
        (BitVec.ofBool (decide (a i * Ideal.ofBits .f32 0x3F000000#32 < Ideal.ofBits .f32 0x7F000000#32))))
        (b i - Ideal.ofBits .f32 0x42FC0000#32) (Ideal.ofBits .f32 0x00000000#32) := rfl

theorem ge_apply (a b : FVec Ideal S6144x70x254 .f32) (i : S6144x70x254.Idx) :
    (uitofp .f32 (cmpf .oge a b) : FVec Ideal S6144x70x254 .f32) i = (((BitVec.ofBool (decide (b i ≤ a i))).toNat : ℝ) : EReal) := rfl

theorem rep_apply {α : Type} (v : S6144x70.Idx → α) (r : Fin 6144) (k : Fin 8960) : rep v (ix2 r k) = v (ix2 r (Spec.grp k)) := by
  have hr := r.2
  have hk := k.2
  unfold rep
  rw [shapeCast_apply _ _ (ix2 r k) (ix3 r (Spec.grp k) (⟨k.val % 128, by omega⟩ : Fin 128)) (by
      refine (Shape.rowMajor_val_three (d := ![6144, 70, 128]) _).trans (Eq.trans ?_ (Shape.rowMajor_val_two (d := ![6144, 8960]) _).symm)
      show (r.val * 70 + k.val / 128) * 128 + k.val % 128 = r.val * 8960 + k.val
      omega),
    broadcastInDim_apply _ _ _ _ (ix3 r (Spec.grp k) (0 : Fin 1)) (fun a => by match a with | ⟨0, _⟩ => rfl | ⟨1, _⟩ => rfl | ⟨2, _⟩ => rfl),
    broadcastInDim_apply _ _ _ _ (ix2 r (Spec.grp k)) (fun a => by match a with | ⟨0, _⟩ => rfl | ⟨1, _⟩ => rfl)]

theorem amaxH_apply (y : Vec Ideal S12x512x8960 .f32) (r : Fin 6144) (g : Fin 70) : amaxH y (ix2 r g) = Spec.amax (Spec.rows y) r g := by
  have hr := r.2
  have hg := g.2
  unfold amaxH
  rw [Idealize.ShloMosaic.Host.reduce_eq_fold, Shape.ReducesTo.fold_fiber_r3_a2]
  unfold Spec.amax
  show Finset.fold max (Ideal.ofBits .f32 0xFF800000#32) _ _ = _
  rw [ofBits_bot]
  show Finset.univ.sup _ = _
  refine Finset.sup_congr rfl fun l _ => ?_
  have hl := l.2
  show Spec.absE (shapeCast S6144x70x128 y shapeCasts_S12x512x8960_S6144x70x128 _) = _
  refine congrArg Spec.absE ?_
  refine shapeCast_apply _ _ _ _ ?_
  refine (Shape.rowMajor_val_three (d := ![12, 512, 8960]) _).trans (Eq.trans ?_ (Shape.rowMajor_val_three (d := ![6144, 70, 128]) _).symm)
  show (r.val / 512 * 512 + r.val % 512) * 8960 + (128 * g.val + l.val) = (r.val * 70 + g.val) * 128 + l.val
  omega

theorem gmaxH_apply (y : Vec Ideal S12x512x8960 .f32) (r : Fin 6144) (g : Fin 70) : gmaxH y (ix2 r g) = Spec.gmax (Spec.rows y) r g := by
  unfold gmaxH Spec.gmax
  rw [mulc_apply, amaxH_apply]

theorem powsH_apply (j : Fin 254) : powsH (ix1 j) = p2 ((j.val : ℤ) - 126) := by
  have hj := j.2
  show Ideal.pow (Ideal.ofBits .f32 0x40000000#32) ((((BitVec.ofNat 32 j.val).toInt : ℝ) : EReal) - Ideal.ofBits .f32 0x42FC0000#32) = _
  have e : (BitVec.ofNat 32 j.val).toInt = (j.val : ℤ) := (by decide +kernel : ∀ j : Fin 254, (BitVec.ofNat 32 j.val).toInt = (j.val : ℤ)) j
  rw [ofBits_two, ofBits_126, e, ← EReal.coe_sub, ← Spec.pow_two]
  push_cast
  rfl

theorem geH_apply (v : FVec Ideal S6144x70 .f32) (r : Fin 6144) (g : Fin 70) (j : Fin 254) :
    geH v (ix3 r g j) = if p2 ((j.val : ℤ) - 126) ≤ v (ix2 r g) then (1 : EReal) else 0 := by
  unfold geH
  rw [ge_apply]
  rw [broadcastInDim_apply _ _ _ _ (ix3 r g (0 : Fin 1)) (fun a => by match a with | ⟨0, _⟩ => rfl | ⟨1, _⟩ => rfl | ⟨2, _⟩ => rfl),
    broadcastInDim_apply _ _ v _ (ix2 r g) (fun a => by match a with | ⟨0, _⟩ => rfl | ⟨1, _⟩ => rfl),
    broadcastInDim_apply _ _ _ (ix3 r g j) (ix3 (0 : Fin 1) (0 : Fin 1) j) (fun a => by match a with | ⟨0, _⟩ => rfl | ⟨1, _⟩ => rfl | ⟨2, _⟩ => rfl),
    broadcastInDim_apply _ _ powsH _ (ix1 j) (fun a => by match a with | ⟨0, _⟩ => rfl), powsH_apply]
  by_cases h : p2 ((j.val : ℤ) - 126) ≤ v (ix2 r g) <;> simp [h]

theorem countH_apply (v : FVec Ideal S6144x70 .f32) (r : Fin 6144) (g : Fin 70) :
    countH v (ix2 r g) = ∑ j : Fin 254, if p2 ((j.val : ℤ) - 126) ≤ v (ix2 r g) then (1 : EReal) else 0 := by
  unfold countH
  refine (Ideal.hostReduceAdd_r3_a2 reducesTo_S6144x70x254_S6144x70_d2 (geH v) (Ideal.ofBits .f32 0x00000000#32) (ix2 r g)).trans ?_
  rw [ofBits_zero, zero_add]
  exact Finset.sum_congr rfl fun j _ => geH_apply v r g j

theorem expoH_apply (v : FVec Ideal S6144x70 .f32) (r : Fin 6144) (g : Fin 70) : expoH v (ix2 r g) = Spec.expo (v (ix2 r g)) := by
  have e0 : Ideal.ofBits .f32 0x00800000#32 = p2 (-126) := Spec.ofBits_p2 _ _ (by decide) (by decide) (by decide) (by decide) (by decide)
  have e1 : Ideal.ofBits .f32 0x3F000000#32 = p2 (-1) := Spec.ofBits_p2 _ _ (by decide) (by decide) (by decide) (by decide) (by decide)
  have e2 : Ideal.ofBits .f32 0x7F000000#32 = p2 127 := Spec.ofBits_p2 _ _ (by decide) (by decide) (by decide) (by decide) (by decide)
  unfold expoH Spec.expo
  rw [select_apply, e0, e1, e2, ofBits_126, ofBits_zero, countH_apply]
  unfold IntOp.andi Scalar.select
  by_cases h : p2 (-126) ≤ v (ix2 r g) <;> by_cases h' : v (ix2 r g) * p2 (-1) < p2 127 <;> simp [h, h']

theorem scaleH_apply (v : FVec Ideal S6144x70 .f32) (r : Fin 6144) (g : Fin 70) : scaleH v (ix2 r g) = Spec.scale (v (ix2 r g)) := by
  unfold scaleH Spec.scale
  rw [pow_apply, ofBits_two, expoH_apply]

theorem invH_apply (v : FVec Ideal S6144x70 .f32) (r : Fin 6144) (g : Fin 70) : invH v (ix2 r g) = Spec.inv (v (ix2 r g)) := by
  unfold invH Spec.inv
  rw [pow_apply, neg_apply, ofBits_two, expoH_apply]

end Cert.ReferenceIdeal.Host
end
-- ==== Proof.ReferenceIdeal.Entry.lean ====
/-
  The buffers that the reference's call finds, as the host code's functions (`Host.lean`) of the arguments.
-/
module

public import proofs.«01_k».proof.Proof.ReferenceIdeal.Host

@[expose] public section

noncomputable section

namespace Cert.ReferenceIdeal.Host

open Cert.ReferenceIdeal Cert.ReferenceIdeal.Gen Idealize.ShloMosaic.TcCoe Idealize.SL.Sem
open Idealize.ShloMosaic hiding ix1 ix2 ix3
open Idealize.ShloMosaic.ValueIdx
open Cert.Spec (p2)
open scoped BigOperators

/-! ## The buffers that the call finds -/

variable (m : (ℓ : Loc nD τ sig) → Buf (Elt Ideal) ℓ)

/-- The activations as launched. -/
abbrev y (c : Dev nD) : Vec Ideal S12x512x8960 .f32 := m ((c : Thread nD τ).loc main_arg0)

theorem V_scales (c : Dev nD) : (V m c main_v28 : FVec Ideal S6144x70 .f32) = scaleH (gmaxH (y m c)) := by
  simp only [V, hostOps0, hostOps0_1, hostOps0_2, List.flatten_cons, List.flatten_nil, List.append_nil, List.cons_append, List.nil_append]
  after_results
  rfl

theorem V_rows (c : Dev nD) : (V m c main_v32 : FVec Ideal S6144x8960 .f32) = shapeCast S6144x8960 (y m c) shapeCasts_S12x512x8960_S6144x8960 := by
  simp only [V, hostOps0, hostOps0_1, hostOps0_2, List.flatten_cons, List.flatten_nil, List.append_nil, List.cons_append, List.nil_append]
  after_results
  rfl

theorem V_inv (c : Dev nD) : (V m c main_v35 : FVec Ideal S6144x8960 .f32) = rep (invH (gmaxH (y m c))) := by
  simp only [V, hostOps0, hostOps0_1, hostOps0_2, List.flatten_cons, List.flatten_nil, List.append_nil, List.cons_append, List.nil_append]
  after_results
  rfl

theorem V_scale_cols (c : Dev nD) : (V m c main_v39 : FVec Ideal S6144x8960 .bf16) = rep (truncf .bf16 (scaleH (gmaxH (y m c))) bitsLt_bf16_f32) := by
  simp only [V, hostOps0, hostOps0_1, hostOps0_2, List.flatten_cons, List.flatten_nil, List.append_nil, List.cons_append, List.nil_append]
  after_results
  rfl

/-- What the host code hands over as the weight scales: the argument as one row. -/
theorem V_wscales (c : Dev nD) : (V m c main_v40 : Vec Ideal S1x1536 .f32)
    = shapeCast S1x1536 (m ((c : Thread nD τ).loc main_arg2) : Vec Ideal S1536 .f32) shapeCasts_S1536_S1x1536 := by
  simp only [V, hostOps0, hostOps0_1, hostOps0_2, List.flatten_cons, List.flatten_nil, List.append_nil, List.cons_append, List.nil_append]
  after_results
  rfl

end Cert.ReferenceIdeal.Host
end
-- ==== Proof.ReferenceIdeal.Array.lean ====
/-
  The three results of the reference over the reals: `Spec.out`, `Spec.codes` and `Spec.scales` of the activations as rows. The
  call has one point, which writes the whole product and the whole codes; the scales are the host code's.
-/
module

public import proofs.«01_k».proof.Proof.ReferenceIdeal.Entry
public import Idealize.ShloMosaic.Lib.MatmulPlain

@[expose] public section

noncomputable section

namespace Cert.ReferenceIdeal.Array

open Cert.ReferenceIdeal Cert.ReferenceIdeal.Gen Cert.ReferenceIdeal.Value Cert.ReferenceIdeal.Host Idealize.ShloMosaic.TcCoe Idealize.SL.Sem
open Idealize.ShloMosaic hiding ix1 ix2 ix3
open Idealize.ShloMosaic.ValueIdx
open scoped BigOperators

variable (m : (ℓ : Loc nD τ sig) → Buf (Elt Ideal) ℓ) (ρ : Dev nD → PrngReg)

theorem hz : (![0, 0] : Fin 2 → ℕ) = fun _ => 0 := by funext a; match a with | ⟨0, _⟩ => rfl | ⟨1, _⟩ => rfl

/-- The codes that the body stores, over the reals. -/
theorem pay_codes (x0 x1 : Vec Ideal S6144x8960 .f32) (i : S6144x8960.Idx) : k0_pay1 x0 x1 i = Spec.clip (x0 i * x1 i) := by
  unfold k0_pay1
  simp only [shapeCast_self]
  rfl

/-- The body's store of the codes. -/
theorem out6_eq (x0 x1 : Vec Ideal S6144x8960 .f32) (x2 : Vec Ideal S6144x8960 .bf16) (x3 : Vec Ideal S8960x1536 .fp8e4m3)
    (x4 : Vec Ideal S1x1536 .f32) : out0_6 x0 x1 x2 x3 x4 = fun i => Spec.clip (x0 i * x1 i) := by
  unfold out0_6 r0_0
  rw [View.canon_unit_zero (S := S6144x8960) hz, View.ld_unit_zero (S := S6144x8960) hz, View.ld_unit_zero (S := S6144x8960) hz]
  exact funext fun i => pay_codes x0 x1 i

/-- The body's store of the product. -/
theorem out5_eq (x0 x1 : Vec Ideal S6144x8960 .f32) (x2 : Vec Ideal S6144x8960 .bf16) (x3 : Vec Ideal S8960x1536 .fp8e4m3)
    (x4 : Vec Ideal S1x1536 .f32) : out0_5 x0 x1 x2 x3 x4 = fun i =>
      (∑ k : Fin 8960, ((Spec.clip (x0 (ix2 (i 0) k) * x1 (ix2 (i 0) k)) : EReal) * x2 (ix2 (i 0) k)) * x3 (ix2 k (i 1))) * x4 (ix2 (0 : Fin 1) (i 1)) := by
  unfold out0_5 r0_0 r0_1 r0_2 r0_3
  rw [View.canon_unit_zero (S := S6144x1536) hz, View.ld_unit_zero (S := S6144x8960) hz, View.ld_unit_zero (S := S6144x8960) hz,
    View.ld_unit_zero (S := S6144x8960) hz, View.ld_unit_zero (S := S8960x1536) hz, View.ld_unit_zero (S := S1x1536) hz]
  funext i
  obtain ⟨r, n, rfl⟩ : ∃ (r : Fin 6144) (n : Fin 1536), i = ix2 r n := ⟨i 0, i 1, by funext a; match a with | ⟨0, _⟩ => rfl | ⟨1, _⟩ => rfl⟩
  unfold k0_pay2
  simp only [shapeCast_self]
  unfold truncf mulf matmul
  rw [show dot_S6144x8960_S8960x1536_S6144x1536_1_0_0_1_n_n = DotDims.plain 6144 8960 1536 from rfl, Ideal.matmul_plain_apply]
  simp only [constant, Scalar.ofBits, Ideal.ofBits_def, ofBits_zero, zero_add, extf, Ideal.mulf_def, Ideal.extf_def, Ideal.truncf_def, pay_codes]
  refine congrArg₂ (· * ·) rfl ?_
  exact broadcastTo_apply x4 _ _ (ix2 (0 : Fin 1) n) (fun a => by match a with | ⟨0, _⟩ => rfl | ⟨1, _⟩ => rfl)

theorem idx (t : Fin cfg0.N) : win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]) t

theorem zero_off (f g : Fin 2 → ℕ) (h : f = ![0, 0]) : (fun a => f a * g a) = fun _ => 0 := by
  subst h
  funext a
  match a with
  | ⟨0, _⟩ => exact Nat.zero_mul _
  | ⟨1, _⟩ => exact Nat.zero_mul _

theorem iblk0 (c : Dev nD) (t : Fin cfg0.N) : (iblk m c 0 t : Vec Ideal S6144x8960 .f32) = V m c main_v32 := by
  unfold iblk
  exact Memref.read_access_unit_zero (Elt Ideal) main_v32 (zero_off (win0_0.index t) _ (idx t).1) _ _

theorem iblk1 (c : Dev nD) (t : Fin cfg0.N) : (iblk m c 1 t : Vec Ideal S6144x8960 .f32) = V m c main_v35 := by
  unfold iblk
  exact Memref.read_access_unit_zero (Elt Ideal) main_v35 (zero_off (win0_1.index t) _ (idx t).2.1) _ _

theorem iblk2 (c : Dev nD) (t : Fin cfg0.N) : (iblk m c 2 t : Vec Ideal S6144x8960 .bf16) = V m c main_v39 := by
  unfold iblk
  exact Memref.read_access_unit_zero (Elt Ideal) main_v39 (zero_off (win0_2.index t) _ (idx t).2.2.1) _ _

theorem iblk3 (c : Dev nD) (t : Fin cfg0.N) : (iblk m c 3 t : Vec Ideal S8960x1536 .fp8e4m3) = V m c main_arg1 := by
  unfold iblk
  exact Memref.read_access_unit_zero (Elt Ideal) main_arg1 (zero_off (win0_3.index t) _ (idx t).2.2.2.1) _ _

theorem iblk4 (c : Dev nD) (t : Fin cfg0.N) : (iblk m c 4 t : Vec Ideal S1x1536 .f32) = V m c main_v40 := by
  unfold iblk
  exact Memref.read_access_unit_zero (Elt Ideal) main_v40 (zero_off (win0_4.index t) _ (idx t).2.2.2.2.1) _ _

/-- The activations as rows. -/
abbrev Y (c : Dev nD) : Vec Ideal S6144x8960 .f32 := Spec.rows (y m c)

theorem rows_apply (c : Dev nD) (r : Fin 6144) (k : Fin 8960) : (V m c main_v32 : FVec Ideal S6144x8960 .f32) (ix2 r k) = Y m c (ix2 r k) := by
  have hr := r.2
  have hk := k.2
  rw [V_rows]
  refine shapeCast_apply _ _ _ _ ?_
  refine (Shape.rowMajor_val_three (d := ![12, 512, 8960]) _).trans (Eq.trans ?_ (Shape.rowMajor_val_two (d := ![6144, 8960]) _).symm)
  show (r.val / 512 * 512 + r.val % 512) * 8960 + k.val = r.val * 8960 + k.val
  omega

theorem inv_apply (c : Dev nD) (r : Fin 6144) (k : Fin 8960) :
    (V m c main_v35 : FVec Ideal S6144x8960 .f32) (ix2 r k) = Spec.inv (Spec.gmax (Y m c) r (Spec.grp k)) := by
  rw [V_inv, rep_apply, invH_apply, gmaxH_apply]

theorem trunc_apply (v : FVec Ideal S6144x70 .f32) (i : S6144x70.Idx) : (truncf .bf16 v bitsLt_bf16_f32 : FVec Ideal S6144x70 .bf16) i = v i := rfl

theorem scale_cols_apply (c : Dev nD) (r : Fin 6144) (k : Fin 8960) :
    (V m c main_v39 : FVec Ideal S6144x8960 .bf16) (ix2 r k) = Spec.scale (Spec.gmax (Y m c) r (Spec.grp k)) := by
  rw [V_scale_cols, rep_apply, trunc_apply, scaleH_apply, gmaxH_apply]

/-- The product. -/
abbrev out (c : Dev nD) : Vec Ideal S6144x1536 .bf16 := Spec.out (Y m c) (V m c main_arg1) (V m c main_v40)

/-- The codes. -/
abbrev codes (c : Dev nD) : Vec Ideal S6144x8960 .fp8e4m3 := Spec.codes (Y m c)

/-- The scales. -/
abbrev scales (c : Dev nD) : Vec Ideal S6144x70 .f32 := Spec.scales (Y m c)

/-- From the rows of `Y` and the reciprocal scales of their groups the body's codes are the codes of `Y`. -/
theorem codes_of (Y x0 x1 : Vec Ideal S6144x8960 .f32) (x2 : Vec Ideal S6144x8960 .bf16) (x3 : Vec Ideal S8960x1536 .fp8e4m3) (x4 : Vec Ideal S1x1536 .f32)
    (h0 : ∀ r k, x0 (ix2 r k) = Y (ix2 r k)) (h1 : ∀ r k, x1 (ix2 r k) = Spec.inv (Spec.gmax Y r (Spec.grp k))) :
    out0_6 x0 x1 x2 x3 x4 = Spec.codes Y := by
  rw [out6_eq]
  funext i
  obtain ⟨r, k, rfl⟩ : ∃ (r : Fin 6144) (k : Fin 8960), i = ix2 r k := ⟨i 0, i 1, by funext a; match a with | ⟨0, _⟩ => rfl | ⟨1, _⟩ => rfl⟩
  exact congrArg Spec.clip (congrArg₂ (· * ·) (h0 r k) (h1 r k))

/-- With the scales of the groups besides, the body's product is that of `Y`. -/
theorem out_of (Y x0 x1 : Vec Ideal S6144x8960 .f32) (x2 : Vec Ideal S6144x8960 .bf16) (x3 : Vec Ideal S8960x1536 .fp8e4m3) (x4 : Vec Ideal S1x1536 .f32)
    (h0 : ∀ r k, x0 (ix2 r k) = Y (ix2 r k)) (h1 : ∀ r k, x1 (ix2 r k) = Spec.inv (Spec.gmax Y r (Spec.grp k)))
    (h2 : ∀ r k, x2 (ix2 r k) = Spec.scale (Spec.gmax Y r (Spec.grp k))) :
    out0_5 x0 x1 x2 x3 x4 = Spec.out Y x3 x4 := by
  rw [out5_eq]
  funext i
  unfold Spec.out
  refine congrArg₂ (fun a b : EReal => a * b) (Finset.sum_congr rfl fun k _ => ?_) rfl
  refine congrArg₂ (fun a b : EReal => a * b) (congrArg₂ (fun a b : EReal => a * b) ?_ (h2 (i 0) k)) rfl
  exact congrArg Spec.clip (congrArg₂ (fun a b : EReal => a * b) (h0 (i 0) k) (h1 (i 0) k))

/-- The body's codes are the codes of the activations. -/
theorem codes_eq (c : Dev nD) :
    out0_6 (V m c main_v32) (V m c main_v35) (V m c main_v39) (V m c main_arg1) (V m c main_v40) = codes m c :=
  codes_of (Y m c) (V m c main_v32) (V m c main_v35) (V m c main_v39) (V m c main_arg1) (V m c main_v40) (rows_apply m c) (inv_apply m c)

/-- The body's product is that of the codes and the scales. -/
theorem out_eq (c : Dev nD) :
    out0_5 (V m c main_v32) (V m c main_v35) (V m c main_v39) (V m c main_arg1) (V m c main_v40) = out m c :=
  out_of (Y m c) (V m c main_v32) (V m c main_v35) (V m c main_v39) (V m c main_arg1) (V m c main_v40) (rows_apply m c) (inv_apply m c) (scale_cols_apply m c)

/-- The scales that the host code leaves. -/
theorem scales_eq (c : Dev nD) : (V m c main_v28 : FVec Ideal S6144x70 .f32) = scales m c := by
  funext i
  obtain ⟨r, g, rfl⟩ : ∃ (r : Fin 6144) (g : Fin 70), i = ix2 r g := ⟨i 0, i 1, by funext a; match a with | ⟨0, _⟩ => rfl | ⟨1, _⟩ => rfl⟩
  rw [V_scales, scaleH_apply, gmaxH_apply]
  rfl

/-- The one point writes the whole array of the product. -/
theorem flushed_eq5 (c : Dev nD) (t : Fin cfg0.N) (hf : (cfg0.win 5).flush t = true) :
    (dats m 0 c).flushed 5 t = ((cfg0.win 5).blk t).view.read (Elt Ideal) (out m c) := by
  rw [flushed5, iblk0, iblk1, iblk2, iblk3, iblk4, out_eq]
  exact (Memref.read_access_unit_zero (Elt Ideal) main_v41_0 (zero_off (win0_5.index t) _ (idx t).2.2.2.2.2.1) _ (out m c)).symm

/-- So the array of the product ends at it. -/
theorem final5 (c : Dev nD) : (dats m 0 c).arrAt 5 cfg0.N = out m c :=
  (dats m 0 c).arrAt_eq_of_cover 5 (out m c) (flushed_eq5 m c) fun (i : S6144x1536.Idx) => by
    have hN : cfg0.N = 1 := N_0
    have h0 : (i 0 : Nat) < 6144 := (i 0).isLt
    have h1 : (i 1 : Nat) < 1536 := (i 1).isLt
    have ht : 0 < cfg0.N := by omega
    refine ⟨⟨0, ht⟩, flush0_5 _, ?_⟩
    show i ∈ ((View.whole main_v41_0).slice (win0_5.rect ⟨0, ht⟩)).set
    rw [View.set_slice_whole, Rect.mem_set_unit]
    intro a
    match a with
    | ⟨0, _⟩ =>
      show win0_5.index ⟨0, ht⟩ 0 * 6144 ≤ (i 0 : Nat) ∧ (i 0 : Nat) < win0_5.index ⟨0, ht⟩ 0 * 6144 + 6144
      rw [(idx _).2.2.2.2.2.1]
      show 0 * 6144 ≤ _ ∧ _ < 0 * 6144 + 6144
      omega
    | ⟨1, _⟩ =>
      show win0_5.index ⟨0, ht⟩ 1 * 1536 ≤ (i 1 : Nat) ∧ (i 1 : Nat) < win0_5.index ⟨0, ht⟩ 1 * 1536 + 1536
      rw [(idx _).2.2.2.2.2.1]
      show 0 * 1536 ≤ _ ∧ _ < 0 * 1536 + 1536
      omega

/-- The one point writes the whole array of the codes. -/
theorem flushed_eq6 (c : Dev nD) (t : Fin cfg0.N) (hf : (cfg0.win 6).flush t = true) :
    (dats m 0 c).flushed 6 t = ((cfg0.win 6).blk t).view.read (Elt Ideal) (codes m c) := by
  rw [flushed6, iblk0, iblk1, iblk2, iblk3, iblk4, codes_eq]
  exact (Memref.read_access_unit_zero (Elt Ideal) main_v41_1 (zero_off (win0_6.index t) _ (idx t).2.2.2.2.2.2) _ (codes m c)).symm

/-- So the array of the codes ends at it. -/
theorem final6 (c : Dev nD) : (dats m 0 c).arrAt 6 cfg0.N = codes m c :=
  (dats m 0 c).arrAt_eq_of_cover 6 (codes m c) (flushed_eq6 m c) fun (i : S6144x8960.Idx) => by
    have hN : cfg0.N = 1 := N_0
    have h0 : (i 0 : Nat) < 6144 := (i 0).isLt
    have h1 : (i 1 : Nat) < 8960 := (i 1).isLt
    have ht : 0 < cfg0.N := by omega
    refine ⟨⟨0, ht⟩, flush0_6 _, ?_⟩
    show i ∈ ((View.whole main_v41_1).slice (win0_6.rect ⟨0, ht⟩)).set
    rw [View.set_slice_whole, Rect.mem_set_unit]
    intro a
    match a with
    | ⟨0, _⟩ =>
      show win0_6.index ⟨0, ht⟩ 0 * 6144 ≤ (i 0 : Nat) ∧ (i 0 : Nat) < win0_6.index ⟨0, ht⟩ 0 * 6144 + 6144
      rw [(idx _).2.2.2.2.2.2]
      show 0 * 6144 ≤ _ ∧ _ < 0 * 6144 + 6144
      omega
    | ⟨1, _⟩ =>
      show win0_6.index ⟨0, ht⟩ 1 * 8960 ≤ (i 1 : Nat) ∧ (i 1 : Nat) < win0_6.index ⟨0, ht⟩ 1 * 8960 + 8960
      rw [(idx _).2.2.2.2.2.2]
      show 0 * 8960 ≤ _ ∧ _ < 0 * 8960 + 8960
      omega

/-- The run of the whole program: the results end at the product, the codes and the scales; the arguments are unchanged. -/
theorem run : θ_run defs (onTc (τ := τ) (main (F := Ideal))) ⟨m, fun _ => 0, ρ⟩ fun r => ∀ c : Dev nD,
      r.2.mem ((c : Thread nD τ).loc main_v41_0) = out m c
      ∧ r.2.mem ((c : Thread nD τ).loc main_v41_1) = codes m c
      ∧ r.2.mem ((c : Thread nD τ).loc main_v28) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post5 m r h c).trans (final5 m c), (post6 m r h c).trans (final6 m c),
      ((h c).2 main_v28 (Pipeline.mem_restRefs_of main_v28 (by decide) (by decide))).trans (scales_eq m c),
      kept_main_arg0 m r h c, kept_main_arg1 m r h c, kept_main_arg2 m r h c⟩) (run_main m ρ)

end Cert.ReferenceIdeal.Array
end
-- ==== Proof.lean ====
/-
  The proof of the claim. Kernel and reference both leave `Spec.out`, `Spec.codes` and `Spec.scales` of the activations as rows
  (`KernelIdeal/Array.lean`, `ReferenceIdeal/Array.lean`), so from equal arguments the three results are equal.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelIdeal.Array
public import proofs.«01_k».proof.Proof.ReferenceIdeal.Array
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From memories that agree on the activations, the rows are one. -/
theorem rows_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Array.Y m' c = Cert.KernelIdeal.Array.Y m c := congrArg Cert.Spec.rows h0

/-- From memories that agree on the arguments, the two products are one. -/
theorem out_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Array.out m' c = Cert.KernelIdeal.Array.out m c := by
  have e1 := (Cert.ReferenceIdeal.Gen.V_main_arg1 m' c).trans (h1.trans (Cert.KernelIdeal.Gen.V_main_arg1 m c).symm)
  have e2 := (Cert.ReferenceIdeal.Host.V_wscales m' c).trans ((congrArg (fun x => shapeCast _ x _) h2).trans (Cert.KernelIdeal.Array.V_wscales m c).symm)
  show Cert.Spec.out _ _ _ = Cert.Spec.out _ _ _
  rw [rows_eq m m' c h0, e1, e2]

/-- Over the reals the kernel and the reference have equal results. -/
theorem algebraic : algebraic_KernelIdeal_ReferenceIdeal (hKernelIdeal := Cert.KernelIdeal.Gen.facts) (hReferenceIdeal := Cert.ReferenceIdeal.Gen.facts) :=
  fun m g m' g' _ hagree => ⟨fun c => Cert.KernelIdeal.Array.out m c, fun c => Cert.KernelIdeal.Array.codes m c,
    fun c => Cert.KernelIdeal.Array.scales m c, Cert.KernelIdeal.Array.run m g,
    (θ_run _ _ _).mono (fun r h c => ⟨(h c).1.trans (out_eq m m' c (hagree c).1 (hagree c).2.1 (hagree c).2.2),
        (h c).2.1.trans (congrArg Cert.Spec.codes (rows_eq m m' c (hagree c).1)),
        (h c).2.2.1.trans (congrArg Cert.Spec.scales (rows_eq m m' c (hagree c).1)), (h c).2.2.2⟩)
      (Cert.ReferenceIdeal.Array.run m' g')⟩

/-- The five claims: the two kernels and the reference run to the end and leave their arguments alone, the kernel over
    the reals is the kernel, and it computes the reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
